-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S16x8x128x16x16 : Shape := ⟨5, ![16, 8, 128, 16, 16]⟩
abbrev S1x2x7x7 : Shape := ⟨4, ![1, 2, 7, 7]⟩
abbrev S1 : Shape := ⟨1, ![1]⟩
abbrev S16x8x128x256 : Shape := ⟨4, ![16, 8, 128, 256]⟩
abbrev S16x16 : Shape := ⟨2, ![16, 16]⟩
abbrev S_ : Shape := ⟨0, ![]⟩
abbrev S1x16x16 : Shape := ⟨3, ![1, 16, 16]⟩
abbrev S7x16x16 : Shape := ⟨3, ![7, 16, 16]⟩
abbrev S1x1x7x7 : Shape := ⟨4, ![1, 1, 7, 7]⟩
abbrev S7x7 : Shape := ⟨2, ![7, 7]⟩
abbrev S16x16x16x16 : Shape := ⟨4, ![16, 16, 16, 16]⟩
abbrev S256x256 : Shape := ⟨2, ![256, 256]⟩
abbrev S512x256 : Shape := ⟨2, ![512, 256]⟩
abbrev S1x1 : Shape := ⟨2, ![1, 1]⟩
abbrev S16x128x256 : Shape := ⟨3, ![16, 128, 256]⟩
abbrev S8x8x128x256 : Shape := ⟨4, ![8, 8, 128, 256]⟩
abbrev S8x128x256 : Shape := ⟨3, ![8, 128, 256]⟩
abbrev S8x16x128x256 : Shape := ⟨4, ![8, 16, 128, 256]⟩
abbrev S8x16x16 : Shape := ⟨3, ![8, 16, 16]⟩
abbrev S1x16 : Shape := ⟨2, ![1, 16]⟩
abbrev S8x1x128x256 : Shape := ⟨4, ![8, 1, 128, 256]⟩
abbrev S8x8 : Shape := ⟨2, ![8, 8]⟩
abbrev S8x1x8 : Shape := ⟨3, ![8, 1, 8]⟩
abbrev S8x8x8 : Shape := ⟨3, ![8, 8, 8]⟩
abbrev S8x8x1 : Shape := ⟨3, ![8, 8, 1]⟩
abbrev S8x8x16 : Shape := ⟨3, ![8, 8, 16]⟩
abbrev S8x16 : Shape := ⟨2, ![8, 16]⟩
abbrev S8 : Shape := ⟨1, ![8]⟩
abbrev S8x1x1 : Shape := ⟨3, ![8, 1, 1]⟩
abbrev S1x1x1 : Shape := ⟨3, ![1, 1, 1]⟩
abbrev S1x1x128x256 : Shape := ⟨4, ![1, 1, 128, 256]⟩
abbrev S128x256 : Shape := ⟨2, ![128, 256]⟩
abbrev S128x512 : Shape := ⟨2, ![128, 512]⟩
abbrev S1024x512 : Shape := ⟨2, ![1024, 512]⟩
abbrev S1024x256 : Shape := ⟨2, ![1024, 256]⟩
abbrev S1x128x256 : Shape := ⟨3, ![1, 128, 256]⟩
abbrev S8x9x128x256 : Shape := ⟨4, ![8, 9, 128, 256]⟩
abbrev S8x9 : Shape := ⟨2, ![8, 9]⟩
abbrev S8x1 : Shape := ⟨2, ![8, 1]⟩
abbrev S8x7 : Shape := ⟨2, ![8, 7]⟩
abbrev S8x1x16 : Shape := ⟨3, ![8, 1, 16]⟩
abbrev S8x10x128x256 : Shape := ⟨4, ![8, 10, 128, 256]⟩
abbrev S8x10 : Shape := ⟨2, ![8, 10]⟩
abbrev S8x6 : Shape := ⟨2, ![8, 6]⟩
abbrev S8x11x128x256 : Shape := ⟨4, ![8, 11, 128, 256]⟩
abbrev S8x11 : Shape := ⟨2, ![8, 11]⟩
abbrev S8x5 : Shape := ⟨2, ![8, 5]⟩
abbrev S8x12x128x256 : Shape := ⟨4, ![8, 12, 128, 256]⟩
abbrev S8x12 : Shape := ⟨2, ![8, 12]⟩
abbrev S8x4 : Shape := ⟨2, ![8, 4]⟩
abbrev S8x13x128x256 : Shape := ⟨4, ![8, 13, 128, 256]⟩
abbrev S8x13 : Shape := ⟨2, ![8, 13]⟩
abbrev S8x3 : Shape := ⟨2, ![8, 3]⟩
abbrev S8x14x128x256 : Shape := ⟨4, ![8, 14, 128, 256]⟩
abbrev S8x14 : Shape := ⟨2, ![8, 14]⟩
abbrev S8x2 : Shape := ⟨2, ![8, 2]⟩
abbrev S16x128x16x16 : Shape := ⟨4, ![16, 128, 16, 16]⟩

abbrev nBuf : Space → Nat
  | .hbm => 77
  | .vmem => 7
  | .smem => 0
  | _ => 0

abbrev bufTy : (tb : Table) → Fin (tcTables nBuf tb) → BufTy
  | .hbm, ⟨0, _⟩ => ⟨S16x8x128x16x16, .f32⟩
  | .hbm, ⟨1, _⟩ => ⟨S1x2x7x7, .f32⟩
  | .hbm, ⟨2, _⟩ => ⟨S1, .f32⟩
  | .hbm, ⟨3, _⟩ => ⟨S16x8x128x256, .f32⟩
  | .hbm, ⟨4, _⟩ => ⟨S16x16, .i32⟩
  | .hbm, ⟨5, _⟩ => ⟨S16x16, .i32⟩
  | .hbm, ⟨6, _⟩ => ⟨S_, .i32⟩
  | .hbm, ⟨7, _⟩ => ⟨S16x16, .i32⟩
  | .hbm, ⟨8, _⟩ => ⟨S16x16, .i32⟩
  | .hbm, ⟨9, _⟩ => ⟨S16x16, .i1⟩
  | .hbm, ⟨10, _⟩ => ⟨S16x16, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S16x16, .i32⟩
  | .hbm, ⟨19, _⟩ => ⟨S16x16, .i32⟩
  | .hbm, ⟨20, _⟩ => ⟨S_, .i32⟩
  | .hbm, ⟨21, _⟩ => ⟨S16x16, .i32⟩
  | .hbm, ⟨22, _⟩ => ⟨S16x16, .i32⟩
  | .hbm, ⟨23, _⟩ => ⟨S16x16, .i1⟩
  | .hbm, ⟨24, _⟩ => ⟨S16x16, .f32⟩
  | .hbm, ⟨25, _⟩ => ⟨S16x16, .i32⟩
  | .hbm, ⟨26, _⟩ => ⟨S16x16, .i32⟩
  | .hbm, ⟨27, _⟩ => ⟨S_, .i32⟩
  | .hbm, ⟨28, _⟩ => ⟨S16x16, .i32⟩
  | .hbm, ⟨29, _⟩ => ⟨S16x16, .i32⟩
  | .hbm, ⟨30, _⟩ => ⟨S16x16, .i1⟩
  | .hbm, ⟨31, _⟩ => ⟨S16x16, .f32⟩
  | .hbm, ⟨32, _⟩ => ⟨S16x16, .i32⟩
  | .hbm, ⟨33, _⟩ => ⟨S16x16, .i32⟩
  | .hbm, ⟨34, _⟩ => ⟨S_, .i32⟩
  | .hbm, ⟨35, _⟩ => ⟨S16x16, .i32⟩
  | .hbm, ⟨36, _⟩ => ⟨S16x16, .i32⟩
  | .hbm, ⟨37, _⟩ => ⟨S16x16, .i1⟩
  | .hbm, ⟨38, _⟩ => ⟨S16x16, .f32⟩
  | .hbm, ⟨39, _⟩ => ⟨S16x16, .i32⟩
  | .hbm, ⟨40, _⟩ => ⟨S16x16, .i32⟩
  | .hbm, ⟨41, _⟩ => ⟨S_, .i32⟩
  | .hbm, ⟨42, _⟩ => ⟨S16x16, .i32⟩
  | .hbm, ⟨43, _⟩ => ⟨S16x16, .i32⟩
  | .hbm, ⟨44, _⟩ => ⟨S16x16, .i1⟩
  | .hbm, ⟨45, _⟩ => ⟨S16x16, .f32⟩
  | .hbm, ⟨46, _⟩ => ⟨S16x16, .i32⟩
  | .hbm, ⟨47, _⟩ => ⟨S16x16, .i32⟩
  | .hbm, ⟨48, _⟩ => ⟨S_, .i32⟩
  | .hbm, ⟨49, _⟩ => ⟨S16x16, .i32⟩
  | .hbm, ⟨50, _⟩ => ⟨S16x16, .i32⟩
  | .hbm, ⟨51, _⟩ => ⟨S16x16, .i1⟩
  | .hbm, ⟨52, _⟩ => ⟨S16x16, .f32⟩
  | .hbm, ⟨53, _⟩ => ⟨S1x16x16, .f32⟩
  | .hbm, ⟨54, _⟩ => ⟨S1x16x16, .f32⟩
  | .hbm, ⟨55, _⟩ => ⟨S1x16x16, .f32⟩
  | .hbm, ⟨56, _⟩ => ⟨S1x16x16, .f32⟩
  | .hbm, ⟨57, _⟩ => ⟨S1x16x16, .f32⟩
  | .hbm, ⟨58, _⟩ => ⟨S1x16x16, .f32⟩
  | .hbm, ⟨59, _⟩ => ⟨S1x16x16, .f32⟩
  | .hbm, ⟨60, _⟩ => ⟨S7x16x16, .f32⟩
  | .hbm, ⟨61, _⟩ => ⟨S1x1x7x7, .f32⟩
  | .hbm, ⟨62, _⟩ => ⟨S7x7, .f32⟩
  | .hbm, ⟨63, _⟩ => ⟨S7x16x16, .f32⟩
  | .hbm, ⟨64, _⟩ => ⟨S16x16x16x16, .f32⟩
  | .hbm, ⟨65, _⟩ => ⟨S16x16x16x16, .f32⟩
  | .hbm, ⟨66, _⟩ => ⟨S256x256, .f32⟩
  | .hbm, ⟨67, _⟩ => ⟨S1x1x7x7, .f32⟩
  | .hbm, ⟨68, _⟩ => ⟨S7x7, .f32⟩
  | .hbm, ⟨69, _⟩ => ⟨S7x16x16, .f32⟩
  | .hbm, ⟨70, _⟩ => ⟨S16x16x16x16, .f32⟩
  | .hbm, ⟨71, _⟩ => ⟨S16x16x16x16, .f32⟩
  | .hbm, ⟨72, _⟩ => ⟨S256x256, .f32⟩
  | .hbm, ⟨73, _⟩ => ⟨S512x256, .f32⟩
  | .hbm, ⟨74, _⟩ => ⟨S1x1, .f32⟩
  | .hbm, ⟨75, _⟩ => ⟨S16x128x256, .f32⟩
  | .hbm, ⟨76, _⟩ => ⟨S16x128x16x16, .f32⟩
  | .local _ .vmem, ⟨0, _⟩ => ⟨S8x8x128x256, .f32⟩
  | .local _ .vmem, ⟨1, _⟩ => ⟨S8x8x128x256, .f32⟩
  | .local _ .vmem, ⟨2, _⟩ => ⟨S512x256, .f32⟩
  | .local _ .vmem, ⟨3, _⟩ => ⟨S1x1, .f32⟩
  | .local _ .vmem, ⟨4, _⟩ => ⟨S8x128x256, .f32⟩
  | .local _ .vmem, ⟨5, _⟩ => ⟨S8x128x256, .f32⟩
  | .local _ .vmem, ⟨6, _⟩ => ⟨S8x16x128x256, .f32⟩
  | _, _ => ⟨S16x8x128x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_c_4 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def k0_off1 (v133 : BitVec 32) : Fin 4 → Nat :=
  let c0_41 : Index := 0#32
  let v134 : Index := Scalar.indexCast v133
  let c0_42 : Index := 0#32
  let c0_43 : Index := 0#32
  ![0, v134.toNat, 0, 0]

def k0_chk1 (v133 : BitVec 32) : Prop :=
  (∀ a, (k0_off1 v133) a + S1x1x128x256.size a ≤ S8x16x128x256.size a)
theorem k0_off1_inb : ∀ (v133 : BitVec 32) (k0_hw1 : k0_chk1 v133), ∀ a, (k0_off1 v133) a + S1x1x128x256.size a ≤ S8x16x128x256.size a := fun v133 k0_hw1 => k0_hw1

def k0_off2 (v138 : BitVec 32) : Fin 4 → Nat :=
  let c0_44 : Index := 0#32
  let v139 : Index := Scalar.indexCast v138
  let c0_45 : Index := 0#32
  let c0_46 : Index := 0#32
  ![0, v139.toNat, 0, 0]

def k0_chk2 (v138 : BitVec 32) : Prop :=
  (∀ a, (k0_off2 v138) a + S1x1x128x256.size a ≤ S8x16x128x256.size a)
theorem k0_off2_inb : ∀ (v138 : BitVec 32) (k0_hw2 : k0_chk2 v138), ∀ a, (k0_off2 v138) a + S1x1x128x256.size a ≤ S8x16x128x256.size a := fun v138 k0_hw2 => k0_hw2

def k0_off3 (v144 : BitVec 32) : Fin 4 → Nat :=
  let c1 : Index := 1#32
  let v145 : Index := Scalar.indexCast v144
  let c0_47 : Index := 0#32
  let c0_48 : Index := 0#32
  ![1, v145.toNat, 0, 0]

def k0_chk3 (v144 : BitVec 32) : Prop :=
  (∀ a, (k0_off3 v144) a + S1x1x128x256.size a ≤ S8x16x128x256.size a)
theorem k0_off3_inb : ∀ (v144 : BitVec 32) (k0_hw3 : k0_chk3 v144), ∀ a, (k0_off3 v144) a + S1x1x128x256.size a ≤ S8x16x128x256.size a := fun v144 k0_hw3 => k0_hw3

def k0_off4 (v149 : BitVec 32) : Fin 4 → Nat :=
  let c1_49 : Index := 1#32
  let v150 : Index := Scalar.indexCast v149
  let c0_50 : Index := 0#32
  let c0_51 : Index := 0#32
  ![1, v150.toNat, 0, 0]

def k0_chk4 (v149 : BitVec 32) : Prop :=
  (∀ a, (k0_off4 v149) a + S1x1x128x256.size a ≤ S8x16x128x256.size a)
theorem k0_off4_inb : ∀ (v149 : BitVec 32) (k0_hw4 : k0_chk4 v149), ∀ a, (k0_off4 v149) a + S1x1x128x256.size a ≤ S8x16x128x256.size a := fun v149 k0_hw4 => k0_hw4

def k0_off5 (v155 : BitVec 32) : Fin 4 → Nat :=
  let c2 : Index := 2#32
  let v156 : Index := Scalar.indexCast v155
  let c0_52 : Index := 0#32
  let c0_53 : Index := 0#32
  ![2, v156.toNat, 0, 0]

def k0_chk5 (v155 : BitVec 32) : Prop :=
  (∀ a, (k0_off5 v155) a + S1x1x128x256.size a ≤ S8x16x128x256.size a)
theorem k0_off5_inb : ∀ (v155 : BitVec 32) (k0_hw5 : k0_chk5 v155), ∀ a, (k0_off5 v155) a + S1x1x128x256.size a ≤ S8x16x128x256.size a := fun v155 k0_hw5 => k0_hw5

def k0_off6 (v160 : BitVec 32) : Fin 4 → Nat :=
  let c2_54 : Index := 2#32
  let v161 : Index := Scalar.indexCast v160
  let c0_55 : Index := 0#32
  let c0_56 : Index := 0#32
  ![2, v161.toNat, 0, 0]

def k0_chk6 (v160 : BitVec 32) : Prop :=
  (∀ a, (k0_off6 v160) a + S1x1x128x256.size a ≤ S8x16x128x256.size a)
theorem k0_off6_inb : ∀ (v160 : BitVec 32) (k0_hw6 : k0_chk6 v160), ∀ a, (k0_off6 v160) a + S1x1x128x256.size a ≤ S8x16x128x256.size a := fun v160 k0_hw6 => k0_hw6

def k0_off7 (v166 : BitVec 32) : Fin 4 → Nat :=
  let c3 : Index := 3#32
  let v167 : Index := Scalar.indexCast v166
  let c0_57 : Index := 0#32
  let c0_58 : Index := 0#32
  ![3, v167.toNat, 0, 0]

def k0_chk7 (v166 : BitVec 32) : Prop :=
  (∀ a, (k0_off7 v166) a + S1x1x128x256.size a ≤ S8x16x128x256.size a)
theorem k0_off7_inb : ∀ (v166 : BitVec 32) (k0_hw7 : k0_chk7 v166), ∀ a, (k0_off7 v166) a + S1x1x128x256.size a ≤ S8x16x128x256.size a := fun v166 k0_hw7 => k0_hw7

def k0_off8 (v171 : BitVec 32) : Fin 4 → Nat :=
  let c3_59 : Index := 3#32
  let v172 : Index := Scalar.indexCast v171
  let c0_60 : Index := 0#32
  let c0_61 : Index := 0#32
  ![3, v172.toNat, 0, 0]

def k0_chk8 (v171 : BitVec 32) : Prop :=
  (∀ a, (k0_off8 v171) a + S1x1x128x256.size a ≤ S8x16x128x256.size a)
theorem k0_off8_inb : ∀ (v171 : BitVec 32) (k0_hw8 : k0_chk8 v171), ∀ a, (k0_off8 v171) a + S1x1x128x256.size a ≤ S8x16x128x256.size a := fun v171 k0_hw8 => k0_hw8

def k0_off9 (v177 : BitVec 32) : Fin 4 → Nat :=
  let c4 : Index := 4#32
  let v178 : Index := Scalar.indexCast v177
  let c0_62 : Index := 0#32
  let c0_63 : Index := 0#32
  ![4, v178.toNat, 0, 0]

def k0_chk9 (v177 : BitVec 32) : Prop :=
  (∀ a, (k0_off9 v177) a + S1x1x128x256.size a ≤ S8x16x128x256.size a)
theorem k0_off9_inb : ∀ (v177 : BitVec 32) (k0_hw9 : k0_chk9 v177), ∀ a, (k0_off9 v177) a + S1x1x128x256.size a ≤ S8x16x128x256.size a := fun v177 k0_hw9 => k0_hw9

def k0_off10 (v182 : BitVec 32) : Fin 4 → Nat :=
  let c4_64 : Index := 4#32
  let v183 : Index := Scalar.indexCast v182
  let c0_65 : Index := 0#32
  let c0_66 : Index := 0#32
  ![4, v183.toNat, 0, 0]

def k0_chk10 (v182 : BitVec 32) : Prop :=
  (∀ a, (k0_off10 v182) a + S1x1x128x256.size a ≤ S8x16x128x256.size a)
theorem k0_off10_inb : ∀ (v182 : BitVec 32) (k0_hw10 : k0_chk10 v182), ∀ a, (k0_off10 v182) a + S1x1x128x256.size a ≤ S8x16x128x256.size a := fun v182 k0_hw10 => k0_hw10

def k0_off11 (v188 : BitVec 32) : Fin 4 → Nat :=
  let c5 : Index := 5#32
  let v189 : Index := Scalar.indexCast v188
  let c0_67 : Index := 0#32
  let c0_68 : Index := 0#32
  ![5, v189.toNat, 0, 0]

def k0_chk11 (v188 : BitVec 32) : Prop :=
  (∀ a, (k0_off11 v188) a + S1x1x128x256.size a ≤ S8x16x128x256.size a)
theorem k0_off11_inb : ∀ (v188 : BitVec 32) (k0_hw11 : k0_chk11 v188), ∀ a, (k0_off11 v188) a + S1x1x128x256.size a ≤ S8x16x128x256.size a := fun v188 k0_hw11 => k0_hw11

def k0_off12 (v193 : BitVec 32) : Fin 4 → Nat :=
  let c5_69 : Index := 5#32
  let v194 : Index := Scalar.indexCast v193
  let c0_70 : Index := 0#32
  let c0_71 : Index := 0#32
  ![5, v194.toNat, 0, 0]

def k0_chk12 (v193 : BitVec 32) : Prop :=
  (∀ a, (k0_off12 v193) a + S1x1x128x256.size a ≤ S8x16x128x256.size a)
theorem k0_off12_inb : ∀ (v193 : BitVec 32) (k0_hw12 : k0_chk12 v193), ∀ a, (k0_off12 v193) a + S1x1x128x256.size a ≤ S8x16x128x256.size a := fun v193 k0_hw12 => k0_hw12

def k0_off13 (v199 : BitVec 32) : Fin 4 → Nat :=
  let c6 : Index := 6#32
  let v200 : Index := Scalar.indexCast v199
  let c0_72 : Index := 0#32
  let c0_73 : Index := 0#32
  ![6, v200.toNat, 0, 0]

def k0_chk13 (v199 : BitVec 32) : Prop :=
  (∀ a, (k0_off13 v199) a + S1x1x128x256.size a ≤ S8x16x128x256.size a)
theorem k0_off13_inb : ∀ (v199 : BitVec 32) (k0_hw13 : k0_chk13 v199), ∀ a, (k0_off13 v199) a + S1x1x128x256.size a ≤ S8x16x128x256.size a := fun v199 k0_hw13 => k0_hw13

def k0_off14 (v204 : BitVec 32) : Fin 4 → Nat :=
  let c6_74 : Index := 6#32
  let v205 : Index := Scalar.indexCast v204
  let c0_75 : Index := 0#32
  let c0_76 : Index := 0#32
  ![6, v205.toNat, 0, 0]

def k0_chk14 (v204 : BitVec 32) : Prop :=
  (∀ a, (k0_off14 v204) a + S1x1x128x256.size a ≤ S8x16x128x256.size a)
theorem k0_off14_inb : ∀ (v204 : BitVec 32) (k0_hw14 : k0_chk14 v204), ∀ a, (k0_off14 v204) a + S1x1x128x256.size a ≤ S8x16x128x256.size a := fun v204 k0_hw14 => k0_hw14

def k0_off15 (v210 : BitVec 32) : Fin 4 → Nat :=
  let c7 : Index := 7#32
  let v211 : Index := Scalar.indexCast v210
  let c0_77 : Index := 0#32
  let c0_78 : Index := 0#32
  ![7, v211.toNat, 0, 0]

def k0_chk15 (v210 : BitVec 32) : Prop :=
  (∀ a, (k0_off15 v210) a + S1x1x128x256.size a ≤ S8x16x128x256.size a)
theorem k0_off15_inb : ∀ (v210 : BitVec 32) (k0_hw15 : k0_chk15 v210), ∀ a, (k0_off15 v210) a + S1x1x128x256.size a ≤ S8x16x128x256.size a := fun v210 k0_hw15 => k0_hw15

def k0_off16 (v215 : BitVec 32) : Fin 4 → Nat :=
  let c7_79 : Index := 7#32
  let v216 : Index := Scalar.indexCast v215
  let c0_80 : Index := 0#32
  let c0_81 : Index := 0#32
  ![7, v216.toNat, 0, 0]

def k0_chk16 (v215 : BitVec 32) : Prop :=
  (∀ a, (k0_off16 v215) a + S1x1x128x256.size a ≤ S8x16x128x256.size a)
theorem k0_off16_inb : ∀ (v215 : BitVec 32) (k0_hw16 : k0_chk16 v215), ∀ a, (k0_off16 v215) a + S1x1x128x256.size a ≤ S8x16x128x256.size a := fun v215 k0_hw16 => k0_hw16

def k0_off17 (v358 : BitVec 32) : Fin 4 → Nat :=
  let c0_143 : Index := 0#32
  let v359 : Index := Scalar.indexCast v358
  let c0_144 : Index := 0#32
  let c0_145 : Index := 0#32
  ![0, v359.toNat, 0, 0]

def k0_chk17 (v358 : BitVec 32) : Prop :=
  (∀ a, (k0_off17 v358) a + S1x1x128x256.size a ≤ S8x16x128x256.size a)
theorem k0_off17_inb : ∀ (v358 : BitVec 32) (k0_hw17 : k0_chk17 v358), ∀ a, (k0_off17 v358) a + S1x1x128x256.size a ≤ S8x16x128x256.size a := fun v358 k0_hw17 => k0_hw17

def k0_off18 (v363 : BitVec 32) : Fin 4 → Nat :=
  let c0_146 : Index := 0#32
  let v364 : Index := Scalar.indexCast v363
  let c0_147 : Index := 0#32
  let c0_148 : Index := 0#32
  ![0, v364.toNat, 0, 0]

def k0_chk18 (v363 : BitVec 32) : Prop :=
  (∀ a, (k0_off18 v363) a + S1x1x128x256.size a ≤ S8x16x128x256.size a)
theorem k0_off18_inb : ∀ (v363 : BitVec 32) (k0_hw18 : k0_chk18 v363), ∀ a, (k0_off18 v363) a + S1x1x128x256.size a ≤ S8x16x128x256.size a := fun v363 k0_hw18 => k0_hw18

def k0_off19 (v369 : BitVec 32) : Fin 4 → Nat :=
  let c1_149 : Index := 1#32
  let v370 : Index := Scalar.indexCast v369
  let c0_150 : Index := 0#32
  let c0_151 : Index := 0#32
  ![1, v370.toNat, 0, 0]

def k0_chk19 (v369 : BitVec 32) : Prop :=
  (∀ a, (k0_off19 v369) a + S1x1x128x256.size a ≤ S8x16x128x256.size a)
theorem k0_off19_inb : ∀ (v369 : BitVec 32) (k0_hw19 : k0_chk19 v369), ∀ a, (k0_off19 v369) a + S1x1x128x256.size a ≤ S8x16x128x256.size a := fun v369 k0_hw19 => k0_hw19

def k0_off20 (v374 : BitVec 32) : Fin 4 → Nat :=
  let c1_152 : Index := 1#32
  let v375 : Index := Scalar.indexCast v374
  let c0_153 : Index := 0#32
  let c0_154 : Index := 0#32
  ![1, v375.toNat, 0, 0]

def k0_chk20 (v374 : BitVec 32) : Prop :=
  (∀ a, (k0_off20 v374) a + S1x1x128x256.size a ≤ S8x16x128x256.size a)
theorem k0_off20_inb : ∀ (v374 : BitVec 32) (k0_hw20 : k0_chk20 v374), ∀ a, (k0_off20 v374) a + S1x1x128x256.size a ≤ S8x16x128x256.size a := fun v374 k0_hw20 => k0_hw20

def k0_off21 (v380 : BitVec 32) : Fin 4 → Nat :=
  let c2_155 : Index := 2#32
  let v381 : Index := Scalar.indexCast v380
  let c0_156 : Index := 0#32
  let c0_157 : Index := 0#32
  ![2, v381.toNat, 0, 0]

def k0_chk21 (v380 : BitVec 32) : Prop :=
  (∀ a, (k0_off21 v380) a + S1x1x128x256.size a ≤ S8x16x128x256.size a)
theorem k0_off21_inb : ∀ (v380 : BitVec 32) (k0_hw21 : k0_chk21 v380), ∀ a, (k0_off21 v380) a + S1x1x128x256.size a ≤ S8x16x128x256.size a := fun v380 k0_hw21 => k0_hw21

def k0_off22 (v385 : BitVec 32) : Fin 4 → Nat :=
  let c2_158 : Index := 2#32
  let v386 : Index := Scalar.indexCast v385
  let c0_159 : Index := 0#32
  let c0_160 : Index := 0#32
  ![2, v386.toNat, 0, 0]

def k0_chk22 (v385 : BitVec 32) : Prop :=
  (∀ a, (k0_off22 v385) a + S1x1x128x256.size a ≤ S8x16x128x256.size a)
theorem k0_off22_inb : ∀ (v385 : BitVec 32) (k0_hw22 : k0_chk22 v385), ∀ a, (k0_off22 v385) a + S1x1x128x256.size a ≤ S8x16x128x256.size a := fun v385 k0_hw22 => k0_hw22

def k0_off23 (v391 : BitVec 32) : Fin 4 → Nat :=
  let c3_161 : Index := 3#32
  let v392 : Index := Scalar.indexCast v391
  let c0_162 : Index := 0#32
  let c0_163 : Index := 0#32
  ![3, v392.toNat, 0, 0]

def k0_chk23 (v391 : BitVec 32) : Prop :=
  (∀ a, (k0_off23 v391) a + S1x1x128x256.size a ≤ S8x16x128x256.size a)
theorem k0_off23_inb : ∀ (v391 : BitVec 32) (k0_hw23 : k0_chk23 v391), ∀ a, (k0_off23 v391) a + S1x1x128x256.size a ≤ S8x16x128x256.size a := fun v391 k0_hw23 => k0_hw23

def k0_off24 (v396 : BitVec 32) : Fin 4 → Nat :=
  let c3_164 : Index := 3#32
  let v397 : Index := Scalar.indexCast v396
  let c0_165 : Index := 0#32
  let c0_166 : Index := 0#32
  ![3, v397.toNat, 0, 0]

def k0_chk24 (v396 : BitVec 32) : Prop :=
  (∀ a, (k0_off24 v396) a + S1x1x128x256.size a ≤ S8x16x128x256.size a)
theorem k0_off24_inb : ∀ (v396 : BitVec 32) (k0_hw24 : k0_chk24 v396), ∀ a, (k0_off24 v396) a + S1x1x128x256.size a ≤ S8x16x128x256.size a := fun v396 k0_hw24 => k0_hw24

def k0_off25 (v402 : BitVec 32) : Fin 4 → Nat :=
  let c4_167 : Index := 4#32
  let v403 : Index := Scalar.indexCast v402
  let c0_168 : Index := 0#32
  let c0_169 : Index := 0#32
  ![4, v403.toNat, 0, 0]

def k0_chk25 (v402 : BitVec 32) : Prop :=
  (∀ a, (k0_off25 v402) a + S1x1x128x256.size a ≤ S8x16x128x256.size a)
theorem k0_off25_inb : ∀ (v402 : BitVec 32) (k0_hw25 : k0_chk25 v402), ∀ a, (k0_off25 v402) a + S1x1x128x256.size a ≤ S8x16x128x256.size a := fun v402 k0_hw25 => k0_hw25

def k0_off26 (v407 : BitVec 32) : Fin 4 → Nat :=
  let c4_170 : Index := 4#32
  let v408 : Index := Scalar.indexCast v407
  let c0_171 : Index := 0#32
  let c0_172 : Index := 0#32
  ![4, v408.toNat, 0, 0]

def k0_chk26 (v407 : BitVec 32) : Prop :=
  (∀ a, (k0_off26 v407) a + S1x1x128x256.size a ≤ S8x16x128x256.size a)
theorem k0_off26_inb : ∀ (v407 : BitVec 32) (k0_hw26 : k0_chk26 v407), ∀ a, (k0_off26 v407) a + S1x1x128x256.size a ≤ S8x16x128x256.size a := fun v407 k0_hw26 => k0_hw26

def k0_off27 (v413 : BitVec 32) : Fin 4 → Nat :=
  let c5_173 : Index := 5#32
  let v414 : Index := Scalar.indexCast v413
  let c0_174 : Index := 0#32
  let c0_175 : Index := 0#32
  ![5, v414.toNat, 0, 0]

def k0_chk27 (v413 : BitVec 32) : Prop :=
  (∀ a, (k0_off27 v413) a + S1x1x128x256.size a ≤ S8x16x128x256.size a)
theorem k0_off27_inb : ∀ (v413 : BitVec 32) (k0_hw27 : k0_chk27 v413), ∀ a, (k0_off27 v413) a + S1x1x128x256.size a ≤ S8x16x128x256.size a := fun v413 k0_hw27 => k0_hw27

def k0_off28 (v418 : BitVec 32) : Fin 4 → Nat :=
  let c5_176 : Index := 5#32
  let v419 : Index := Scalar.indexCast v418
  let c0_177 : Index := 0#32
  let c0_178 : Index := 0#32
  ![5, v419.toNat, 0, 0]

def k0_chk28 (v418 : BitVec 32) : Prop :=
  (∀ a, (k0_off28 v418) a + S1x1x128x256.size a ≤ S8x16x128x256.size a)
theorem k0_off28_inb : ∀ (v418 : BitVec 32) (k0_hw28 : k0_chk28 v418), ∀ a, (k0_off28 v418) a + S1x1x128x256.size a ≤ S8x16x128x256.size a := fun v418 k0_hw28 => k0_hw28

def k0_off29 (v424 : BitVec 32) : Fin 4 → Nat :=
  let c6_179 : Index := 6#32
  let v425 : Index := Scalar.indexCast v424
  let c0_180 : Index := 0#32
  let c0_181 : Index := 0#32
  ![6, v425.toNat, 0, 0]

def k0_chk29 (v424 : BitVec 32) : Prop :=
  (∀ a, (k0_off29 v424) a + S1x1x128x256.size a ≤ S8x16x128x256.size a)
theorem k0_off29_inb : ∀ (v424 : BitVec 32) (k0_hw29 : k0_chk29 v424), ∀ a, (k0_off29 v424) a + S1x1x128x256.size a ≤ S8x16x128x256.size a := fun v424 k0_hw29 => k0_hw29

def k0_off30 (v429 : BitVec 32) : Fin 4 → Nat :=
  let c6_182 : Index := 6#32
  let v430 : Index := Scalar.indexCast v429
  let c0_183 : Index := 0#32
  let c0_184 : Index := 0#32
  ![6, v430.toNat, 0, 0]

def k0_chk30 (v429 : BitVec 32) : Prop :=
  (∀ a, (k0_off30 v429) a + S1x1x128x256.size a ≤ S8x16x128x256.size a)
theorem k0_off30_inb : ∀ (v429 : BitVec 32) (k0_hw30 : k0_chk30 v429), ∀ a, (k0_off30 v429) a + S1x1x128x256.size a ≤ S8x16x128x256.size a := fun v429 k0_hw30 => k0_hw30

def k0_off31 (v435 : BitVec 32) : Fin 4 → Nat :=
  let c7_185 : Index := 7#32
  let v436 : Index := Scalar.indexCast v435
  let c0_186 : Index := 0#32
  let c0_187 : Index := 0#32
  ![7, v436.toNat, 0, 0]

def k0_chk31 (v435 : BitVec 32) : Prop :=
  (∀ a, (k0_off31 v435) a + S1x1x128x256.size a ≤ S8x16x128x256.size a)
theorem k0_off31_inb : ∀ (v435 : BitVec 32) (k0_hw31 : k0_chk31 v435), ∀ a, (k0_off31 v435) a + S1x1x128x256.size a ≤ S8x16x128x256.size a := fun v435 k0_hw31 => k0_hw31

def k0_off32 (v440 : BitVec 32) : Fin 4 → Nat :=
  let c7_188 : Index := 7#32
  let v441 : Index := Scalar.indexCast v440
  let c0_189 : Index := 0#32
  let c0_190 : Index := 0#32
  ![7, v441.toNat, 0, 0]

def k0_chk32 (v440 : BitVec 32) : Prop :=
  (∀ a, (k0_off32 v440) a + S1x1x128x256.size a ≤ S8x16x128x256.size a)
theorem k0_off32_inb : ∀ (v440 : BitVec 32) (k0_hw32 : k0_chk32 v440), ∀ a, (k0_off32 v440) a + S1x1x128x256.size a ≤ S8x16x128x256.size a := fun v440 k0_hw32 => k0_hw32

def k0_off33 (v583 : BitVec 32) : Fin 4 → Nat :=
  let c0_251 : Index := 0#32
  let v584 : Index := Scalar.indexCast v583
  let c0_252 : Index := 0#32
  let c0_253 : Index := 0#32
  ![0, v584.toNat, 0, 0]

def k0_chk33 (v583 : BitVec 32) : Prop :=
  (∀ a, (k0_off33 v583) a + S1x1x128x256.size a ≤ S8x16x128x256.size a)
theorem k0_off33_inb : ∀ (v583 : BitVec 32) (k0_hw33 : k0_chk33 v583), ∀ a, (k0_off33 v583) a + S1x1x128x256.size a ≤ S8x16x128x256.size a := fun v583 k0_hw33 => k0_hw33

def k0_off34 (v588 : BitVec 32) : Fin 4 → Nat :=
  let c0_254 : Index := 0#32
  let v589 : Index := Scalar.indexCast v588
  let c0_255 : Index := 0#32
  let c0_256 : Index := 0#32
  ![0, v589.toNat, 0, 0]

def k0_chk34 (v588 : BitVec 32) : Prop :=
  (∀ a, (k0_off34 v588) a + S1x1x128x256.size a ≤ S8x16x128x256.size a)
theorem k0_off34_inb : ∀ (v588 : BitVec 32) (k0_hw34 : k0_chk34 v588), ∀ a, (k0_off34 v588) a + S1x1x128x256.size a ≤ S8x16x128x256.size a := fun v588 k0_hw34 => k0_hw34

def k0_off35 (v594 : BitVec 32) : Fin 4 → Nat :=
  let c1_257 : Index := 1#32
  let v595 : Index := Scalar.indexCast v594
  let c0_258 : Index := 0#32
  let c0_259 : Index := 0#32
  ![1, v595.toNat, 0, 0]

def k0_chk35 (v594 : BitVec 32) : Prop :=
  (∀ a, (k0_off35 v594) a + S1x1x128x256.size a ≤ S8x16x128x256.size a)
theorem k0_off35_inb : ∀ (v594 : BitVec 32) (k0_hw35 : k0_chk35 v594), ∀ a, (k0_off35 v594) a + S1x1x128x256.size a ≤ S8x16x128x256.size a := fun v594 k0_hw35 => k0_hw35

def k0_off36 (v599 : BitVec 32) : Fin 4 → Nat :=
  let c1_260 : Index := 1#32
  let v600 : Index := Scalar.indexCast v599
  let c0_261 : Index := 0#32
  let c0_262 : Index := 0#32
  ![1, v600.toNat, 0, 0]

def k0_chk36 (v599 : BitVec 32) : Prop :=
  (∀ a, (k0_off36 v599) a + S1x1x128x256.size a ≤ S8x16x128x256.size a)
theorem k0_off36_inb : ∀ (v599 : BitVec 32) (k0_hw36 : k0_chk36 v599), ∀ a, (k0_off36 v599) a + S1x1x128x256.size a ≤ S8x16x128x256.size a := fun v599 k0_hw36 => k0_hw36

def k0_off37 (v605 : BitVec 32) : Fin 4 → Nat :=
  let c2_263 : Index := 2#32
  let v606 : Index := Scalar.indexCast v605
  let c0_264 : Index := 0#32
  let c0_265 : Index := 0#32
  ![2, v606.toNat, 0, 0]

def k0_chk37 (v605 : BitVec 32) : Prop :=
  (∀ a, (k0_off37 v605) a + S1x1x128x256.size a ≤ S8x16x128x256.size a)
theorem k0_off37_inb : ∀ (v605 : BitVec 32) (k0_hw37 : k0_chk37 v605), ∀ a, (k0_off37 v605) a + S1x1x128x256.size a ≤ S8x16x128x256.size a := fun v605 k0_hw37 => k0_hw37

def k0_off38 (v610 : BitVec 32) : Fin 4 → Nat :=
  let c2_266 : Index := 2#32
  let v611 : Index := Scalar.indexCast v610
  let c0_267 : Index := 0#32
  let c0_268 : Index := 0#32
  ![2, v611.toNat, 0, 0]

def k0_chk38 (v610 : BitVec 32) : Prop :=
  (∀ a, (k0_off38 v610) a + S1x1x128x256.size a ≤ S8x16x128x256.size a)
theorem k0_off38_inb : ∀ (v610 : BitVec 32) (k0_hw38 : k0_chk38 v610), ∀ a, (k0_off38 v610) a + S1x1x128x256.size a ≤ S8x16x128x256.size a := fun v610 k0_hw38 => k0_hw38

def k0_off39 (v616 : BitVec 32) : Fin 4 → Nat :=
  let c3_269 : Index := 3#32
  let v617 : Index := Scalar.indexCast v616
  let c0_270 : Index := 0#32
  let c0_271 : Index := 0#32
  ![3, v617.toNat, 0, 0]

def k0_chk39 (v616 : BitVec 32) : Prop :=
  (∀ a, (k0_off39 v616) a + S1x1x128x256.size a ≤ S8x16x128x256.size a)
theorem k0_off39_inb : ∀ (v616 : BitVec 32) (k0_hw39 : k0_chk39 v616), ∀ a, (k0_off39 v616) a + S1x1x128x256.size a ≤ S8x16x128x256.size a := fun v616 k0_hw39 => k0_hw39

def k0_off40 (v621 : BitVec 32) : Fin 4 → Nat :=
  let c3_272 : Index := 3#32
  let v622 : Index := Scalar.indexCast v621
  let c0_273 : Index := 0#32
  let c0_274 : Index := 0#32
  ![3, v622.toNat, 0, 0]

def k0_chk40 (v621 : BitVec 32) : Prop :=
  (∀ a, (k0_off40 v621) a + S1x1x128x256.size a ≤ S8x16x128x256.size a)
theorem k0_off40_inb : ∀ (v621 : BitVec 32) (k0_hw40 : k0_chk40 v621), ∀ a, (k0_off40 v621) a + S1x1x128x256.size a ≤ S8x16x128x256.size a := fun v621 k0_hw40 => k0_hw40

def k0_off41 (v627 : BitVec 32) : Fin 4 → Nat :=
  let c4_275 : Index := 4#32
  let v628 : Index := Scalar.indexCast v627
  let c0_276 : Index := 0#32
  let c0_277 : Index := 0#32
  ![4, v628.toNat, 0, 0]

def k0_chk41 (v627 : BitVec 32) : Prop :=
  (∀ a, (k0_off41 v627) a + S1x1x128x256.size a ≤ S8x16x128x256.size a)
theorem k0_off41_inb : ∀ (v627 : BitVec 32) (k0_hw41 : k0_chk41 v627), ∀ a, (k0_off41 v627) a + S1x1x128x256.size a ≤ S8x16x128x256.size a := fun v627 k0_hw41 => k0_hw41

def k0_off42 (v632 : BitVec 32) : Fin 4 → Nat :=
  let c4_278 : Index := 4#32
  let v633 : Index := Scalar.indexCast v632
  let c0_279 : Index := 0#32
  let c0_280 : Index := 0#32
  ![4, v633.toNat, 0, 0]

def k0_chk42 (v632 : BitVec 32) : Prop :=
  (∀ a, (k0_off42 v632) a + S1x1x128x256.size a ≤ S8x16x128x256.size a)
theorem k0_off42_inb : ∀ (v632 : BitVec 32) (k0_hw42 : k0_chk42 v632), ∀ a, (k0_off42 v632) a + S1x1x128x256.size a ≤ S8x16x128x256.size a := fun v632 k0_hw42 => k0_hw42

def k0_off43 (v638 : BitVec 32) : Fin 4 → Nat :=
  let c5_281 : Index := 5#32
  let v639 : Index := Scalar.indexCast v638
  let c0_282 : Index := 0#32
  let c0_283 : Index := 0#32
  ![5, v639.toNat, 0, 0]

def k0_chk43 (v638 : BitVec 32) : Prop :=
  (∀ a, (k0_off43 v638) a + S1x1x128x256.size a ≤ S8x16x128x256.size a)
theorem k0_off43_inb : ∀ (v638 : BitVec 32) (k0_hw43 : k0_chk43 v638), ∀ a, (k0_off43 v638) a + S1x1x128x256.size a ≤ S8x16x128x256.size a := fun v638 k0_hw43 => k0_hw43

def k0_off44 (v643 : BitVec 32) : Fin 4 → Nat :=
  let c5_284 : Index := 5#32
  let v644 : Index := Scalar.indexCast v643
  let c0_285 : Index := 0#32
  let c0_286 : Index := 0#32
  ![5, v644.toNat, 0, 0]

def k0_chk44 (v643 : BitVec 32) : Prop :=
  (∀ a, (k0_off44 v643) a + S1x1x128x256.size a ≤ S8x16x128x256.size a)
theorem k0_off44_inb : ∀ (v643 : BitVec 32) (k0_hw44 : k0_chk44 v643), ∀ a, (k0_off44 v643) a + S1x1x128x256.size a ≤ S8x16x128x256.size a := fun v643 k0_hw44 => k0_hw44

def k0_off45 (v649 : BitVec 32) : Fin 4 → Nat :=
  let c6_287 : Index := 6#32
  let v650 : Index := Scalar.indexCast v649
  let c0_288 : Index := 0#32
  let c0_289 : Index := 0#32
  ![6, v650.toNat, 0, 0]

def k0_chk45 (v649 : BitVec 32) : Prop :=
  (∀ a, (k0_off45 v649) a + S1x1x128x256.size a ≤ S8x16x128x256.size a)
theorem k0_off45_inb : ∀ (v649 : BitVec 32) (k0_hw45 : k0_chk45 v649), ∀ a, (k0_off45 v649) a + S1x1x128x256.size a ≤ S8x16x128x256.size a := fun v649 k0_hw45 => k0_hw45

def k0_off46 (v654 : BitVec 32) : Fin 4 → Nat :=
  let c6_290 : Index := 6#32
  let v655 : Index := Scalar.indexCast v654
  let c0_291 : Index := 0#32
  let c0_292 : Index := 0#32
  ![6, v655.toNat, 0, 0]

def k0_chk46 (v654 : BitVec 32) : Prop :=
  (∀ a, (k0_off46 v654) a + S1x1x128x256.size a ≤ S8x16x128x256.size a)
theorem k0_off46_inb : ∀ (v654 : BitVec 32) (k0_hw46 : k0_chk46 v654), ∀ a, (k0_off46 v654) a + S1x1x128x256.size a ≤ S8x16x128x256.size a := fun v654 k0_hw46 => k0_hw46

def k0_off47 (v660 : BitVec 32) : Fin 4 → Nat :=
  let c7_293 : Index := 7#32
  let v661 : Index := Scalar.indexCast v660
  let c0_294 : Index := 0#32
  let c0_295 : Index := 0#32
  ![7, v661.toNat, 0, 0]

def k0_chk47 (v660 : BitVec 32) : Prop :=
  (∀ a, (k0_off47 v660) a + S1x1x128x256.size a ≤ S8x16x128x256.size a)
theorem k0_off47_inb : ∀ (v660 : BitVec 32) (k0_hw47 : k0_chk47 v660), ∀ a, (k0_off47 v660) a + S1x1x128x256.size a ≤ S8x16x128x256.size a := fun v660 k0_hw47 => k0_hw47

def k0_off48 (v665 : BitVec 32) : Fin 4 → Nat :=
  let c7_296 : Index := 7#32
  let v666 : Index := Scalar.indexCast v665
  let c0_297 : Index := 0#32
  let c0_298 : Index := 0#32
  ![7, v666.toNat, 0, 0]

def k0_chk48 (v665 : BitVec 32) : Prop :=
  (∀ a, (k0_off48 v665) a + S1x1x128x256.size a ≤ S8x16x128x256.size a)
theorem k0_off48_inb : ∀ (v665 : BitVec 32) (k0_hw48 : k0_chk48 v665), ∀ a, (k0_off48 v665) a + S1x1x128x256.size a ≤ S8x16x128x256.size a := fun v665 k0_hw48 => k0_hw48

def k0_off49 (v808 : BitVec 32) : Fin 4 → Nat :=
  let c0_359 : Index := 0#32
  let v809 : Index := Scalar.indexCast v808
  let c0_360 : Index := 0#32
  let c0_361 : Index := 0#32
  ![0, v809.toNat, 0, 0]

def k0_chk49 (v808 : BitVec 32) : Prop :=
  (∀ a, (k0_off49 v808) a + S1x1x128x256.size a ≤ S8x16x128x256.size a)
theorem k0_off49_inb : ∀ (v808 : BitVec 32) (k0_hw49 : k0_chk49 v808), ∀ a, (k0_off49 v808) a + S1x1x128x256.size a ≤ S8x16x128x256.size a := fun v808 k0_hw49 => k0_hw49

def k0_off50 (v813 : BitVec 32) : Fin 4 → Nat :=
  let c0_362 : Index := 0#32
  let v814 : Index := Scalar.indexCast v813
  let c0_363 : Index := 0#32
  let c0_364 : Index := 0#32
  ![0, v814.toNat, 0, 0]

def k0_chk50 (v813 : BitVec 32) : Prop :=
  (∀ a, (k0_off50 v813) a + S1x1x128x256.size a ≤ S8x16x128x256.size a)
theorem k0_off50_inb : ∀ (v813 : BitVec 32) (k0_hw50 : k0_chk50 v813), ∀ a, (k0_off50 v813) a + S1x1x128x256.size a ≤ S8x16x128x256.size a := fun v813 k0_hw50 => k0_hw50

def k0_off51 (v819 : BitVec 32) : Fin 4 → Nat :=
  let c1_365 : Index := 1#32
  let v820 : Index := Scalar.indexCast v819
  let c0_366 : Index := 0#32
  let c0_367 : Index := 0#32
  ![1, v820.toNat, 0, 0]

def k0_chk51 (v819 : BitVec 32) : Prop :=
  (∀ a, (k0_off51 v819) a + S1x1x128x256.size a ≤ S8x16x128x256.size a)
theorem k0_off51_inb : ∀ (v819 : BitVec 32) (k0_hw51 : k0_chk51 v819), ∀ a, (k0_off51 v819) a + S1x1x128x256.size a ≤ S8x16x128x256.size a := fun v819 k0_hw51 => k0_hw51

def k0_off52 (v824 : BitVec 32) : Fin 4 → Nat :=
  let c1_368 : Index := 1#32
  let v825 : Index := Scalar.indexCast v824
  let c0_369 : Index := 0#32
  let c0_370 : Index := 0#32
  ![1, v825.toNat, 0, 0]

def k0_chk52 (v824 : BitVec 32) : Prop :=
  (∀ a, (k0_off52 v824) a + S1x1x128x256.size a ≤ S8x16x128x256.size a)
theorem k0_off52_inb : ∀ (v824 : BitVec 32) (k0_hw52 : k0_chk52 v824), ∀ a, (k0_off52 v824) a + S1x1x128x256.size a ≤ S8x16x128x256.size a := fun v824 k0_hw52 => k0_hw52

def k0_off53 (v830 : BitVec 32) : Fin 4 → Nat :=
  let c2_371 : Index := 2#32
  let v831 : Index := Scalar.indexCast v830
  let c0_372 : Index := 0#32
  let c0_373 : Index := 0#32
  ![2, v831.toNat, 0, 0]

def k0_chk53 (v830 : BitVec 32) : Prop :=
  (∀ a, (k0_off53 v830) a + S1x1x128x256.size a ≤ S8x16x128x256.size a)
theorem k0_off53_inb : ∀ (v830 : BitVec 32) (k0_hw53 : k0_chk53 v830), ∀ a, (k0_off53 v830) a + S1x1x128x256.size a ≤ S8x16x128x256.size a := fun v830 k0_hw53 => k0_hw53

def k0_off54 (v835 : BitVec 32) : Fin 4 → Nat :=
  let c2_374 : Index := 2#32
  let v836 : Index := Scalar.indexCast v835
  let c0_375 : Index := 0#32
  let c0_376 : Index := 0#32
  ![2, v836.toNat, 0, 0]

def k0_chk54 (v835 : BitVec 32) : Prop :=
  (∀ a, (k0_off54 v835) a + S1x1x128x256.size a ≤ S8x16x128x256.size a)
theorem k0_off54_inb : ∀ (v835 : BitVec 32) (k0_hw54 : k0_chk54 v835), ∀ a, (k0_off54 v835) a + S1x1x128x256.size a ≤ S8x16x128x256.size a := fun v835 k0_hw54 => k0_hw54

def k0_off55 (v841 : BitVec 32) : Fin 4 → Nat :=
  let c3_377 : Index := 3#32
  let v842 : Index := Scalar.indexCast v841
  let c0_378 : Index := 0#32
  let c0_379 : Index := 0#32
  ![3, v842.toNat, 0, 0]

def k0_chk55 (v841 : BitVec 32) : Prop :=
  (∀ a, (k0_off55 v841) a + S1x1x128x256.size a ≤ S8x16x128x256.size a)
theorem k0_off55_inb : ∀ (v841 : BitVec 32) (k0_hw55 : k0_chk55 v841), ∀ a, (k0_off55 v841) a + S1x1x128x256.size a ≤ S8x16x128x256.size a := fun v841 k0_hw55 => k0_hw55

def k0_off56 (v846 : BitVec 32) : Fin 4 → Nat :=
  let c3_380 : Index := 3#32
  let v847 : Index := Scalar.indexCast v846
  let c0_381 : Index := 0#32
  let c0_382 : Index := 0#32
  ![3, v847.toNat, 0, 0]

def k0_chk56 (v846 : BitVec 32) : Prop :=
  (∀ a, (k0_off56 v846) a + S1x1x128x256.size a ≤ S8x16x128x256.size a)
theorem k0_off56_inb : ∀ (v846 : BitVec 32) (k0_hw56 : k0_chk56 v846), ∀ a, (k0_off56 v846) a + S1x1x128x256.size a ≤ S8x16x128x256.size a := fun v846 k0_hw56 => k0_hw56

def k0_off57 (v852 : BitVec 32) : Fin 4 → Nat :=
  let c4_383 : Index := 4#32
  let v853 : Index := Scalar.indexCast v852
  let c0_384 : Index := 0#32
  let c0_385 : Index := 0#32
  ![4, v853.toNat, 0, 0]

def k0_chk57 (v852 : BitVec 32) : Prop :=
  (∀ a, (k0_off57 v852) a + S1x1x128x256.size a ≤ S8x16x128x256.size a)
theorem k0_off57_inb : ∀ (v852 : BitVec 32) (k0_hw57 : k0_chk57 v852), ∀ a, (k0_off57 v852) a + S1x1x128x256.size a ≤ S8x16x128x256.size a := fun v852 k0_hw57 => k0_hw57

def k0_off58 (v857 : BitVec 32) : Fin 4 → Nat :=
  let c4_386 : Index := 4#32
  let v858 : Index := Scalar.indexCast v857
  let c0_387 : Index := 0#32
  let c0_388 : Index := 0#32
  ![4, v858.toNat, 0, 0]

def k0_chk58 (v857 : BitVec 32) : Prop :=
  (∀ a, (k0_off58 v857) a + S1x1x128x256.size a ≤ S8x16x128x256.size a)
theorem k0_off58_inb : ∀ (v857 : BitVec 32) (k0_hw58 : k0_chk58 v857), ∀ a, (k0_off58 v857) a + S1x1x128x256.size a ≤ S8x16x128x256.size a := fun v857 k0_hw58 => k0_hw58

def k0_off59 (v863 : BitVec 32) : Fin 4 → Nat :=
  let c5_389 : Index := 5#32
  let v864 : Index := Scalar.indexCast v863
  let c0_390 : Index := 0#32
  let c0_391 : Index := 0#32
  ![5, v864.toNat, 0, 0]

def k0_chk59 (v863 : BitVec 32) : Prop :=
  (∀ a, (k0_off59 v863) a + S1x1x128x256.size a ≤ S8x16x128x256.size a)
theorem k0_off59_inb : ∀ (v863 : BitVec 32) (k0_hw59 : k0_chk59 v863), ∀ a, (k0_off59 v863) a + S1x1x128x256.size a ≤ S8x16x128x256.size a := fun v863 k0_hw59 => k0_hw59

def k0_off60 (v868 : BitVec 32) : Fin 4 → Nat :=
  let c5_392 : Index := 5#32
  let v869 : Index := Scalar.indexCast v868
  let c0_393 : Index := 0#32
  let c0_394 : Index := 0#32
  ![5, v869.toNat, 0, 0]

def k0_chk60 (v868 : BitVec 32) : Prop :=
  (∀ a, (k0_off60 v868) a + S1x1x128x256.size a ≤ S8x16x128x256.size a)
theorem k0_off60_inb : ∀ (v868 : BitVec 32) (k0_hw60 : k0_chk60 v868), ∀ a, (k0_off60 v868) a + S1x1x128x256.size a ≤ S8x16x128x256.size a := fun v868 k0_hw60 => k0_hw60

def k0_off61 (v874 : BitVec 32) : Fin 4 → Nat :=
  let c6_395 : Index := 6#32
  let v875 : Index := Scalar.indexCast v874
  let c0_396 : Index := 0#32
  let c0_397 : Index := 0#32
  ![6, v875.toNat, 0, 0]

def k0_chk61 (v874 : BitVec 32) : Prop :=
  (∀ a, (k0_off61 v874) a + S1x1x128x256.size a ≤ S8x16x128x256.size a)
theorem k0_off61_inb : ∀ (v874 : BitVec 32) (k0_hw61 : k0_chk61 v874), ∀ a, (k0_off61 v874) a + S1x1x128x256.size a ≤ S8x16x128x256.size a := fun v874 k0_hw61 => k0_hw61

def k0_off62 (v879 : BitVec 32) : Fin 4 → Nat :=
  let c6_398 : Index := 6#32
  let v880 : Index := Scalar.indexCast v879
  let c0_399 : Index := 0#32
  let c0_400 : Index := 0#32
  ![6, v880.toNat, 0, 0]

def k0_chk62 (v879 : BitVec 32) : Prop :=
  (∀ a, (k0_off62 v879) a + S1x1x128x256.size a ≤ S8x16x128x256.size a)
theorem k0_off62_inb : ∀ (v879 : BitVec 32) (k0_hw62 : k0_chk62 v879), ∀ a, (k0_off62 v879) a + S1x1x128x256.size a ≤ S8x16x128x256.size a := fun v879 k0_hw62 => k0_hw62

def k0_off63 (v885 : BitVec 32) : Fin 4 → Nat :=
  let c7_401 : Index := 7#32
  let v886 : Index := Scalar.indexCast v885
  let c0_402 : Index := 0#32
  let c0_403 : Index := 0#32
  ![7, v886.toNat, 0, 0]

def k0_chk63 (v885 : BitVec 32) : Prop :=
  (∀ a, (k0_off63 v885) a + S1x1x128x256.size a ≤ S8x16x128x256.size a)
theorem k0_off63_inb : ∀ (v885 : BitVec 32) (k0_hw63 : k0_chk63 v885), ∀ a, (k0_off63 v885) a + S1x1x128x256.size a ≤ S8x16x128x256.size a := fun v885 k0_hw63 => k0_hw63

def k0_off64 (v890 : BitVec 32) : Fin 4 → Nat :=
  let c7_404 : Index := 7#32
  let v891 : Index := Scalar.indexCast v890
  let c0_405 : Index := 0#32
  let c0_406 : Index := 0#32
  ![7, v891.toNat, 0, 0]

def k0_chk64 (v890 : BitVec 32) : Prop :=
  (∀ a, (k0_off64 v890) a + S1x1x128x256.size a ≤ S8x16x128x256.size a)
theorem k0_off64_inb : ∀ (v890 : BitVec 32) (k0_hw64 : k0_chk64 v890), ∀ a, (k0_off64 v890) a + S1x1x128x256.size a ≤ S8x16x128x256.size a := fun v890 k0_hw64 => k0_hw64

def k0_off65 (v1033 : BitVec 32) : Fin 4 → Nat :=
  let c0_467 : Index := 0#32
  let v1034 : Index := Scalar.indexCast v1033
  let c0_468 : Index := 0#32
  let c0_469 : Index := 0#32
  ![0, v1034.toNat, 0, 0]

def k0_chk65 (v1033 : BitVec 32) : Prop :=
  (∀ a, (k0_off65 v1033) a + S1x1x128x256.size a ≤ S8x16x128x256.size a)
theorem k0_off65_inb : ∀ (v1033 : BitVec 32) (k0_hw65 : k0_chk65 v1033), ∀ a, (k0_off65 v1033) a + S1x1x128x256.size a ≤ S8x16x128x256.size a := fun v1033 k0_hw65 => k0_hw65

def k0_off66 (v1038 : BitVec 32) : Fin 4 → Nat :=
  let c0_470 : Index := 0#32
  let v1039 : Index := Scalar.indexCast v1038
  let c0_471 : Index := 0#32
  let c0_472 : Index := 0#32
  ![0, v1039.toNat, 0, 0]

def k0_chk66 (v1038 : BitVec 32) : Prop :=
  (∀ a, (k0_off66 v1038) a + S1x1x128x256.size a ≤ S8x16x128x256.size a)
theorem k0_off66_inb : ∀ (v1038 : BitVec 32) (k0_hw66 : k0_chk66 v1038), ∀ a, (k0_off66 v1038) a + S1x1x128x256.size a ≤ S8x16x128x256.size a := fun v1038 k0_hw66 => k0_hw66

def k0_off67 (v1044 : BitVec 32) : Fin 4 → Nat :=
  let c1_473 : Index := 1#32
  let v1045 : Index := Scalar.indexCast v1044
  let c0_474 : Index := 0#32
  let c0_475 : Index := 0#32
  ![1, v1045.toNat, 0, 0]

def k0_chk67 (v1044 : BitVec 32) : Prop :=
  (∀ a, (k0_off67 v1044) a + S1x1x128x256.size a ≤ S8x16x128x256.size a)
theorem k0_off67_inb : ∀ (v1044 : BitVec 32) (k0_hw67 : k0_chk67 v1044), ∀ a, (k0_off67 v1044) a + S1x1x128x256.size a ≤ S8x16x128x256.size a := fun v1044 k0_hw67 => k0_hw67

def k0_off68 (v1049 : BitVec 32) : Fin 4 → Nat :=
  let c1_476 : Index := 1#32
  let v1050 : Index := Scalar.indexCast v1049
  let c0_477 : Index := 0#32
  let c0_478 : Index := 0#32
  ![1, v1050.toNat, 0, 0]

def k0_chk68 (v1049 : BitVec 32) : Prop :=
  (∀ a, (k0_off68 v1049) a + S1x1x128x256.size a ≤ S8x16x128x256.size a)
theorem k0_off68_inb : ∀ (v1049 : BitVec 32) (k0_hw68 : k0_chk68 v1049), ∀ a, (k0_off68 v1049) a + S1x1x128x256.size a ≤ S8x16x128x256.size a := fun v1049 k0_hw68 => k0_hw68

def k0_off69 (v1055 : BitVec 32) : Fin 4 → Nat :=
  let c2_479 : Index := 2#32
  let v1056 : Index := Scalar.indexCast v1055
  let c0_480 : Index := 0#32
  let c0_481 : Index := 0#32
  ![2, v1056.toNat, 0, 0]

def k0_chk69 (v1055 : BitVec 32) : Prop :=
  (∀ a, (k0_off69 v1055) a + S1x1x128x256.size a ≤ S8x16x128x256.size a)
theorem k0_off69_inb : ∀ (v1055 : BitVec 32) (k0_hw69 : k0_chk69 v1055), ∀ a, (k0_off69 v1055) a + S1x1x128x256.size a ≤ S8x16x128x256.size a := fun v1055 k0_hw69 => k0_hw69

def k0_off70 (v1060 : BitVec 32) : Fin 4 → Nat :=
  let c2_482 : Index := 2#32
  let v1061 : Index := Scalar.indexCast v1060
  let c0_483 : Index := 0#32
  let c0_484 : Index := 0#32
  ![2, v1061.toNat, 0, 0]

def k0_chk70 (v1060 : BitVec 32) : Prop :=
  (∀ a, (k0_off70 v1060) a + S1x1x128x256.size a ≤ S8x16x128x256.size a)
theorem k0_off70_inb : ∀ (v1060 : BitVec 32) (k0_hw70 : k0_chk70 v1060), ∀ a, (k0_off70 v1060) a + S1x1x128x256.size a ≤ S8x16x128x256.size a := fun v1060 k0_hw70 => k0_hw70

def k0_off71 (v1066 : BitVec 32) : Fin 4 → Nat :=
  let c3_485 : Index := 3#32
  let v1067 : Index := Scalar.indexCast v1066
  let c0_486 : Index := 0#32
  let c0_487 : Index := 0#32
  ![3, v1067.toNat, 0, 0]

def k0_chk71 (v1066 : BitVec 32) : Prop :=
  (∀ a, (k0_off71 v1066) a + S1x1x128x256.size a ≤ S8x16x128x256.size a)
theorem k0_off71_inb : ∀ (v1066 : BitVec 32) (k0_hw71 : k0_chk71 v1066), ∀ a, (k0_off71 v1066) a + S1x1x128x256.size a ≤ S8x16x128x256.size a := fun v1066 k0_hw71 => k0_hw71

def k0_off72 (v1071 : BitVec 32) : Fin 4 → Nat :=
  let c3_488 : Index := 3#32
  let v1072 : Index := Scalar.indexCast v1071
  let c0_489 : Index := 0#32
  let c0_490 : Index := 0#32
  ![3, v1072.toNat, 0, 0]

def k0_chk72 (v1071 : BitVec 32) : Prop :=
  (∀ a, (k0_off72 v1071) a + S1x1x128x256.size a ≤ S8x16x128x256.size a)
theorem k0_off72_inb : ∀ (v1071 : BitVec 32) (k0_hw72 : k0_chk72 v1071), ∀ a, (k0_off72 v1071) a + S1x1x128x256.size a ≤ S8x16x128x256.size a := fun v1071 k0_hw72 => k0_hw72

def k0_off73 (v1077 : BitVec 32) : Fin 4 → Nat :=
  let c4_491 : Index := 4#32
  let v1078 : Index := Scalar.indexCast v1077
  let c0_492 : Index := 0#32
  let c0_493 : Index := 0#32
  ![4, v1078.toNat, 0, 0]

def k0_chk73 (v1077 : BitVec 32) : Prop :=
  (∀ a, (k0_off73 v1077) a + S1x1x128x256.size a ≤ S8x16x128x256.size a)
theorem k0_off73_inb : ∀ (v1077 : BitVec 32) (k0_hw73 : k0_chk73 v1077), ∀ a, (k0_off73 v1077) a + S1x1x128x256.size a ≤ S8x16x128x256.size a := fun v1077 k0_hw73 => k0_hw73

def k0_off74 (v1082 : BitVec 32) : Fin 4 → Nat :=
  let c4_494 : Index := 4#32
  let v1083 : Index := Scalar.indexCast v1082
  let c0_495 : Index := 0#32
  let c0_496 : Index := 0#32
  ![4, v1083.toNat, 0, 0]

def k0_chk74 (v1082 : BitVec 32) : Prop :=
  (∀ a, (k0_off74 v1082) a + S1x1x128x256.size a ≤ S8x16x128x256.size a)
theorem k0_off74_inb : ∀ (v1082 : BitVec 32) (k0_hw74 : k0_chk74 v1082), ∀ a, (k0_off74 v1082) a + S1x1x128x256.size a ≤ S8x16x128x256.size a := fun v1082 k0_hw74 => k0_hw74

def k0_off75 (v1088 : BitVec 32) : Fin 4 → Nat :=
  let c5_497 : Index := 5#32
  let v1089 : Index := Scalar.indexCast v1088
  let c0_498 : Index := 0#32
  let c0_499 : Index := 0#32
  ![5, v1089.toNat, 0, 0]

def k0_chk75 (v1088 : BitVec 32) : Prop :=
  (∀ a, (k0_off75 v1088) a + S1x1x128x256.size a ≤ S8x16x128x256.size a)
theorem k0_off75_inb : ∀ (v1088 : BitVec 32) (k0_hw75 : k0_chk75 v1088), ∀ a, (k0_off75 v1088) a + S1x1x128x256.size a ≤ S8x16x128x256.size a := fun v1088 k0_hw75 => k0_hw75

def k0_off76 (v1093 : BitVec 32) : Fin 4 → Nat :=
  let c5_500 : Index := 5#32
  let v1094 : Index := Scalar.indexCast v1093
  let c0_501 : Index := 0#32
  let c0_502 : Index := 0#32
  ![5, v1094.toNat, 0, 0]

def k0_chk76 (v1093 : BitVec 32) : Prop :=
  (∀ a, (k0_off76 v1093) a + S1x1x128x256.size a ≤ S8x16x128x256.size a)
theorem k0_off76_inb : ∀ (v1093 : BitVec 32) (k0_hw76 : k0_chk76 v1093), ∀ a, (k0_off76 v1093) a + S1x1x128x256.size a ≤ S8x16x128x256.size a := fun v1093 k0_hw76 => k0_hw76

def k0_off77 (v1099 : BitVec 32) : Fin 4 → Nat :=
  let c6_503 : Index := 6#32
  let v1100 : Index := Scalar.indexCast v1099
  let c0_504 : Index := 0#32
  let c0_505 : Index := 0#32
  ![6, v1100.toNat, 0, 0]

def k0_chk77 (v1099 : BitVec 32) : Prop :=
  (∀ a, (k0_off77 v1099) a + S1x1x128x256.size a ≤ S8x16x128x256.size a)
theorem k0_off77_inb : ∀ (v1099 : BitVec 32) (k0_hw77 : k0_chk77 v1099), ∀ a, (k0_off77 v1099) a + S1x1x128x256.size a ≤ S8x16x128x256.size a := fun v1099 k0_hw77 => k0_hw77

def k0_off78 (v1104 : BitVec 32) : Fin 4 → Nat :=
  let c6_506 : Index := 6#32
  let v1105 : Index := Scalar.indexCast v1104
  let c0_507 : Index := 0#32
  let c0_508 : Index := 0#32
  ![6, v1105.toNat, 0, 0]

def k0_chk78 (v1104 : BitVec 32) : Prop :=
  (∀ a, (k0_off78 v1104) a + S1x1x128x256.size a ≤ S8x16x128x256.size a)
theorem k0_off78_inb : ∀ (v1104 : BitVec 32) (k0_hw78 : k0_chk78 v1104), ∀ a, (k0_off78 v1104) a + S1x1x128x256.size a ≤ S8x16x128x256.size a := fun v1104 k0_hw78 => k0_hw78

def k0_off79 (v1110 : BitVec 32) : Fin 4 → Nat :=
  let c7_509 : Index := 7#32
  let v1111 : Index := Scalar.indexCast v1110
  let c0_510 : Index := 0#32
  let c0_511 : Index := 0#32
  ![7, v1111.toNat, 0, 0]

def k0_chk79 (v1110 : BitVec 32) : Prop :=
  (∀ a, (k0_off79 v1110) a + S1x1x128x256.size a ≤ S8x16x128x256.size a)
theorem k0_off79_inb : ∀ (v1110 : BitVec 32) (k0_hw79 : k0_chk79 v1110), ∀ a, (k0_off79 v1110) a + S1x1x128x256.size a ≤ S8x16x128x256.size a := fun v1110 k0_hw79 => k0_hw79

def k0_off80 (v1115 : BitVec 32) : Fin 4 → Nat :=
  let c7_512 : Index := 7#32
  let v1116 : Index := Scalar.indexCast v1115
  let c0_513 : Index := 0#32
  let c0_514 : Index := 0#32
  ![7, v1116.toNat, 0, 0]

def k0_chk80 (v1115 : BitVec 32) : Prop :=
  (∀ a, (k0_off80 v1115) a + S1x1x128x256.size a ≤ S8x16x128x256.size a)
theorem k0_off80_inb : ∀ (v1115 : BitVec 32) (k0_hw80 : k0_chk80 v1115), ∀ a, (k0_off80 v1115) a + S1x1x128x256.size a ≤ S8x16x128x256.size a := fun v1115 k0_hw80 => k0_hw80

def k0_off81 (v1258 : BitVec 32) : Fin 4 → Nat :=
  let c0_575 : Index := 0#32
  let v1259 : Index := Scalar.indexCast v1258
  let c0_576 : Index := 0#32
  let c0_577 : Index := 0#32
  ![0, v1259.toNat, 0, 0]

def k0_chk81 (v1258 : BitVec 32) : Prop :=
  (∀ a, (k0_off81 v1258) a + S1x1x128x256.size a ≤ S8x16x128x256.size a)
theorem k0_off81_inb : ∀ (v1258 : BitVec 32) (k0_hw81 : k0_chk81 v1258), ∀ a, (k0_off81 v1258) a + S1x1x128x256.size a ≤ S8x16x128x256.size a := fun v1258 k0_hw81 => k0_hw81

def k0_off82 (v1263 : BitVec 32) : Fin 4 → Nat :=
  let c0_578 : Index := 0#32
  let v1264 : Index := Scalar.indexCast v1263
  let c0_579 : Index := 0#32
  let c0_580 : Index := 0#32
  ![0, v1264.toNat, 0, 0]

def k0_chk82 (v1263 : BitVec 32) : Prop :=
  (∀ a, (k0_off82 v1263) a + S1x1x128x256.size a ≤ S8x16x128x256.size a)
theorem k0_off82_inb : ∀ (v1263 : BitVec 32) (k0_hw82 : k0_chk82 v1263), ∀ a, (k0_off82 v1263) a + S1x1x128x256.size a ≤ S8x16x128x256.size a := fun v1263 k0_hw82 => k0_hw82

def k0_off83 (v1269 : BitVec 32) : Fin 4 → Nat :=
  let c1_581 : Index := 1#32
  let v1270 : Index := Scalar.indexCast v1269
  let c0_582 : Index := 0#32
  let c0_583 : Index := 0#32
  ![1, v1270.toNat, 0, 0]

def k0_chk83 (v1269 : BitVec 32) : Prop :=
  (∀ a, (k0_off83 v1269) a + S1x1x128x256.size a ≤ S8x16x128x256.size a)
theorem k0_off83_inb : ∀ (v1269 : BitVec 32) (k0_hw83 : k0_chk83 v1269), ∀ a, (k0_off83 v1269) a + S1x1x128x256.size a ≤ S8x16x128x256.size a := fun v1269 k0_hw83 => k0_hw83

def k0_off84 (v1274 : BitVec 32) : Fin 4 → Nat :=
  let c1_584 : Index := 1#32
  let v1275 : Index := Scalar.indexCast v1274
  let c0_585 : Index := 0#32
  let c0_586 : Index := 0#32
  ![1, v1275.toNat, 0, 0]

def k0_chk84 (v1274 : BitVec 32) : Prop :=
  (∀ a, (k0_off84 v1274) a + S1x1x128x256.size a ≤ S8x16x128x256.size a)
theorem k0_off84_inb : ∀ (v1274 : BitVec 32) (k0_hw84 : k0_chk84 v1274), ∀ a, (k0_off84 v1274) a + S1x1x128x256.size a ≤ S8x16x128x256.size a := fun v1274 k0_hw84 => k0_hw84

def k0_off85 (v1280 : BitVec 32) : Fin 4 → Nat :=
  let c2_587 : Index := 2#32
  let v1281 : Index := Scalar.indexCast v1280
  let c0_588 : Index := 0#32
  let c0_589 : Index := 0#32
  ![2, v1281.toNat, 0, 0]

def k0_chk85 (v1280 : BitVec 32) : Prop :=
  (∀ a, (k0_off85 v1280) a + S1x1x128x256.size a ≤ S8x16x128x256.size a)
theorem k0_off85_inb : ∀ (v1280 : BitVec 32) (k0_hw85 : k0_chk85 v1280), ∀ a, (k0_off85 v1280) a + S1x1x128x256.size a ≤ S8x16x128x256.size a := fun v1280 k0_hw85 => k0_hw85

def k0_off86 (v1285 : BitVec 32) : Fin 4 → Nat :=
  let c2_590 : Index := 2#32
  let v1286 : Index := Scalar.indexCast v1285
  let c0_591 : Index := 0#32
  let c0_592 : Index := 0#32
  ![2, v1286.toNat, 0, 0]

def k0_chk86 (v1285 : BitVec 32) : Prop :=
  (∀ a, (k0_off86 v1285) a + S1x1x128x256.size a ≤ S8x16x128x256.size a)
theorem k0_off86_inb : ∀ (v1285 : BitVec 32) (k0_hw86 : k0_chk86 v1285), ∀ a, (k0_off86 v1285) a + S1x1x128x256.size a ≤ S8x16x128x256.size a := fun v1285 k0_hw86 => k0_hw86

def k0_off87 (v1291 : BitVec 32) : Fin 4 → Nat :=
  let c3_593 : Index := 3#32
  let v1292 : Index := Scalar.indexCast v1291
  let c0_594 : Index := 0#32
  let c0_595 : Index := 0#32
  ![3, v1292.toNat, 0, 0]

def k0_chk87 (v1291 : BitVec 32) : Prop :=
  (∀ a, (k0_off87 v1291) a + S1x1x128x256.size a ≤ S8x16x128x256.size a)
theorem k0_off87_inb : ∀ (v1291 : BitVec 32) (k0_hw87 : k0_chk87 v1291), ∀ a, (k0_off87 v1291) a + S1x1x128x256.size a ≤ S8x16x128x256.size a := fun v1291 k0_hw87 => k0_hw87

def k0_off88 (v1296 : BitVec 32) : Fin 4 → Nat :=
  let c3_596 : Index := 3#32
  let v1297 : Index := Scalar.indexCast v1296
  let c0_597 : Index := 0#32
  let c0_598 : Index := 0#32
  ![3, v1297.toNat, 0, 0]

def k0_chk88 (v1296 : BitVec 32) : Prop :=
  (∀ a, (k0_off88 v1296) a + S1x1x128x256.size a ≤ S8x16x128x256.size a)
theorem k0_off88_inb : ∀ (v1296 : BitVec 32) (k0_hw88 : k0_chk88 v1296), ∀ a, (k0_off88 v1296) a + S1x1x128x256.size a ≤ S8x16x128x256.size a := fun v1296 k0_hw88 => k0_hw88

def k0_off89 (v1302 : BitVec 32) : Fin 4 → Nat :=
  let c4_599 : Index := 4#32
  let v1303 : Index := Scalar.indexCast v1302
  let c0_600 : Index := 0#32
  let c0_601 : Index := 0#32
  ![4, v1303.toNat, 0, 0]

def k0_chk89 (v1302 : BitVec 32) : Prop :=
  (∀ a, (k0_off89 v1302) a + S1x1x128x256.size a ≤ S8x16x128x256.size a)
theorem k0_off89_inb : ∀ (v1302 : BitVec 32) (k0_hw89 : k0_chk89 v1302), ∀ a, (k0_off89 v1302) a + S1x1x128x256.size a ≤ S8x16x128x256.size a := fun v1302 k0_hw89 => k0_hw89

def k0_off90 (v1307 : BitVec 32) : Fin 4 → Nat :=
  let c4_602 : Index := 4#32
  let v1308 : Index := Scalar.indexCast v1307
  let c0_603 : Index := 0#32
  let c0_604 : Index := 0#32
  ![4, v1308.toNat, 0, 0]

def k0_chk90 (v1307 : BitVec 32) : Prop :=
  (∀ a, (k0_off90 v1307) a + S1x1x128x256.size a ≤ S8x16x128x256.size a)
theorem k0_off90_inb : ∀ (v1307 : BitVec 32) (k0_hw90 : k0_chk90 v1307), ∀ a, (k0_off90 v1307) a + S1x1x128x256.size a ≤ S8x16x128x256.size a := fun v1307 k0_hw90 => k0_hw90

def k0_off91 (v1313 : BitVec 32) : Fin 4 → Nat :=
  let c5_605 : Index := 5#32
  let v1314 : Index := Scalar.indexCast v1313
  let c0_606 : Index := 0#32
  let c0_607 : Index := 0#32
  ![5, v1314.toNat, 0, 0]

def k0_chk91 (v1313 : BitVec 32) : Prop :=
  (∀ a, (k0_off91 v1313) a + S1x1x128x256.size a ≤ S8x16x128x256.size a)
theorem k0_off91_inb : ∀ (v1313 : BitVec 32) (k0_hw91 : k0_chk91 v1313), ∀ a, (k0_off91 v1313) a + S1x1x128x256.size a ≤ S8x16x128x256.size a := fun v1313 k0_hw91 => k0_hw91

def k0_off92 (v1318 : BitVec 32) : Fin 4 → Nat :=
  let c5_608 : Index := 5#32
  let v1319 : Index := Scalar.indexCast v1318
  let c0_609 : Index := 0#32
  let c0_610 : Index := 0#32
  ![5, v1319.toNat, 0, 0]

def k0_chk92 (v1318 : BitVec 32) : Prop :=
  (∀ a, (k0_off92 v1318) a + S1x1x128x256.size a ≤ S8x16x128x256.size a)
theorem k0_off92_inb : ∀ (v1318 : BitVec 32) (k0_hw92 : k0_chk92 v1318), ∀ a, (k0_off92 v1318) a + S1x1x128x256.size a ≤ S8x16x128x256.size a := fun v1318 k0_hw92 => k0_hw92

def k0_off93 (v1324 : BitVec 32) : Fin 4 → Nat :=
  let c6_611 : Index := 6#32
  let v1325 : Index := Scalar.indexCast v1324
  let c0_612 : Index := 0#32
  let c0_613 : Index := 0#32
  ![6, v1325.toNat, 0, 0]

def k0_chk93 (v1324 : BitVec 32) : Prop :=
  (∀ a, (k0_off93 v1324) a + S1x1x128x256.size a ≤ S8x16x128x256.size a)
theorem k0_off93_inb : ∀ (v1324 : BitVec 32) (k0_hw93 : k0_chk93 v1324), ∀ a, (k0_off93 v1324) a + S1x1x128x256.size a ≤ S8x16x128x256.size a := fun v1324 k0_hw93 => k0_hw93

def k0_off94 (v1329 : BitVec 32) : Fin 4 → Nat :=
  let c6_614 : Index := 6#32
  let v1330 : Index := Scalar.indexCast v1329
  let c0_615 : Index := 0#32
  let c0_616 : Index := 0#32
  ![6, v1330.toNat, 0, 0]

def k0_chk94 (v1329 : BitVec 32) : Prop :=
  (∀ a, (k0_off94 v1329) a + S1x1x128x256.size a ≤ S8x16x128x256.size a)
theorem k0_off94_inb : ∀ (v1329 : BitVec 32) (k0_hw94 : k0_chk94 v1329), ∀ a, (k0_off94 v1329) a + S1x1x128x256.size a ≤ S8x16x128x256.size a := fun v1329 k0_hw94 => k0_hw94

def k0_off95 (v1335 : BitVec 32) : Fin 4 → Nat :=
  let c7_617 : Index := 7#32
  let v1336 : Index := Scalar.indexCast v1335
  let c0_618 : Index := 0#32
  let c0_619 : Index := 0#32
  ![7, v1336.toNat, 0, 0]

def k0_chk95 (v1335 : BitVec 32) : Prop :=
  (∀ a, (k0_off95 v1335) a + S1x1x128x256.size a ≤ S8x16x128x256.size a)
theorem k0_off95_inb : ∀ (v1335 : BitVec 32) (k0_hw95 : k0_chk95 v1335), ∀ a, (k0_off95 v1335) a + S1x1x128x256.size a ≤ S8x16x128x256.size a := fun v1335 k0_hw95 => k0_hw95

def k0_off96 (v1340 : BitVec 32) : Fin 4 → Nat :=
  let c7_620 : Index := 7#32
  let v1341 : Index := Scalar.indexCast v1340
  let c0_621 : Index := 0#32
  let c0_622 : Index := 0#32
  ![7, v1341.toNat, 0, 0]

def k0_chk96 (v1340 : BitVec 32) : Prop :=
  (∀ a, (k0_off96 v1340) a + S1x1x128x256.size a ≤ S8x16x128x256.size a)
theorem k0_off96_inb : ∀ (v1340 : BitVec 32) (k0_hw96 : k0_chk96 v1340), ∀ a, (k0_off96 v1340) a + S1x1x128x256.size a ≤ S8x16x128x256.size a := fun v1340 k0_hw96 => k0_hw96

def k0_off97 (v1476 : BitVec 32) : Fin 4 → Nat :=
  let c0_682 : Index := 0#32
  let v1477 : Index := Scalar.indexCast v1476
  let c0_683 : Index := 0#32
  let c0_684 : Index := 0#32
  ![0, v1477.toNat, 0, 0]

def k0_chk97 (v1476 : BitVec 32) : Prop :=
  (∀ a, (k0_off97 v1476) a + S1x1x128x256.size a ≤ S8x16x128x256.size a)
theorem k0_off97_inb : ∀ (v1476 : BitVec 32) (k0_hw97 : k0_chk97 v1476), ∀ a, (k0_off97 v1476) a + S1x1x128x256.size a ≤ S8x16x128x256.size a := fun v1476 k0_hw97 => k0_hw97

def k0_off98 (v1481 : BitVec 32) : Fin 4 → Nat :=
  let c0_685 : Index := 0#32
  let v1482 : Index := Scalar.indexCast v1481
  let c0_686 : Index := 0#32
  let c0_687 : Index := 0#32
  ![0, v1482.toNat, 0, 0]

def k0_chk98 (v1481 : BitVec 32) : Prop :=
  (∀ a, (k0_off98 v1481) a + S1x1x128x256.size a ≤ S8x16x128x256.size a)
theorem k0_off98_inb : ∀ (v1481 : BitVec 32) (k0_hw98 : k0_chk98 v1481), ∀ a, (k0_off98 v1481) a + S1x1x128x256.size a ≤ S8x16x128x256.size a := fun v1481 k0_hw98 => k0_hw98

def k0_off99 (v1487 : BitVec 32) : Fin 4 → Nat :=
  let c1_688 : Index := 1#32
  let v1488 : Index := Scalar.indexCast v1487
  let c0_689 : Index := 0#32
  let c0_690 : Index := 0#32
  ![1, v1488.toNat, 0, 0]

def k0_chk99 (v1487 : BitVec 32) : Prop :=
  (∀ a, (k0_off99 v1487) a + S1x1x128x256.size a ≤ S8x16x128x256.size a)
theorem k0_off99_inb : ∀ (v1487 : BitVec 32) (k0_hw99 : k0_chk99 v1487), ∀ a, (k0_off99 v1487) a + S1x1x128x256.size a ≤ S8x16x128x256.size a := fun v1487 k0_hw99 => k0_hw99

def k0_off100 (v1492 : BitVec 32) : Fin 4 → Nat :=
  let c1_691 : Index := 1#32
  let v1493 : Index := Scalar.indexCast v1492
  let c0_692 : Index := 0#32
  let c0_693 : Index := 0#32
  ![1, v1493.toNat, 0, 0]

def k0_chk100 (v1492 : BitVec 32) : Prop :=
  (∀ a, (k0_off100 v1492) a + S1x1x128x256.size a ≤ S8x16x128x256.size a)
theorem k0_off100_inb : ∀ (v1492 : BitVec 32) (k0_hw100 : k0_chk100 v1492), ∀ a, (k0_off100 v1492) a + S1x1x128x256.size a ≤ S8x16x128x256.size a := fun v1492 k0_hw100 => k0_hw100

def k0_off101 (v1498 : BitVec 32) : Fin 4 → Nat :=
  let c2_694 : Index := 2#32
  let v1499 : Index := Scalar.indexCast v1498
  let c0_695 : Index := 0#32
  let c0_696 : Index := 0#32
  ![2, v1499.toNat, 0, 0]

def k0_chk101 (v1498 : BitVec 32) : Prop :=
  (∀ a, (k0_off101 v1498) a + S1x1x128x256.size a ≤ S8x16x128x256.size a)
theorem k0_off101_inb : ∀ (v1498 : BitVec 32) (k0_hw101 : k0_chk101 v1498), ∀ a, (k0_off101 v1498) a + S1x1x128x256.size a ≤ S8x16x128x256.size a := fun v1498 k0_hw101 => k0_hw101

def k0_off102 (v1503 : BitVec 32) : Fin 4 → Nat :=
  let c2_697 : Index := 2#32
  let v1504 : Index := Scalar.indexCast v1503
  let c0_698 : Index := 0#32
  let c0_699 : Index := 0#32
  ![2, v1504.toNat, 0, 0]

def k0_chk102 (v1503 : BitVec 32) : Prop :=
  (∀ a, (k0_off102 v1503) a + S1x1x128x256.size a ≤ S8x16x128x256.size a)
theorem k0_off102_inb : ∀ (v1503 : BitVec 32) (k0_hw102 : k0_chk102 v1503), ∀ a, (k0_off102 v1503) a + S1x1x128x256.size a ≤ S8x16x128x256.size a := fun v1503 k0_hw102 => k0_hw102

def k0_off103 (v1509 : BitVec 32) : Fin 4 → Nat :=
  let c3_700 : Index := 3#32
  let v1510 : Index := Scalar.indexCast v1509
  let c0_701 : Index := 0#32
  let c0_702 : Index := 0#32
  ![3, v1510.toNat, 0, 0]

def k0_chk103 (v1509 : BitVec 32) : Prop :=
  (∀ a, (k0_off103 v1509) a + S1x1x128x256.size a ≤ S8x16x128x256.size a)
theorem k0_off103_inb : ∀ (v1509 : BitVec 32) (k0_hw103 : k0_chk103 v1509), ∀ a, (k0_off103 v1509) a + S1x1x128x256.size a ≤ S8x16x128x256.size a := fun v1509 k0_hw103 => k0_hw103

def k0_off104 (v1514 : BitVec 32) : Fin 4 → Nat :=
  let c3_703 : Index := 3#32
  let v1515 : Index := Scalar.indexCast v1514
  let c0_704 : Index := 0#32
  let c0_705 : Index := 0#32
  ![3, v1515.toNat, 0, 0]

def k0_chk104 (v1514 : BitVec 32) : Prop :=
  (∀ a, (k0_off104 v1514) a + S1x1x128x256.size a ≤ S8x16x128x256.size a)
theorem k0_off104_inb : ∀ (v1514 : BitVec 32) (k0_hw104 : k0_chk104 v1514), ∀ a, (k0_off104 v1514) a + S1x1x128x256.size a ≤ S8x16x128x256.size a := fun v1514 k0_hw104 => k0_hw104

def k0_off105 (v1520 : BitVec 32) : Fin 4 → Nat :=
  let c4_706 : Index := 4#32
  let v1521 : Index := Scalar.indexCast v1520
  let c0_707 : Index := 0#32
  let c0_708 : Index := 0#32
  ![4, v1521.toNat, 0, 0]

def k0_chk105 (v1520 : BitVec 32) : Prop :=
  (∀ a, (k0_off105 v1520) a + S1x1x128x256.size a ≤ S8x16x128x256.size a)
theorem k0_off105_inb : ∀ (v1520 : BitVec 32) (k0_hw105 : k0_chk105 v1520), ∀ a, (k0_off105 v1520) a + S1x1x128x256.size a ≤ S8x16x128x256.size a := fun v1520 k0_hw105 => k0_hw105

def k0_off106 (v1525 : BitVec 32) : Fin 4 → Nat :=
  let c4_709 : Index := 4#32
  let v1526 : Index := Scalar.indexCast v1525
  let c0_710 : Index := 0#32
  let c0_711 : Index := 0#32
  ![4, v1526.toNat, 0, 0]

def k0_chk106 (v1525 : BitVec 32) : Prop :=
  (∀ a, (k0_off106 v1525) a + S1x1x128x256.size a ≤ S8x16x128x256.size a)
theorem k0_off106_inb : ∀ (v1525 : BitVec 32) (k0_hw106 : k0_chk106 v1525), ∀ a, (k0_off106 v1525) a + S1x1x128x256.size a ≤ S8x16x128x256.size a := fun v1525 k0_hw106 => k0_hw106

def k0_off107 (v1531 : BitVec 32) : Fin 4 → Nat :=
  let c5_712 : Index := 5#32
  let v1532 : Index := Scalar.indexCast v1531
  let c0_713 : Index := 0#32
  let c0_714 : Index := 0#32
  ![5, v1532.toNat, 0, 0]

def k0_chk107 (v1531 : BitVec 32) : Prop :=
  (∀ a, (k0_off107 v1531) a + S1x1x128x256.size a ≤ S8x16x128x256.size a)
theorem k0_off107_inb : ∀ (v1531 : BitVec 32) (k0_hw107 : k0_chk107 v1531), ∀ a, (k0_off107 v1531) a + S1x1x128x256.size a ≤ S8x16x128x256.size a := fun v1531 k0_hw107 => k0_hw107

def k0_off108 (v1536 : BitVec 32) : Fin 4 → Nat :=
  let c5_715 : Index := 5#32
  let v1537 : Index := Scalar.indexCast v1536
  let c0_716 : Index := 0#32
  let c0_717 : Index := 0#32
  ![5, v1537.toNat, 0, 0]

def k0_chk108 (v1536 : BitVec 32) : Prop :=
  (∀ a, (k0_off108 v1536) a + S1x1x128x256.size a ≤ S8x16x128x256.size a)
theorem k0_off108_inb : ∀ (v1536 : BitVec 32) (k0_hw108 : k0_chk108 v1536), ∀ a, (k0_off108 v1536) a + S1x1x128x256.size a ≤ S8x16x128x256.size a := fun v1536 k0_hw108 => k0_hw108

def k0_off109 (v1542 : BitVec 32) : Fin 4 → Nat :=
  let c6_718 : Index := 6#32
  let v1543 : Index := Scalar.indexCast v1542
  let c0_719 : Index := 0#32
  let c0_720 : Index := 0#32
  ![6, v1543.toNat, 0, 0]

def k0_chk109 (v1542 : BitVec 32) : Prop :=
  (∀ a, (k0_off109 v1542) a + S1x1x128x256.size a ≤ S8x16x128x256.size a)
theorem k0_off109_inb : ∀ (v1542 : BitVec 32) (k0_hw109 : k0_chk109 v1542), ∀ a, (k0_off109 v1542) a + S1x1x128x256.size a ≤ S8x16x128x256.size a := fun v1542 k0_hw109 => k0_hw109

def k0_off110 (v1547 : BitVec 32) : Fin 4 → Nat :=
  let c6_721 : Index := 6#32
  let v1548 : Index := Scalar.indexCast v1547
  let c0_722 : Index := 0#32
  let c0_723 : Index := 0#32
  ![6, v1548.toNat, 0, 0]

def k0_chk110 (v1547 : BitVec 32) : Prop :=
  (∀ a, (k0_off110 v1547) a + S1x1x128x256.size a ≤ S8x16x128x256.size a)
theorem k0_off110_inb : ∀ (v1547 : BitVec 32) (k0_hw110 : k0_chk110 v1547), ∀ a, (k0_off110 v1547) a + S1x1x128x256.size a ≤ S8x16x128x256.size a := fun v1547 k0_hw110 => k0_hw110

def k0_off111 (v1553 : BitVec 32) : Fin 4 → Nat :=
  let c7_724 : Index := 7#32
  let v1554 : Index := Scalar.indexCast v1553
  let c0_725 : Index := 0#32
  let c0_726 : Index := 0#32
  ![7, v1554.toNat, 0, 0]

def k0_chk111 (v1553 : BitVec 32) : Prop :=
  (∀ a, (k0_off111 v1553) a + S1x1x128x256.size a ≤ S8x16x128x256.size a)
theorem k0_off111_inb : ∀ (v1553 : BitVec 32) (k0_hw111 : k0_chk111 v1553), ∀ a, (k0_off111 v1553) a + S1x1x128x256.size a ≤ S8x16x128x256.size a := fun v1553 k0_hw111 => k0_hw111

def k0_off112 (v1558 : BitVec 32) : Fin 4 → Nat :=
  let c7_727 : Index := 7#32
  let v1559 : Index := Scalar.indexCast v1558
  let c0_728 : Index := 0#32
  let c0_729 : Index := 0#32
  ![7, v1559.toNat, 0, 0]

def k0_chk112 (v1558 : BitVec 32) : Prop :=
  (∀ a, (k0_off112 v1558) a + S1x1x128x256.size a ≤ S8x16x128x256.size a)
theorem k0_off112_inb : ∀ (v1558 : BitVec 32) (k0_hw112 : k0_chk112 v1558), ∀ a, (k0_off112 v1558) a + S1x1x128x256.size a ≤ S8x16x128x256.size a := fun v1558 k0_hw112 => k0_hw112

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x8x128x16x16 : Shape := ⟨5, ![16, 8, 128, 16, 16]⟩
abbrev S1x2x7x7 : Shape := ⟨4, ![1, 2, 7, 7]⟩
abbrev S1 : Shape := ⟨1, ![1]⟩
abbrev S15 : Shape := ⟨1, ![15]⟩
abbrev S15x1 : Shape := ⟨2, ![15, 1]⟩
abbrev S1x15 : Shape := ⟨2, ![1, 15]⟩
abbrev S15x15 : Shape := ⟨2, ![15, 15]⟩
abbrev S_ : Shape := ⟨0, ![]⟩
abbrev S16x7x128x16x16 : Shape := ⟨5, ![16, 7, 128, 16, 16]⟩
abbrev S16x15x128x16x16 : Shape := ⟨5, ![16, 15, 128, 16, 16]⟩
abbrev S16x15 : Shape := ⟨2, ![16, 15]⟩
abbrev S16x15x32768 : Shape := ⟨3, ![16, 15, 32768]⟩
abbrev S16x15x1 : Shape := ⟨3, ![16, 15, 1]⟩
abbrev S16x1x15 : Shape := ⟨3, ![16, 1, 15]⟩
abbrev S16x15x15 : Shape := ⟨3, ![16, 15, 15]⟩
abbrev S1x15x15 : Shape := ⟨3, ![1, 15, 15]⟩
abbrev S16x225 : Shape := ⟨2, ![16, 225]⟩
abbrev S16 : Shape := ⟨1, ![16]⟩
abbrev S16x1x1 : Shape := ⟨3, ![16, 1, 1]⟩
abbrev S16x1x32768 : Shape := ⟨3, ![16, 1, 32768]⟩
abbrev S16x128x16x16 : Shape := ⟨4, ![16, 128, 16, 16]⟩
abbrev S16x128x1x16x16 : Shape := ⟨5, ![16, 128, 1, 16, 16]⟩
abbrev S16x128x2x16x16 : Shape := ⟨5, ![16, 128, 2, 16, 16]⟩
abbrev S2048x2x16x16 : Shape := ⟨4, ![2048, 2, 16, 16]⟩
abbrev S2048x2x22x22 : Shape := ⟨4, ![2048, 2, 22, 22]⟩
abbrev S16x1x1x1 : Shape := ⟨4, ![16, 1, 1, 1]⟩
abbrev S7 : Shape := ⟨1, ![7]⟩
abbrev S1x1x7x1 : Shape := ⟨4, ![1, 1, 7, 1]⟩
abbrev S16x1x7x1 : Shape := ⟨4, ![16, 1, 7, 1]⟩
abbrev S1x16x1x1 : Shape := ⟨4, ![1, 16, 1, 1]⟩
abbrev S1x1x1x7 : Shape := ⟨4, ![1, 1, 1, 7]⟩
abbrev S1x16x1x7 : Shape := ⟨4, ![1, 16, 1, 7]⟩
abbrev S16x16x7x7 : Shape := ⟨4, ![16, 16, 7, 7]⟩
abbrev S16x16x7x7x1 : Shape := ⟨5, ![16, 16, 7, 7, 1]⟩
abbrev S16x16x7x7x2 : Shape := ⟨5, ![16, 16, 7, 7, 2]⟩
abbrev S2048x2x16x16x7x7 : Shape := ⟨6, ![2048, 2, 16, 16, 7, 7]⟩
abbrev S2x7x7 : Shape := ⟨3, ![2, 7, 7]⟩
abbrev S2048x16x16 : Shape := ⟨3, ![2048, 16, 16]⟩
abbrev S1x1x1 : Shape := ⟨3, ![1, 1, 1]⟩
abbrev S16x1 : Shape := ⟨2, ![16, 1]⟩
abbrev S1x15x1x1x1 : Shape := ⟨5, ![1, 15, 1, 1, 1]⟩
abbrev S16x1x128x16x16 : Shape := ⟨5, ![16, 1, 128, 16, 16]⟩

abbrev nBuf : Space → Nat
  | .hbm => 199
  | .vmem => 0
  | .smem => 0
  | _ => 0

abbrev hbmTy0_0 (i : Nat) : BufTy := match i % 128 with
  | 0 => ⟨S16x8x128x16x16, .f32⟩
  | 1 => ⟨S1x2x7x7, .f32⟩
  | 2 => ⟨S1, .f32⟩
  | 3 => ⟨S15, .i32⟩
  | 4 => ⟨S15x1, .i32⟩
  | 5 => ⟨S1x15, .i32⟩
  | 6 => ⟨S15x15, .i32⟩
  | 7 => ⟨S15x15, .i32⟩
  | 8 => ⟨S15x15, .i1⟩
  | 9 => ⟨S_, .f32⟩
  | 10 => ⟨S16x7x128x16x16, .f32⟩
  | 11 => ⟨S16x15x128x16x16, .f32⟩
  | 12 => ⟨S_, .i32⟩
  | 13 => ⟨S15, .i32⟩
  | 14 => ⟨S15, .i1⟩
  | 15 => ⟨S16x15, .i1⟩
  | 16 => ⟨S_, .i32⟩
  | 17 => ⟨S_, .i32⟩
  | 18 => ⟨S15x15, .i1⟩
  | 19 => ⟨S1x2x7x7, .f32⟩
  | 20 => ⟨S1, .f32⟩
  | 21 => ⟨S15, .i32⟩
  | 22 => ⟨S_, .i32⟩
  | 23 => ⟨S_, .i32⟩
  | 24 => ⟨S16x15x128x16x16, .f32⟩
  | 25 => ⟨S16x15, .i1⟩
  | 26 => ⟨S_, .i32⟩
  | 27 => ⟨S_, .i1⟩
  | 28 => ⟨S_, .i32⟩
  | 29 => ⟨S_, .i32⟩
  | 30 => ⟨S16x15x32768, .f32⟩
  | 31 => ⟨S16x15x32768, .f32⟩
  | 32 => ⟨S_, .f32⟩
  | 33 => ⟨S16x15, .f32⟩
  | 34 => ⟨S16x15x1, .f32⟩
  | 35 => ⟨S16x1x15, .f32⟩
  | 36 => ⟨S16x15x15, .f32⟩
  | 37 => ⟨S16x15x15, .f32⟩
  | 38 => ⟨S16x15x15, .f32⟩
  | 39 => ⟨S16x15x15, .f32⟩
  | 40 => ⟨S_, .f32⟩
  | 41 => ⟨S16x15x15, .f32⟩
  | 42 => ⟨S16x15x15, .f32⟩
  | 43 => ⟨S16x15x15, .f32⟩
  | 44 => ⟨S16x15x1, .i1⟩
  | 45 => ⟨S16x1x15, .i1⟩
  | 46 => ⟨S16x15x15, .i1⟩
  | 47 => ⟨S16x15x15, .i1⟩
  | 48 => ⟨S16x15x15, .i1⟩
  | 49 => ⟨S1x15x15, .i1⟩
  | 50 => ⟨S16x15x15, .i1⟩
  | 51 => ⟨S16x15x15, .i1⟩
  | 52 => ⟨S_, .f32⟩
  | 53 => ⟨S_, .f32⟩
  | 54 => ⟨S16x15x15, .f32⟩
  | 55 => ⟨S16x15x15, .f32⟩
  | 56 => ⟨S16x225, .f32⟩
  | 57 => ⟨S16x225, .i32⟩
  | 58 => ⟨S_, .f32⟩
  | 59 => ⟨S_, .i32⟩
  | 60 => ⟨S16, .f32⟩
  | 61 => ⟨S16, .i32⟩
  | 62 => ⟨S_, .i32⟩
  | 63 => ⟨S_, .i32⟩
  | 64 => ⟨S16, .i32⟩
  | 65 => ⟨S16, .i32⟩
  | 66 => ⟨S16, .i32⟩
  | 67 => ⟨S_, .i32⟩
  | 68 => ⟨S16, .i32⟩
  | 69 => ⟨S16, .i1⟩
  | 70 => ⟨S16, .i32⟩
  | 71 => ⟨S16, .i32⟩
  | 72 => ⟨S_, .i32⟩
  | 73 => ⟨S16, .i32⟩
  | 74 => ⟨S16, .i1⟩
  | 75 => ⟨S16, .i1⟩
  | 76 => ⟨S_, .i32⟩
  | 77 => ⟨S16, .i32⟩
  | 78 => ⟨S16, .i32⟩
  | 79 => ⟨S16, .i32⟩
  | 80 => ⟨S_, .i32⟩
  | 81 => ⟨S_, .i32⟩
  | 82 => ⟨S_, .i32⟩
  | 83 => ⟨S_, .i1⟩
  | 84 => ⟨S_, .i32⟩
  | 85 => ⟨S_, .i32⟩
  | 86 => ⟨S16, .i32⟩
  | 87 => ⟨S16, .i32⟩
  | 88 => ⟨S_, .i32⟩
  | 89 => ⟨S16, .i32⟩
  | 90 => ⟨S16, .i1⟩
  | 91 => ⟨S_, .i32⟩
  | 92 => ⟨S16, .i32⟩
  | 93 => ⟨S16, .i1⟩
  | 94 => ⟨S_, .i32⟩
  | 95 => ⟨S_, .i1⟩
  | 96 => ⟨S16, .i1⟩
  | 97 => ⟨S16, .i1⟩
  | 98 => ⟨S16, .i1⟩
  | 99 => ⟨S16, .i32⟩
  | 100 => ⟨S16, .i32⟩
  | 101 => ⟨S16, .i32⟩
  | 102 => ⟨S16x1x1, .i32⟩
  | 103 => ⟨S_, .i32⟩
  | 104 => ⟨S16x1x1, .i32⟩
  | 105 => ⟨S16x1x1, .i1⟩
  | 106 => ⟨S_, .i32⟩
  | 107 => ⟨S16x1x1, .i32⟩
  | 108 => ⟨S16x1x1, .i32⟩
  | 109 => ⟨S16x1x1, .i32⟩
  | 110 => ⟨S16x1x32768, .f32⟩
  | 111 => ⟨S16x128x16x16, .f32⟩
  | 112 => ⟨S16x1x1, .i32⟩
  | 113 => ⟨S_, .i32⟩
  | 114 => ⟨S16x1x1, .i32⟩
  | 115 => ⟨S16x1x1, .i1⟩
  | 116 => ⟨S_, .i32⟩
  | 117 => ⟨S16x1x1, .i32⟩
  | 118 => ⟨S16x1x1, .i32⟩
  | 119 => ⟨S16x1x1, .i32⟩
  | 120 => ⟨S16x1x32768, .f32⟩
  | 121 => ⟨S16x128x16x16, .f32⟩
  | 122 => ⟨S16x128x1x16x16, .f32⟩
  | 123 => ⟨S16x128x1x16x16, .f32⟩
  | 124 => ⟨S16x128x2x16x16, .f32⟩
  | 125 => ⟨S2048x2x16x16, .f32⟩
  | 126 => ⟨S_, .i32⟩
  | 127 => ⟨S_, .f32⟩
  | _ => ⟨S16x8x128x16x16, .f32⟩

abbrev hbmTy0_1 (i : Nat) : BufTy := match i % 128 with
  | 0 => ⟨S2048x2x22x22, .f32⟩
  | 1 => ⟨S16, .i32⟩
  | 2 => ⟨S16x1x1x1, .i32⟩
  | 3 => ⟨S7, .i32⟩
  | 4 => ⟨S1x1x7x1, .i32⟩
  | 5 => ⟨S16x1x7x1, .i32⟩
  | 6 => ⟨S16x1x7x1, .i32⟩
  | 7 => ⟨S16x1x7x1, .i32⟩
  | 8 => ⟨S16, .i32⟩
  | 9 => ⟨S1x16x1x1, .i32⟩
  | 10 => ⟨S7, .i32⟩
  | 11 => ⟨S1x1x1x7, .i32⟩
  | 12 => ⟨S1x16x1x7, .i32⟩
  | 13 => ⟨S1x16x1x7, .i32⟩
  | 14 => ⟨S1x16x1x7, .i32⟩
  | 15 => ⟨S_, .i32⟩
  | 16 => ⟨S16x1x7x1, .i32⟩
  | 17 => ⟨S16x1x7x1, .i1⟩
  | 18 => ⟨S_, .i32⟩
  | 19 => ⟨S16x1x7x1, .i32⟩
  | 20 => ⟨S16x1x7x1, .i32⟩
  | 21 => ⟨S16x1x7x1, .i32⟩
  | 22 => ⟨S_, .i32⟩
  | 23 => ⟨S1x16x1x7, .i32⟩
  | 24 => ⟨S1x16x1x7, .i1⟩
  | 25 => ⟨S_, .i32⟩
  | 26 => ⟨S1x16x1x7, .i32⟩
  | 27 => ⟨S1x16x1x7, .i32⟩
  | 28 => ⟨S1x16x1x7, .i32⟩
  | 29 => ⟨S16x16x7x7, .i32⟩
  | 30 => ⟨S16x16x7x7, .i32⟩
  | 31 => ⟨S16x16x7x7x1, .i32⟩
  | 32 => ⟨S16x16x7x7x1, .i32⟩
  | 33 => ⟨S16x16x7x7x2, .i32⟩
  | 34 => ⟨S2048x2x16x16x7x7, .f32⟩
  | 35 => ⟨S2x7x7, .f32⟩
  | 36 => ⟨S2048x16x16, .f32⟩
  | 37 => ⟨S1x1x1, .f32⟩
  | 38 => ⟨S2048x16x16, .f32⟩
  | 39 => ⟨S2048x16x16, .f32⟩
  | 40 => ⟨S16x128x16x16, .f32⟩
  | 41 => ⟨S_, .i32⟩
  | 42 => ⟨S_, .i32⟩
  | 43 => ⟨S_, .i32⟩
  | 44 => ⟨S15, .i32⟩
  | 45 => ⟨S15, .i1⟩
  | 46 => ⟨S16x1, .i32⟩
  | 47 => ⟨S1x15, .i32⟩
  | 48 => ⟨S16x15, .i32⟩
  | 49 => ⟨S16x15, .i32⟩
  | 50 => ⟨S16x15, .i1⟩
  | 51 => ⟨S16x1, .i32⟩
  | 52 => ⟨S1x15, .i32⟩
  | 53 => ⟨S16x15, .i32⟩
  | 54 => ⟨S16x15, .i32⟩
  | 55 => ⟨S16x15, .i1⟩
  | 56 => ⟨S16x15, .i1⟩
  | 57 => ⟨S1x15x1x1x1, .i1⟩
  | 58 => ⟨S16x1x128x16x16, .f32⟩
  | 59 => ⟨S16x15x128x16x16, .i1⟩
  | 60 => ⟨S16x15x128x16x16, .f32⟩
  | 61 => ⟨S16x15x128x16x16, .f32⟩
  | 62 => ⟨S16x15, .i1⟩
  | 63 => ⟨S16x15, .i1⟩
  | 64 => ⟨S1x15, .i1⟩
  | 65 => ⟨S16x15, .i1⟩
  | 66 => ⟨S16x15, .i1⟩
  | 67 => ⟨S_, .i32⟩
  | 68 => ⟨S_, .i32⟩
  | 69 => ⟨S16x1x128x16x16, .f32⟩
  | 70 => ⟨S16x128x16x16, .f32⟩
  | _ => ⟨S16x8x128x16x16, .f32⟩

abbrev hbmTy (i : Nat) : BufTy := match i / 128 with
  | 0 => hbmTy0_0 i
  | 1 => hbmTy0_1 i
  | _ => ⟨S16x8x128x16x16, .f32⟩

abbrev bufTy : (tb : Table) → Fin (tcTables nBuf tb) → BufTy
  | .hbm, ⟨i, _⟩ => hbmTy i
  | _, _ => ⟨S16x8x128x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_c_1 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v11_7 : Ref sig .tc := ⟨.hbm, 25, rfl⟩
abbrev main_while0c_c_9 : Ref sig .tc := ⟨.hbm, 26, rfl⟩
abbrev main_while0c_v14 : Ref sig .tc := ⟨.hbm, 27, rfl⟩
abbrev main_while0b_c_9 : Ref sig .tc := ⟨.hbm, 28, rfl⟩
abbrev main_while0b_v14 : Ref sig .tc := ⟨.hbm, 29, rfl⟩
abbrev main_while0b_v15 : Ref sig .tc := ⟨.hbm, 30, rfl⟩
abbrev main_while0b_v16 : Ref sig .tc := ⟨.hbm, 31, rfl⟩
abbrev main_while0b_cst_10 : Ref sig .tc := ⟨.hbm, 32, rfl⟩
abbrev main_while0b_v17 : Ref sig .tc := ⟨.hbm, 33, rfl⟩
abbrev main_while0b_v18 : Ref sig .tc := ⟨.hbm, 34, rfl⟩
abbrev main_while0b_v19 : Ref sig .tc := ⟨.hbm, 35, rfl⟩
abbrev main_while0b_v20 : Ref sig .tc := ⟨.hbm, 36, rfl⟩
abbrev main_while0b_v21 : Ref sig .tc := ⟨.hbm, 37, rfl⟩
abbrev main_while0b_v22 : Ref sig .tc := ⟨.hbm, 38, rfl⟩
abbrev main_while0b_v23 : Ref sig .tc := ⟨.hbm, 39, rfl⟩
abbrev main_while0b_cst_11 : Ref sig .tc := ⟨.hbm, 40, rfl⟩
abbrev main_while0b_v24 : Ref sig .tc := ⟨.hbm, 41, rfl⟩
abbrev main_while0b_v25 : Ref sig .tc := ⟨.hbm, 42, rfl⟩
abbrev main_while0b_v26 : Ref sig .tc := ⟨.hbm, 43, rfl⟩
abbrev main_while0b_v27 : Ref sig .tc := ⟨.hbm, 44, rfl⟩
abbrev main_while0b_v28 : Ref sig .tc := ⟨.hbm, 45, rfl⟩
abbrev main_while0b_v29 : Ref sig .tc := ⟨.hbm, 46, rfl⟩
abbrev main_while0b_v30 : Ref sig .tc := ⟨.hbm, 47, rfl⟩
abbrev main_while0b_v31 : Ref sig .tc := ⟨.hbm, 48, rfl⟩
abbrev main_while0b_v32 : Ref sig .tc := ⟨.hbm, 49, rfl⟩
abbrev main_while0b_v33 : Ref sig .tc := ⟨.hbm, 50, rfl⟩
abbrev main_while0b_v34 : Ref sig .tc := ⟨.hbm, 51, rfl⟩
abbrev main_while0b_cst_12 : Ref sig .tc := ⟨.hbm, 52, rfl⟩
abbrev main_while0b_call0_v0 : Ref sig .tc := ⟨.hbm, 53, rfl⟩
abbrev main_while0b_call0_v1 : Ref sig .tc := ⟨.hbm, 54, rfl⟩
abbrev main_while0b_v35 : Ref sig .tc := ⟨.hbm, 55, rfl⟩
abbrev main_while0b_v36 : Ref sig .tc := ⟨.hbm, 56, rfl⟩
abbrev main_while0b_call1_v0 : Ref sig .tc := ⟨.hbm, 57, rfl⟩
abbrev main_while0b_call1_cst : Ref sig .tc := ⟨.hbm, 58, rfl⟩
abbrev main_while0b_call1_c : Ref sig .tc := ⟨.hbm, 59, rfl⟩
abbrev main_while0b_call1_v1_0 : Ref sig .tc := ⟨.hbm, 60, rfl⟩
abbrev main_while0b_v37 : Ref sig .tc := ⟨.hbm, 61, rfl⟩
abbrev main_while0b_c_13 : Ref sig .tc := ⟨.hbm, 62, rfl⟩
abbrev main_while0b_call2_v0 : Ref sig .tc := ⟨.hbm, 63, rfl⟩
abbrev main_while0b_call2_v1 : Ref sig .tc := ⟨.hbm, 64, rfl⟩
abbrev main_while0b_call2_v2 : Ref sig .tc := ⟨.hbm, 65, rfl⟩
abbrev main_while0b_call2_v3 : Ref sig .tc := ⟨.hbm, 66, rfl⟩
abbrev main_while0b_call2_v4 : Ref sig .tc := ⟨.hbm, 67, rfl⟩
abbrev main_while0b_call2_v5 : Ref sig .tc := ⟨.hbm, 68, rfl⟩
abbrev main_while0b_call2_v6 : Ref sig .tc := ⟨.hbm, 69, rfl⟩
abbrev main_while0b_call2_v7 : Ref sig .tc := ⟨.hbm, 70, rfl⟩
abbrev main_while0b_call2_v8 : Ref sig .tc := ⟨.hbm, 71, rfl⟩
abbrev main_while0b_call2_c : Ref sig .tc := ⟨.hbm, 72, rfl⟩
abbrev main_while0b_call2_v9 : Ref sig .tc := ⟨.hbm, 73, rfl⟩
abbrev main_while0b_call2_v10 : Ref sig .tc := ⟨.hbm, 74, rfl⟩
abbrev main_while0b_call2_v11 : Ref sig .tc := ⟨.hbm, 75, rfl⟩
abbrev main_while0b_call2_c_0 : Ref sig .tc := ⟨.hbm, 76, rfl⟩
abbrev main_while0b_call2_v12 : Ref sig .tc := ⟨.hbm, 77, rfl⟩
abbrev main_while0b_call2_v13 : Ref sig .tc := ⟨.hbm, 78, rfl⟩
abbrev main_while0b_v38 : Ref sig .tc := ⟨.hbm, 79, rfl⟩
abbrev main_while0b_c_14 : Ref sig .tc := ⟨.hbm, 80, rfl⟩
abbrev main_while0b_call3_v0 : Ref sig .tc := ⟨.hbm, 81, rfl⟩
abbrev main_while0b_call3_c : Ref sig .tc := ⟨.hbm, 82, rfl⟩
abbrev main_while0b_call3_v1 : Ref sig .tc := ⟨.hbm, 83, rfl⟩
abbrev main_while0b_call3_c_0 : Ref sig .tc := ⟨.hbm, 84, rfl⟩
abbrev main_while0b_call3_v2 : Ref sig .tc := ⟨.hbm, 85, rfl⟩
abbrev main_while0b_call3_v3 : Ref sig .tc := ⟨.hbm, 86, rfl⟩
abbrev main_while0b_call3_v4 : Ref sig .tc := ⟨.hbm, 87, rfl⟩
abbrev main_while0b_call3_c_1 : Ref sig .tc := ⟨.hbm, 88, rfl⟩
abbrev main_while0b_call3_v5 : Ref sig .tc := ⟨.hbm, 89, rfl⟩
abbrev main_while0b_call3_v6 : Ref sig .tc := ⟨.hbm, 90, rfl⟩
abbrev main_while0b_call3_c_2 : Ref sig .tc := ⟨.hbm, 91, rfl⟩
abbrev main_while0b_call3_v7 : Ref sig .tc := ⟨.hbm, 92, rfl⟩
abbrev main_while0b_call3_v8 : Ref sig .tc := ⟨.hbm, 93, rfl⟩
abbrev main_while0b_call3_c_3 : Ref sig .tc := ⟨.hbm, 94, rfl⟩
abbrev main_while0b_call3_v9 : Ref sig .tc := ⟨.hbm, 95, rfl⟩
abbrev main_while0b_call3_v10 : Ref sig .tc := ⟨.hbm, 96, rfl⟩
abbrev main_while0b_call3_v11 : Ref sig .tc := ⟨.hbm, 97, rfl⟩
abbrev main_while0b_call3_v12 : Ref sig .tc := ⟨.hbm, 98, rfl⟩
abbrev main_while0b_call3_v13 : Ref sig .tc := ⟨.hbm, 99, rfl⟩
abbrev main_while0b_call3_v14 : Ref sig .tc := ⟨.hbm, 100, rfl⟩
abbrev main_while0b_v39 : Ref sig .tc := ⟨.hbm, 101, rfl⟩
abbrev main_while0b_v40 : Ref sig .tc := ⟨.hbm, 102, rfl⟩
abbrev main_while0b_call4_c : Ref sig .tc := ⟨.hbm, 103, rfl⟩
abbrev main_while0b_call4_v0 : Ref sig .tc := ⟨.hbm, 104, rfl⟩
abbrev main_while0b_call4_v1 : Ref sig .tc := ⟨.hbm, 105, rfl⟩
abbrev main_while0b_call4_c_0 : Ref sig .tc := ⟨.hbm, 106, rfl⟩
abbrev main_while0b_call4_v2 : Ref sig .tc := ⟨.hbm, 107, rfl⟩
abbrev main_while0b_call4_v3 : Ref sig .tc := ⟨.hbm, 108, rfl⟩
abbrev main_while0b_call4_v4 : Ref sig .tc := ⟨.hbm, 109, rfl⟩
abbrev main_while0b_v41 : Ref sig .tc := ⟨.hbm, 110, rfl⟩
abbrev main_while0b_v42 : Ref sig .tc := ⟨.hbm, 111, rfl⟩
abbrev main_while0b_v43 : Ref sig .tc := ⟨.hbm, 112, rfl⟩
abbrev main_while0b_call5_c : Ref sig .tc := ⟨.hbm, 113, rfl⟩
abbrev main_while0b_call5_v0 : Ref sig .tc := ⟨.hbm, 114, rfl⟩
abbrev main_while0b_call5_v1 : Ref sig .tc := ⟨.hbm, 115, rfl⟩
abbrev main_while0b_call5_c_0 : Ref sig .tc := ⟨.hbm, 116, rfl⟩
abbrev main_while0b_call5_v2 : Ref sig .tc := ⟨.hbm, 117, rfl⟩
abbrev main_while0b_call5_v3 : Ref sig .tc := ⟨.hbm, 118, rfl⟩
abbrev main_while0b_call5_v4 : Ref sig .tc := ⟨.hbm, 119, rfl⟩
abbrev main_while0b_v44 : Ref sig .tc := ⟨.hbm, 120, rfl⟩
abbrev main_while0b_v45 : Ref sig .tc := ⟨.hbm, 121, rfl⟩
abbrev main_while0b_v46 : Ref sig .tc := ⟨.hbm, 122, rfl⟩
abbrev main_while0b_v47 : Ref sig .tc := ⟨.hbm, 123, rfl⟩
abbrev main_while0b_v48 : Ref sig .tc := ⟨.hbm, 124, rfl⟩
abbrev main_while0b_v49 : Ref sig .tc := ⟨.hbm, 125, rfl⟩
abbrev main_while0b_c_15 : Ref sig .tc := ⟨.hbm, 126, rfl⟩
abbrev main_while0b_call6_v0 : Ref sig .tc := ⟨.hbm, 127, rfl⟩
abbrev main_while0b_v50 : Ref sig .tc := ⟨.hbm, 128, rfl⟩
abbrev main_while0b_v51 : Ref sig .tc := ⟨.hbm, 129, rfl⟩
abbrev main_while0b_v52 : Ref sig .tc := ⟨.hbm, 130, rfl⟩
abbrev main_while0b_v53 : Ref sig .tc := ⟨.hbm, 131, rfl⟩
abbrev main_while0b_v54 : Ref sig .tc := ⟨.hbm, 132, rfl⟩
abbrev main_while0b_v55 : Ref sig .tc := ⟨.hbm, 133, rfl⟩
abbrev main_while0b_v56 : Ref sig .tc := ⟨.hbm, 134, rfl⟩
abbrev main_while0b_v57 : Ref sig .tc := ⟨.hbm, 135, rfl⟩
abbrev main_while0b_v58 : Ref sig .tc := ⟨.hbm, 136, rfl⟩
abbrev main_while0b_v59 : Ref sig .tc := ⟨.hbm, 137, rfl⟩
abbrev main_while0b_v60 : Ref sig .tc := ⟨.hbm, 138, rfl⟩
abbrev main_while0b_v61 : Ref sig .tc := ⟨.hbm, 139, rfl⟩
abbrev main_while0b_v62 : Ref sig .tc := ⟨.hbm, 140, rfl⟩
abbrev main_while0b_v63 : Ref sig .tc := ⟨.hbm, 141, rfl⟩
abbrev main_while0b_v64 : Ref sig .tc := ⟨.hbm, 142, rfl⟩
abbrev main_while0b_c_16 : Ref sig .tc := ⟨.hbm, 143, rfl⟩
abbrev main_while0b_v65 : Ref sig .tc := ⟨.hbm, 144, rfl⟩
abbrev main_while0b_v66 : Ref sig .tc := ⟨.hbm, 145, rfl⟩
abbrev main_while0b_c_17 : Ref sig .tc := ⟨.hbm, 146, rfl⟩
abbrev main_while0b_v67 : Ref sig .tc := ⟨.hbm, 147, rfl⟩
abbrev main_while0b_v68 : Ref sig .tc := ⟨.hbm, 148, rfl⟩
abbrev main_while0b_v69 : Ref sig .tc := ⟨.hbm, 149, rfl⟩
abbrev main_while0b_c_18 : Ref sig .tc := ⟨.hbm, 150, rfl⟩
abbrev main_while0b_v70 : Ref sig .tc := ⟨.hbm, 151, rfl⟩
abbrev main_while0b_v71 : Ref sig .tc := ⟨.hbm, 152, rfl⟩
abbrev main_while0b_c_19 : Ref sig .tc := ⟨.hbm, 153, rfl⟩
abbrev main_while0b_v72 : Ref sig .tc := ⟨.hbm, 154, rfl⟩
abbrev main_while0b_v73 : Ref sig .tc := ⟨.hbm, 155, rfl⟩
abbrev main_while0b_v74 : Ref sig .tc := ⟨.hbm, 156, rfl⟩
abbrev main_while0b_v75 : Ref sig .tc := ⟨.hbm, 157, rfl⟩
abbrev main_while0b_v76 : Ref sig .tc := ⟨.hbm, 158, rfl⟩
abbrev main_while0b_v77 : Ref sig .tc := ⟨.hbm, 159, rfl⟩
abbrev main_while0b_v78 : Ref sig .tc := ⟨.hbm, 160, rfl⟩
abbrev main_while0b_v79 : Ref sig .tc := ⟨.hbm, 161, rfl⟩
abbrev main_while0b_v80 : Ref sig .tc := ⟨.hbm, 162, rfl⟩
abbrev main_while0b_v81 : Ref sig .tc := ⟨.hbm, 163, rfl⟩
abbrev main_while0b_v82 : Ref sig .tc := ⟨.hbm, 164, rfl⟩
abbrev main_while0b_v83 : Ref sig .tc := ⟨.hbm, 165, rfl⟩
abbrev main_while0b_v84 : Ref sig .tc := ⟨.hbm, 166, rfl⟩
abbrev main_while0b_v85 : Ref sig .tc := ⟨.hbm, 167, rfl⟩
abbrev main_while0b_v86 : Ref sig .tc := ⟨.hbm, 168, rfl⟩
abbrev main_while0b_c_20 : Ref sig .tc := ⟨.hbm, 169, rfl⟩
abbrev main_while0b_v87 : Ref sig .tc := ⟨.hbm, 170, rfl⟩
abbrev main_while0b_v88 : Ref sig .tc := ⟨.hbm, 171, rfl⟩
abbrev main_while0b_v89 : Ref sig .tc := ⟨.hbm, 172, rfl⟩
abbrev main_while0b_v90 : Ref sig .tc := ⟨.hbm, 173, rfl⟩
abbrev main_while0b_v91 : Ref sig .tc := ⟨.hbm, 174, rfl⟩
abbrev main_while0b_v92 : Ref sig .tc := ⟨.hbm, 175, rfl⟩
abbrev main_while0b_v93 : Ref sig .tc := ⟨.hbm, 176, rfl⟩
abbrev main_while0b_v94 : Ref sig .tc := ⟨.hbm, 177, rfl⟩
abbrev main_while0b_v95 : Ref sig .tc := ⟨.hbm, 178, rfl⟩
abbrev main_while0b_v96 : Ref sig .tc := ⟨.hbm, 179, rfl⟩
abbrev main_while0b_v97 : Ref sig .tc := ⟨.hbm, 180, rfl⟩
abbrev main_while0b_v98 : Ref sig .tc := ⟨.hbm, 181, rfl⟩
abbrev main_while0b_v99 : Ref sig .tc := ⟨.hbm, 182, rfl⟩
abbrev main_while0b_v100 : Ref sig .tc := ⟨.hbm, 183, rfl⟩
abbrev main_while0b_v101 : Ref sig .tc := ⟨.hbm, 184, rfl⟩
abbrev main_while0b_v102 : Ref sig .tc := ⟨.hbm, 185, rfl⟩
abbrev main_while0b_v103 : Ref sig .tc := ⟨.hbm, 186, rfl⟩
abbrev main_while0b_call7_v0 : Ref sig .tc := ⟨.hbm, 187, rfl⟩
abbrev main_while0b_call7_v1 : Ref sig .tc := ⟨.hbm, 188, rfl⟩
abbrev main_while0b_v104 : Ref sig .tc := ⟨.hbm, 189, rfl⟩
abbrev main_while0b_v105 : Ref sig .tc := ⟨.hbm, 190, rfl⟩
abbrev main_while0b_v106 : Ref sig .tc := ⟨.hbm, 191, rfl⟩
abbrev main_while0b_v107 : Ref sig .tc := ⟨.hbm, 192, rfl⟩
abbrev main_while0b_v108 : Ref sig .tc := ⟨.hbm, 193, rfl⟩
abbrev main_while0b_v109 : Ref sig .tc := ⟨.hbm, 194, rfl⟩
abbrev main_while0b_c_21 : Ref sig .tc := ⟨.hbm, 195, rfl⟩
abbrev main_while0b_v110 : Ref sig .tc := ⟨.hbm, 196, rfl⟩
abbrev main_v12 : Ref sig .tc := ⟨.hbm, 197, rfl⟩
abbrev main_v13 : Ref sig .tc := ⟨.hbm, 198, rfl⟩

abbrev nD : Nat := 1
abbrev τ : Topo := Topo.v7x

variable {F : FTy → Type} [FloatOps F]

abbrev main_while0_count : Scf.Loop 32 := ⟨0#32, 7#32, 1#32⟩
-- ==== Proof.Spec.lean ====
module

public import Idealize.ShloMosaic.Lib.ValueIdx

@[expose] public section

noncomputable section

namespace Cert.Spec

open Idealize.ShloMosaic

/-- One item of a batch row: 128 channels of 16 × 16 pixels, the pixels in row-major order. -/
abbrev Item : Type := Fin 128 → Fin 256 → EReal

/-- The inner product of two items. -/
def dot (u v : Item) : EReal := ∑ c : Fin 128, ∑ q : Fin 256, u c q * v c q

/-- The value of the literal `2.0` that both programs multiply by. -/
def two : EReal := Ideal.ofBits .f32 0x40000000#32

/-- The squared distance of two items, by the inner products. -/
def dist (u v : Item) : EReal := dot u u + dot v v - two * dot u v

/-- The 7 × 7 filter taps, for each of the two merged items. -/
abbrev Taps : Type := Fin 2 → Fin 7 → Fin 7 → EReal

/-- The item standing in input channel `d` of a merge. -/
def pick (d : Fin 2) (l r : Item) : Item := if d = 0 then l else r

/-- Pixel `(a, e)` of a 16 × 16 image in row-major order. -/
def pix (a e : Fin 16) : Fin 256 := ⟨a.val * 16 + e.val, by omega⟩

/-- The contribution to output pixel `q` of input pixel `(a, e)` through the filter `f`: the tap at the offset from one
    to the other, if the filter reaches that far. -/
def reach (f : Fin 7 → Fin 7 → EReal) (q : Fin 256) (a e : Fin 16) (x : EReal) : EReal :=
  ∑ k : Fin 7, ∑ n : Fin 7, if a.val + 3 = q.val / 16 + k.val ∧ e.val + 3 = q.val % 16 + n.val then x * f k n else 0

/-- Two items merged: the 7 × 7 filter over both, zero outside the images, plus the bias. -/
def merge (w : Taps) (bias : EReal) (l r : Item) : Item := fun c q =>
  (∑ d : Fin 2, ∑ a : Fin 16, ∑ e : Fin 16, reach (w d) q a e (pick d l r c (pix a e))) + bias

/-- The least flat index `16 r + c` at which a table over pairs `(r, c)` is smallest. -/
def sel (key : ℕ → ℕ → EReal) : ℕ :=
  sInf {q | q < 256 ∧ ∀ q' < 256, key (q / 16) (q % 16) ≤ key (q' / 16) (q' % 16)}

/-- The agglomeration's state in one batch row: the items by number, and which of them are still to be merged. -/
structure St where
  t : ℕ → Item
  act : ℕ → Prop

open Classical in
/-- The distance of pair `(r, c)` where both are active and `r` is the later; `⊤` elsewhere. -/
def key (s : St) (r c : ℕ) : EReal := if s.act r ∧ s.act c ∧ c < r then dist (s.t r) (s.t c) else ⊤

/-- The later item of the closest pair, -/
def later (s : St) : ℕ := sel (key s) / 16
/-- and the earlier. -/
def earlier (s : St) : ℕ := sel (key s) % 16

/-- One round: the closest pair is merged into item `p`, the two become inactive and `p` active. -/
def step (w : Taps) (bias : EReal) (p : ℕ) (s : St) : St where
  t := Function.update s.t p (merge w bias (s.t (earlier s)) (s.t (later s)))
  act i := i = p ∨ (s.act i ∧ i ≠ later s ∧ i ≠ earlier s)

/-- The state before round `k`, from eight items all active. -/
def state (w : Taps) (bias : EReal) (x : ℕ → Item) : ℕ → St
  | 0 => ⟨x, fun i => i < 8⟩
  | k + 1 => step w bias (8 + k) (state w bias x k)

/-- The result: the item the seventh round appends. -/
def result (w : Taps) (bias : EReal) (x : ℕ → Item) : Item := (state w bias x 7).t 14

/-- The inner product is symmetric. -/
theorem dot_comm (u v : Item) : dot u v = dot v u := by
  unfold dot
  exact Finset.sum_congr rfl fun c _ => Finset.sum_congr rfl fun q _ => mul_comm _ _

/-- An index at which the table is smallest, and no smaller index is as good, is the one selected. -/
theorem sel_eq {f : ℕ → ℕ → EReal} {q : ℕ} (hq : q < 256)
    (hmin : ∀ q' < 256, f (q / 16) (q % 16) ≤ f (q' / 16) (q' % 16))
    (hfirst : ∀ q' < 256, f (q' / 16) (q' % 16) = f (q / 16) (q % 16) → q ≤ q') : sel f = q := by
  unfold sel
  apply le_antisymm
  · exact Nat.sInf_le ⟨hq, hmin⟩
  · have hne : {q | q < 256 ∧ ∀ q' < 256, f (q / 16) (q % 16) ≤ f (q' / 16) (q' % 16)}.Nonempty := ⟨q, hq, hmin⟩
    obtain ⟨h1, h2⟩ := Nat.sInf_mem hne
    exact hfirst _ h1 (le_antisymm (h2 q hq) (hmin _ h1))

/-- The same by the pair's coordinates. -/
theorem sel_eq_pair {f : ℕ → ℕ → EReal} {r c : ℕ} (hr : r < 16) (hc : c < 16)
    (hmin : ∀ r' < 16, ∀ c' < 16, f r c ≤ f r' c')
    (hfirst : ∀ r' < 16, ∀ c' < 16, f r' c' = f r c → r < r' ∨ (r = r' ∧ c ≤ c')) : sel f = r * 16 + c := by
  have h1 : (r * 16 + c) / 16 = r := by omega
  have h2 : (r * 16 + c) % 16 = c := by omega
  refine sel_eq (by omega) ?_ ?_
  · rw [h1, h2]; exact fun q' hq' => hmin _ (by omega) _ (by omega)
  · rw [h1, h2]; intro q' hq' he
    have := hfirst _ (by omega) _ (by omega) he
    omega

/-- The selected index is below 256. -/
theorem sel_lt (f : ℕ → ℕ → EReal) : sel f < 256 := by
  have hne : {q | q < 256 ∧ ∀ q' < 256, f (q / 16) (q % 16) ≤ f (q' / 16) (q' % 16)}.Nonempty := by
    obtain ⟨q, hq, hm⟩ := Finset.exists_min_image (Finset.range 256) (fun q => f (q / 16) (q % 16)) ⟨0, by simp⟩
    exact ⟨q, by simpa using hq, fun q' hq' => hm q' (by simpa using hq')⟩
  exact (Nat.sInf_mem hne).1

/-- Only items already made are active. -/
theorem act_lt (w : Taps) (bias : EReal) (x : ℕ → Item) (k i : ℕ) (h : (state w bias x k).act i) : i < 8 + k := by
  induction k generalizing i with
  | zero => exact h
  | succ k ih =>
    rcases h with h | ⟨h, -⟩
    · omega
    · have := ih i h; omega

/-- A round leaves the items other than its own as they were. -/
theorem step_t_of_ne (w : Taps) (bias : EReal) (p : ℕ) (s : St) {i : ℕ} (h : i ≠ p) : (step w bias p s).t i = s.t i :=
  Function.update_of_ne h _ _

/-- Its own item is the merge. -/
theorem step_t_self (w : Taps) (bias : EReal) (p : ℕ) (s : St) :
    (step w bias p s).t p = merge w bias (s.t (earlier s)) (s.t (later s)) :=
  Function.update_self _ _ _

end Cert.Spec

end
-- ==== Proof.Answer.lean ====
module

public import proofs.«01_k».proof.Proof.Spec
public import Idealize.ShloMosaic.Lib.Pointwise.IndexVar

@[expose] public section

noncomputable section

namespace Cert.Spec

open Idealize.ShloMosaic

/-- The eight given items of batch row `b`, by number. -/
def items (x : FVec Ideal ⟨5, ![16, 8, 128, 16, 16]⟩ .f32) (b : Fin 16) : ℕ → Item := fun i c q =>
  if h : i < 8 then x (ix5 b ⟨i, h⟩ c ⟨q.val / 16, by omega⟩ ⟨q.val % 16, by omega⟩) else 0

/-- What both programs compute from the items, the filter and the bias: every batch row agglomerated. -/
def answer (x : FVec Ideal ⟨5, ![16, 8, 128, 16, 16]⟩ .f32) (w : FVec Ideal ⟨4, ![1, 2, 7, 7]⟩ .f32) (bias : FVec Ideal ⟨1, ![1]⟩ .f32)
    (b : Fin 16) : Item :=
  result (fun d k n => w (ix4 0 d k n)) (bias (ix1 0)) (items x b)

end Cert.Spec

end
-- ==== Proof.Step.lean ====
module
public import Idealize.ShloMosaic.Lib.Pointwise
public import proofs.«01_k».proof.Proof.Spec
@[expose] public section
noncomputable section
namespace Cert.Step
open Idealize.ShloMosaic Cert.Spec

/-- Tables over pairs of items, for the eight batch rows of a grid point. -/
abbrev P3 : Shape := ⟨3, ![8, 16, 16]⟩
/-- One number for each batch row, in the three shapes it is held in. -/
abbrev P1 : Shape := ⟨1, ![8]⟩
abbrev P11 : Shape := ⟨3, ![8, 1, 1]⟩
abbrev P0 : Shape := ⟨3, ![1, 1, 1]⟩
/-- One number for each item of each batch row. -/
abbrev P2 : Shape := ⟨2, ![8, 16]⟩
abbrev R2 : Shape := ⟨2, ![1, 16]⟩

/-- The pairs' row numbers, -/
def row : IVec P3 32 := iota .tc P3 32 [1]
/-- their column numbers, -/
def col : IVec P3 32 := iota .tc P3 32 [2]
/-- and the flat index `16 r + c`. -/
def flat : IVec P3 32 := addi (muli row (broadcast P3 16#32)) col

/-- The distances masked to the valid pairs. -/
def deff (ar ac D : FVec Ideal P3 .f32) : FVec Ideal P3 .f32 :=
  select (andi (andi (cmpf .ogt ar (broadcast P3 (Scalar.ofBits .f32 0x3F000000#32)))
    (cmpf .ogt ac (broadcast P3 (Scalar.ofBits .f32 0x3F000000#32)))) (cmpi .sgt row col)) D
    (broadcast P3 (Scalar.ofBits .f32 0x7F800000#32))

/-- The smallest masked distance of a batch row, at every pair. -/
def dmin (v : FVec Ideal P3 .f32) : FVec Ideal P3 .f32 :=
  broadcastTo P3 (shapeCast P11 (multiReduction .minimumf [1, 2] P1 v 0x7F800000#32 (by decide) (.inl rfl) rfl))

/-- The first flat index at which it is attained. -/
def fidx (v : FVec Ideal P3 .f32) : IVec P11 32 :=
  shapeCast P11 (multiReductionI .minsi [1, 2] P1 (select (cmpf .oeq v (dmin v)) flat (broadcast P3 1073741824#32))
    2147483647#32 (by decide) rfl)

/-- The flat index divided by 16, rounding down. -/
def quot (v : IVec P11 32) : IVec P11 32 :=
  select (andi (cmpi .ne (subi (extui 32 (cmpi .sgt v (broadcast P11 0#32))) (extui 32 (cmpi .slt v (broadcast P11 0#32))))
      (broadcast P11 (Scalar.subi (Scalar.extui (Scalar.cmpi .sgt 16#32 0#32)) (Scalar.extui (Scalar.cmpi .slt 16#32 0#32)))))
    (cmpi .ne (remsi v (broadcast P11 16#32)) (broadcast P11 0#32)))
    (subi (divsi v (broadcast P11 16#32)) (broadcast P11 1#32)) (divsi v (broadcast P11 16#32))

/-- The remainder. -/
def rem (v : IVec P11 32) : IVec P11 32 := subi v (muli (quot v) (broadcast P11 16#32))

/-! ### The literals and the words -/

/-- The pattern of positive infinity is the top of the extended reals. -/
theorem ofBits_inf : Ideal.ofBits .f32 0x7F800000#32 = ⊤ := by simp [Ideal.ofBits, Ideal.ieee]

/-- The pattern of one half. -/
theorem ofBits_half : Ideal.ofBits .f32 0x3F000000#32 = (((1 : ℝ) / 2 : ℝ) : EReal) := by
  simp [Ideal.ofBits, Ideal.ieee, -EReal.coe_mul]; norm_num

/-- An active item's number exceeds one half, -/
theorem half_lt_one : Ideal.ofBits .f32 0x3F000000#32 < (1 : EReal) := by
  rw [ofBits_half, show (1 : EReal) = ((1 : ℝ) : EReal) by norm_cast, EReal.coe_lt_coe_iff]; norm_num

/-- an inactive one's does not, -/
theorem not_half_lt_zero : ¬ Ideal.ofBits .f32 0x3F000000#32 < (0 : EReal) := by
  rw [ofBits_half, show (0 : EReal) = ((0 : ℝ) : EReal) by norm_cast, EReal.coe_lt_coe_iff]; norm_num

open Classical in
/-- The activity of an item as the number the kernel keeps it as. -/
def flag (p : Prop) : EReal := if p then 1 else 0

/-- so the compare with one half gives the activity back. -/
theorem half_lt_flag (p : Prop) : Ideal.ofBits .f32 0x3F000000#32 < flag p ↔ p := by
  unfold flag
  by_cases h : p
  · simp [h, half_lt_one]
  · simp [h, not_half_lt_zero]

/-- A small number as a signed word is itself. -/
theorem toInt_small {n : ℕ} (h : n < 2 ^ 31) : (BitVec.ofNat 32 n).toInt = n := by
  have hn : (BitVec.ofNat 32 n).toNat = n := by rw [BitVec.toNat_ofNat]; exact Nat.mod_eq_of_lt (by omega)
  rw [BitVec.toInt_eq_toNat_of_lt (by omega), hn]

/-- Small numbers are equal when their words are. -/
theorem ofNat_inj_small {m n : ℕ} (hm : m < 2 ^ 31) (hn : n < 2 ^ 31) : BitVec.ofNat 32 m = BitVec.ofNat 32 n ↔ m = n := by
  refine ⟨fun h => ?_, fun h => by rw [h]⟩
  have := congrArg BitVec.toInt h
  rw [toInt_small hm, toInt_small hn] at this
  exact_mod_cast this

/-- The signed compare of small numbers, -/
theorem sgt_small {m n : ℕ} (hm : m < 2 ^ 31) (hn : n < 2 ^ 31) :
    IntOp.cmpi .sgt (BitVec.ofNat 32 m) (BitVec.ofNat 32 n) = BitVec.ofBool (decide (n < m)) := by
  unfold IntOp.cmpi
  simp only [BitVec.slt, toInt_small hm, toInt_small hn, Nat.cast_lt]

/-- and their equality. -/
theorem eq_small {m n : ℕ} (hm : m < 2 ^ 31) (hn : n < 2 ^ 31) :
    IntOp.cmpi .eq (BitVec.ofNat 32 m) (BitVec.ofNat 32 n) = BitVec.ofBool (decide (m = n)) := by
  unfold IntOp.cmpi
  simp only [beq_eq_decide, ofNat_inj_small hm hn]

/-- Division by sixteen has no exceptional case, -/
theorem divsi16 (u : ArithUnit) (x : BitVec 32) : IntOp.divsi u x 16#32 = x.sdiv 16#32 :=
  if_neg (by unfold IntOp.SDivCorner; simp)

/-- and neither has the remainder. -/
theorem remsi16 (u : ArithUnit) (x : BitVec 32) : IntOp.remsi u x 16#32 = x.srem 16#32 :=
  if_neg (by unfold IntOp.SDivCorner; simp)

/-- Conjunction of bits, -/
theorem and_ofBool (a b : Bool) : IntOp.andi (BitVec.ofBool a) (BitVec.ofBool b) = BitVec.ofBool (a && b) := by
  cases a <;> cases b <;> rfl

/-- disjunction of bits, -/
theorem or_ofBool (a b : Bool) : IntOp.ori (BitVec.ofBool a) (BitVec.ofBool b) = BitVec.ofBool (a || b) := by
  cases a <;> cases b <;> rfl

/-- and the choice by a bit. -/
theorem select_ofBool {α : Type} (p : Prop) [Decidable p] (x y : α) :
    Scalar.select (BitVec.ofBool (decide p)) x y = if p then x else y := by
  by_cases h : p <;> simp [h, Scalar.select]

/-! ### The running minima -/

/-- A fold of the signed minimum is below all its elements and is one of them (or its start). -/
theorem fold_minsi {ι : Type} [DecidableEq ι] (f : ι → BitVec 32) (s : Finset ι) (z : BitVec 32) :
    (∀ x ∈ s, (Finset.fold IntOp.minsi z f s).toInt ≤ (f x).toInt) ∧ (Finset.fold IntOp.minsi z f s).toInt ≤ z.toInt ∧
      (Finset.fold IntOp.minsi z f s = z ∨ ∃ x ∈ s, Finset.fold IntOp.minsi z f s = f x) := by
  induction s using Finset.induction_on with
  | empty => simp
  | insert a s ha ih =>
    obtain ⟨h1, h2, h3⟩ := ih
    rw [Finset.fold_insert ha]
    set w := Finset.fold IntOp.minsi z f s
    by_cases hlt : (f a).slt w
    · have he : IntOp.minsi (f a) w = f a := if_pos hlt
      have hlt' : (f a).toInt < w.toInt := by simpa [BitVec.slt] using hlt
      rw [he]
      refine ⟨fun x hx => ?_, by omega, .inr ⟨a, by simp, rfl⟩⟩
      rcases Finset.mem_insert.1 hx with rfl | hx
      · exact le_rfl
      · exact hlt'.le.trans (h1 x hx)
    · have he : IntOp.minsi (f a) w = w := if_neg hlt
      have hlt' : w.toInt ≤ (f a).toInt := by simpa [BitVec.slt] using hlt
      rw [he]
      refine ⟨fun x hx => ?_, h2, ?_⟩
      · rcases Finset.mem_insert.1 hx with rfl | hx
        · exact hlt'
        · exact h1 x hx
      · rcases h3 with h3 | ⟨x, hx, h3⟩
        · exact .inl h3
        · exact .inr ⟨x, Finset.mem_insert_of_mem hx, h3⟩

/-- The minimum of finitely many extended reals from `⊤` is below them all, and one of them when there are any. -/
theorem fold_min_spec {ι : Type} [Fintype ι] [Nonempty ι] (f : ι → EReal) :
    (∀ x, Finset.fold min ⊤ f Finset.univ ≤ f x) ∧ ∃ x, Finset.fold min ⊤ f Finset.univ = f x := by
  have h1 : ∀ x, Finset.fold min ⊤ f Finset.univ ≤ f x := fun x =>
    (Finset.fold_min_le _).2 (.inr ⟨x, Finset.mem_univ x, le_rfl⟩)
  refine ⟨h1, ?_⟩
  obtain ⟨x, -, hx⟩ := Finset.exists_min_image Finset.univ f Finset.univ_nonempty
  exact ⟨x, le_antisymm (h1 x) ((Finset.le_fold_min _).2 ⟨le_top, fun y hy => hx y hy⟩)⟩

/-! ### The choice of the pair -/

/-- The row number of a pair, -/
theorem row_apply (b : Fin 8) (r c : Fin 16) : row (ix3 b r c) = BitVec.ofNat 32 r.val := by
  pointwise [row]

/-- its column number, -/
theorem col_apply (b : Fin 8) (r c : Fin 16) : col (ix3 b r c) = BitVec.ofNat 32 c.val := by
  pointwise [col]

/-- and its flat index. -/
theorem flat_apply (b : Fin 8) (r c : Fin 16) : flat (ix3 b r c) = BitVec.ofNat 32 (r.val * 16 + c.val) := by
  pointwise [flat, row, col]
  have h : ∀ r c : Fin 16, IntOp.addi (IntOp.muli (BitVec.ofNat 32 ↑r) 16#32) (BitVec.ofNat 32 ↑c)
      = BitVec.ofNat 32 (↑r * 16 + ↑c) := by decide +kernel
  exact h r c

/-- What the kernel keeps of one batch row `b` is the state `s` with `m` items made: the distances of the pairs below the
    diagonal, the squared lengths, and the activity of each pair's two items. -/
structure Rel (b : Fin 8) (m : ℕ) (s : St) (D : FVec Ideal P3 .f32) (sq : FVec Ideal P2 .f32)
    (ar ac : FVec Ideal P3 .f32) : Prop where
  D : ∀ r c : Fin 16, c.val < r.val → r.val < m → D (ix3 b r c) = dist (s.t r) (s.t c)
  sq : ∀ c : Fin 16, c.val < m → sq (ix2 b c) = dot (s.t c) (s.t c)
  ar : ∀ r c : Fin 16, ar (ix3 b r c) = flag (s.act r)
  ac : ∀ r c : Fin 16, ac (ix3 b r c) = flag (s.act c)
  act : ∀ i, s.act i → i < m

/-- The masked distances are the table the specification selects from. -/
theorem deff_apply {b : Fin 8} {m : ℕ} {s : St} {D sq ar ac} (h : Rel b m s D sq ar ac) (r c : Fin 16) :
    deff ar ac D (ix3 b r c) = key s r c := by
  pointwise [deff]
  rw [row_apply, col_apply, h.ar, h.ac, sgt_small (by omega) (by omega), and_ofBool, and_ofBool, ← Bool.decide_and,
    ← Bool.decide_and, select_ofBool, ofBits_inf]
  unfold key
  by_cases hv : s.act r ∧ s.act c ∧ c.val < r.val
  · rw [if_pos ⟨⟨(half_lt_flag _).2 hv.1, (half_lt_flag _).2 hv.2.1⟩, hv.2.2⟩, if_pos hv]
    exact h.D r c hv.2.2 (h.act _ hv.1)
  · rw [if_neg (fun h' => hv ⟨(half_lt_flag _).1 h'.1.1, (half_lt_flag _).1 h'.1.2, h'.2⟩), if_neg hv]

/-- The smallest masked distance of a batch row. -/
theorem dmin_apply (v : FVec Ideal P3 .f32) (b : Fin 8) (r c : Fin 16) :
    dmin v (ix3 b r c) = Finset.fold min ⊤ (fun x : Fin 16 × Fin 16 => v (ix3 b x.1 x.2)) Finset.univ := by
  pointwise [dmin]
  rw [ofBits_inf]

/-- The selected flat index, from any table that agrees with the specification's on one batch row. -/
theorem fidx_apply (v : FVec Ideal P3 .f32) (b : Fin 8) (f : ℕ → ℕ → EReal) (hv : ∀ r c : Fin 16, v (ix3 b r c) = f r c)
    (i j : Fin 1) : fidx v (ix3 b i j) = BitVec.ofNat 32 (sel f) := by
  pointwise [fidx]
  simp only [dmin_apply, flat_apply, hv]
  obtain ⟨hle, ⟨x0, hx0⟩⟩ := fold_min_spec (fun x : Fin 16 × Fin 16 => f x.1 x.2)
  set M := Finset.fold min ⊤ (fun x : Fin 16 × Fin 16 => f x.1 x.2) Finset.univ
  obtain ⟨h1, h2, h3⟩ := fold_minsi (fun x : Fin 16 × Fin 16 =>
    if f x.1 x.2 = M then BitVec.ofNat 32 (x.1.val * 16 + x.2.val) else 1073741824#32) Finset.univ 2147483647#32
  set w := Finset.fold IntOp.minsi (2147483647#32) (fun x : Fin 16 × Fin 16 =>
    if f x.1 x.2 = M then BitVec.ofNat 32 (x.1.val * 16 + x.2.val) else 1073741824#32) Finset.univ
  have hx0' : w.toInt < 256 := by
    have := h1 x0 (Finset.mem_univ _)
    rw [if_pos hx0.symm, toInt_small (by omega)] at this
    omega
  have hgood : ∃ x : Fin 16 × Fin 16, f x.1 x.2 = M ∧ w = BitVec.ofNat 32 (x.1.val * 16 + x.2.val) := by
    rcases h3 with h3 | ⟨x, -, h3⟩
    · rw [h3] at hx0'; exact absurd hx0' (by decide)
    · by_cases hx : f x.1 x.2 = M
      · exact ⟨x, hx, by rw [h3, if_pos hx]⟩
      · rw [if_neg hx] at h3; rw [h3] at hx0'; exact absurd hx0' (by decide)
  obtain ⟨x, hx, hw⟩ := hgood
  rw [hw, sel_eq_pair x.1.isLt x.2.isLt]
  · intro r' hr' c' hc'
    rw [hx]; exact hle (⟨r', hr'⟩, ⟨c', hc'⟩)
  · intro r' hr' c' hc' he
    have := h1 (⟨r', hr'⟩, ⟨c', hc'⟩) (Finset.mem_univ _)
    rw [if_pos (he.trans hx), hw, toInt_small (by omega), toInt_small (by simp only; omega)] at this
    simp only at this
    omega

/-- The later item of the chosen pair, -/
theorem quot_apply (v : IVec P11 32) (b : Fin 8) (i j : Fin 1) {n : ℕ} (hn : n < 256)
    (hv : v (ix3 b i j) = BitVec.ofNat 32 n) : quot v (ix3 b i j) = BitVec.ofNat 32 (n / 16) := by
  pointwise [quot]
  rw [hv, divsi16, remsi16]
  have h : ∀ n : Fin 256, Scalar.select
      (IntOp.andi (IntOp.cmpi CmpIPredicate.ne
          (IntOp.subi (BitVec.setWidth 32 (IntOp.cmpi CmpIPredicate.sgt (BitVec.ofNat 32 n.val) 0#32))
            (BitVec.setWidth 32 (IntOp.cmpi CmpIPredicate.slt (BitVec.ofNat 32 n.val) 0#32)))
          (Scalar.subi (Scalar.extui (Scalar.cmpi CmpIPredicate.sgt 16#32 0#32))
            (Scalar.extui (Scalar.cmpi CmpIPredicate.slt 16#32 0#32))))
        (IntOp.cmpi CmpIPredicate.ne ((BitVec.ofNat 32 n.val).srem 16#32) 0#32))
      (IntOp.subi ((BitVec.ofNat 32 n.val).sdiv 16#32) 1#32) ((BitVec.ofNat 32 n.val).sdiv 16#32)
      = BitVec.ofNat 32 (n.val / 16) := by decide +kernel
  exact h ⟨n, hn⟩

/-- and the earlier. -/
theorem rem_apply (v : IVec P11 32) (b : Fin 8) (i j : Fin 1) {n : ℕ} (hn : n < 256)
    (hv : v (ix3 b i j) = BitVec.ofNat 32 n) : rem v (ix3 b i j) = BitVec.ofNat 32 (n % 16) := by
  pointwise [rem]
  rw [quot_apply v b i j hn hv, hv]
  have h : ∀ n : Fin 256, IntOp.subi (BitVec.ofNat 32 n.val) (IntOp.muli (BitVec.ofNat 32 (n.val / 16)) 16#32)
      = BitVec.ofNat 32 (n.val % 16) := by decide +kernel
  exact h ⟨n, hn⟩

/-- The word taken out for batch row `b`. -/
theorem word_apply (v : IVec P11 32) (b : Fin 8) (h) (h') :
    extractAt ![0, 0, 0] (extractStridedSlice P0 ![b.val, 0, 0] v h) h' = v (ix3 b 0 0) := by
  pointwise []

/-- The two index words of a round are below 16, whatever is kept. -/
theorem words_lt (v : FVec Ideal P3 .f32) (b : Fin 8) (i j : Fin 1) :
    quot (fidx v) (ix3 b i j) = BitVec.ofNat 32 (sel (fun r c => if h : r < 16 ∧ c < 16 then v (ix3 b ⟨r, h.1⟩ ⟨c, h.2⟩) else ⊤) / 16)
    ∧ rem (fidx v) (ix3 b i j) = BitVec.ofNat 32 (sel (fun r c => if h : r < 16 ∧ c < 16 then v (ix3 b ⟨r, h.1⟩ ⟨c, h.2⟩) else ⊤) % 16) := by
  have h := fidx_apply v b (fun r c => if h : r < 16 ∧ c < 16 then v (ix3 b ⟨r, h.1⟩ ⟨c, h.2⟩) else ⊤)
    (fun r c => by rw [dif_pos ⟨r.isLt, c.isLt⟩]) i j
  exact ⟨quot_apply _ b i j (sel_lt _) h, rem_apply _ b i j (sel_lt _) h⟩

/-! ### A round's update of what is kept -/

/-- The row, or column, of the new item. -/
abbrev R3 : Shape := ⟨3, ![8, 1, 16]⟩
abbrev C2 : Shape := ⟨2, ![8, 1]⟩

/-- The distances with the new item's row put in. -/
def newD (p : BitVec 32) (sq : FVec Ideal P2 .f32) (sqp : FVec Ideal C2 .f32) (g : FVec Ideal P2 .f32)
    (D : FVec Ideal P3 .f32) : FVec Ideal P3 .f32 :=
  select (cmpi .eq row (broadcast P3 p))
    (broadcastTo P3 (shapeCast R3 (shapeCast R3 (subf (addf sq (broadcastTo P2 sqp))
      (mulf (broadcast P2 (Scalar.ofBits .f32 0x40000000#32)) g))))) D

/-- The squared lengths with the new item's put in. -/
def newSq (p : BitVec 32) (sqp : FVec Ideal C2 .f32) (sq : FVec Ideal P2 .f32) : FVec Ideal P2 .f32 :=
  select (broadcastTo P2 (shapeCast R2 (cmpi .eq (iota .tc R2 32 [1]) (broadcast R2 p))))
    (broadcastTo P2 (shapeCast C2 sqp)) sq

/-- The activity with the merged items taken out and the new one put in, by the numbers `num` (the rows, or the
    columns). -/
def newAct (num : IVec P3 32) (p : BitVec 32) (i j : IVec P11 32) (a : FVec Ideal P3 .f32) : FVec Ideal P3 .f32 :=
  select (cmpi .eq num (broadcast P3 p)) (broadcast P3 (Scalar.ofBits .f32 0x3F800000#32))
    (select (ori (cmpi .eq num (broadcastTo P3 i)) (cmpi .eq num (broadcastTo P3 j)))
      (broadcast P3 (Scalar.ofBits .f32 0x00000000#32)) a)

/-- The distances after a round: those to the new item replaced. -/
theorem newD_apply (p : ℕ) (hp : p < 16) (sq sqp g D) (b : Fin 8) (r c : Fin 16) :
    newD (BitVec.ofNat 32 p) sq sqp g D (ix3 b r c)
      = if r.val = p then sq (ix2 b c) + sqp (ix2 b 0) - two * g (ix2 b c) else D (ix3 b r c) := by
  pointwise [newD]
  rw [row_apply, eq_small (by omega) (by omega), select_ofBool]
  rfl

/-- The squared lengths after a round: the new item's replaced. -/
theorem newSq_apply (p : ℕ) (hp : p < 16) (sqp sq) (b : Fin 8) (c : Fin 16) :
    newSq (BitVec.ofNat 32 p) sqp sq (ix2 b c) = if c.val = p then sqp (ix2 b 0) else sq (ix2 b c) := by
  pointwise [newSq]
  rw [eq_small (by omega) (by omega), select_ofBool]

/-- The activity after a round: the pair dropped, the new item added. -/
theorem newAct_apply (num : IVec P3 32) (n : Fin 16 → Fin 16 → ℕ) (hn : ∀ b r c, num (ix3 b r c) = BitVec.ofNat 32 (n r c))
    (hn' : ∀ r c, n r c < 16) (p : ℕ) (hp : p < 16) (i j a) (b : Fin 8) (i' j' : ℕ) (hi' : i' < 16) (hj' : j' < 16)
    (hi : i (ix3 b 0 0) = BitVec.ofNat 32 i') (hj : j (ix3 b 0 0) = BitVec.ofNat 32 j') (r c : Fin 16) :
    newAct num (BitVec.ofNat 32 p) i j a (ix3 b r c)
      = if n r c = p then 1 else if n r c = i' ∨ n r c = j' then 0 else a (ix3 b r c) := by
  have h := hn' r c
  pointwise [newAct]
  rw [hn, hi, hj, eq_small (by omega) (by omega), eq_small (by omega) (by omega), eq_small (by omega) (by omega), or_ofBool,
    ← Bool.decide_or, select_ofBool, select_ofBool]

/-- The round of item `p`: from the state `s` with items below `p` made, the update of what is kept follows the
    specification's step. -/
theorem Rel.next {b : Fin 8} {p : ℕ} {s : St} {D sq ar ac} (h : Rel b p s D sq ar ac) (hp : p < 16) (w bias)
    {sqp g} {i j : IVec P11 32}
    (hi : i (ix3 b 0 0) = BitVec.ofNat 32 (earlier s)) (hj : j (ix3 b 0 0) = BitVec.ofNat 32 (later s))
    (hg : ∀ c : Fin 16, c.val ≤ p → g (ix2 b c) = dot ((step w bias p s).t c) ((step w bias p s).t p))
    (hsqp : sqp (ix2 b 0) = dot ((step w bias p s).t p) ((step w bias p s).t p)) :
    Rel b (p + 1) (step w bias p s) (newD (BitVec.ofNat 32 p) sq sqp g D) (newSq (BitVec.ofNat 32 p) sqp sq)
      (newAct row (BitVec.ofNat 32 p) i j ar) (newAct col (BitVec.ofNat 32 p) i j ac) where
  D r c hc hr := by
    rw [newD_apply p hp]
    have hcp : (step w bias p s).t c = s.t c := step_t_of_ne w bias p s (by omega)
    split_ifs with hrp
    · rw [h.sq c (by omega), hg c (by omega), hsqp, hrp, hcp]
      unfold Spec.dist
      rw [add_comm, dot_comm (s.t c) ((step w bias p s).t p)]
    · rw [h.D r c hc (by omega), step_t_of_ne w bias p s hrp, hcp]
  sq c hc := by
    rw [newSq_apply p hp]
    split_ifs with hcp
    · rw [hsqp, hcp]
    · rw [h.sq c (by omega), step_t_of_ne w bias p s hcp]
  ar r c := by
    have hl := sel_lt (key s)
    rw [newAct_apply row (fun r _ => r.val) (fun b r c => row_apply b r c) (fun r _ => r.isLt) p hp i j ar b (earlier s) (later s)
      (by unfold earlier; omega) (by unfold later; omega) hi hj, h.ar]
    unfold flag step
    simp only
    split_ifs <;> first | rfl | (exfalso; tauto)
  ac r c := by
    have hl := sel_lt (key s)
    rw [newAct_apply col (fun _ c => c.val) (fun b r c => col_apply b r c) (fun _ c => c.isLt) p hp i j ac b (earlier s) (later s)
      (by unfold earlier; omega) (by unfold later; omega) hi hj, h.ac]
    unfold flag step
    simp only
    split_ifs <;> first | rfl | (exfalso; tauto)
  act i hi := by
    rcases hi with hi | ⟨hi, -⟩
    · omega
    · have := h.act i hi; omega

end Cert.Step
end
-- ==== Proof.Body.lean ====
module

public import proofs.«01_k».proof.Proof.Gen.KernelIdeal.Frame
public import proofs.«01_k».proof.Proof.Gen.KernelIdeal.Skeleton
public import proofs.«01_k».proof.Proof.Step

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.Step (quot fidx rem P3 P0)

/-- A word below 16 places a whole slot inside the scratch. -/
theorem slot_inb (b : ℕ) (hb : b < 8) (w : BitVec 32) (h : w.toNat < 16) (a : Fin 4) :
    (![b, (Scalar.indexCast w).toNat, 0, 0] : Fin 4 → ℕ) a + S1x1x128x256.size a ≤ S8x16x128x256.size a := by
  match a with
  | 0 => exact hb
  | 1 => exact h
  | 2 => exact le_refl _
  | 3 => exact le_refl _

/-- The later word of a round is a slot's number. -/
theorem quot_inb (v : FVec Ideal P3 .f32) (b : ℕ) (hb : b < 8) (h) (h') (a : Fin 4) :
    (![b, (Scalar.indexCast (extractAt ![0, 0, 0] (extractStridedSlice P0 ![b, 0, 0] (quot (fidx v)) h) h')).toNat, 0, 0] : Fin 4 → ℕ) a
      + S1x1x128x256.size a ≤ S8x16x128x256.size a := by
  refine slot_inb b hb _ ?_ a
  rw [Cert.Step.word_apply (quot (fidx v)) ⟨b, hb⟩ h h', (Cert.Step.words_lt v ⟨b, hb⟩ 0 0).1, BitVec.toNat_ofNat]
  exact lt_of_le_of_lt (Nat.mod_le _ _) (by have := Cert.Spec.sel_lt (fun r c => if h : r < 16 ∧ c < 16 then v (ix3 ⟨b, hb⟩ ⟨r, h.1⟩ ⟨c, h.2⟩) else ⊤); omega)

/-- The earlier word of a round is a slot's number. -/
theorem rem_inb (v : FVec Ideal P3 .f32) (b : ℕ) (hb : b < 8) (h) (h') (a : Fin 4) :
    (![b, (Scalar.indexCast (extractAt ![0, 0, 0] (extractStridedSlice P0 ![b, 0, 0] (rem (fidx v)) h) h')).toNat, 0, 0] : Fin 4 → ℕ) a
      + S1x1x128x256.size a ≤ S8x16x128x256.size a := by
  refine slot_inb b hb _ ?_ a
  rw [Cert.Step.word_apply (rem (fidx v)) ⟨b, hb⟩ h h', (Cert.Step.words_lt v ⟨b, hb⟩ 0 0).2, BitVec.toNat_ofNat]
  exact lt_of_le_of_lt (Nat.mod_le _ _) (Nat.mod_lt _ (by decide))

set_option sl_exec.resultNames true in
set_option maxHeartbeats 4000000 in
/-- The body's run: from whole staging memrefs, the inputs' at their contents, it terminates with the inputs as they
    were and the pieces stored written to the output and to the scratch. -/
noncomputable def bodyRun (c : Dev nD) (i : grid0.Coords) (arg1 : Memref sig .tc .vmem S8x8x128x256 .f32) (harg1 : arg1.IsWhole)
    (arg2 : Memref sig .tc .vmem S512x256 .f32) (harg2 : arg2.IsWhole) (arg3 : Memref sig .tc .vmem S1x1 .f32) (harg3 : arg3.IsWhole)
    (arg4 : Memref sig .tc .vmem S8x128x256 .f32) (harg4 : arg4.IsWhole) (arg5 : Memref sig .tc .vmem S8x16x128x256 .f32) (harg5 : arg5.IsWhole)
    (x0 : Vec Ideal S8x8x128x256 .f32) (x1 : Vec Ideal S512x256 .f32) (x2 : Vec Ideal S1x1 .f32) (z : Vec Ideal S8x16x128x256 .f32) :
    Σ' (L : List (View.Piece (Elt Ideal) S8x128x256 .f32)), { LT : List (View.Piece (Elt Ideal) S8x16x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare z
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt Ideal) f L)
                ∗ (∃ f, arg5.view.loc (c : Thread nD τ) ↦[arg5.view.set]{fullShare} arg5.view.writes (Elt Ideal) f LT)) -∗ K ⟨⟩))
          ⊢ wp frame (wpE (defs₀ (F := Ideal)) Variants.none c none) E (cc0__agg_kernel i arg1 harg1 arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%d3, %f3, -, H3⟩, ⟨%fs0, %hs0, HS0⟩, Hk⟩
    obtain rfl := harg1.eq_unread hf0; obtain rfl := harg2.eq_unread hf1; obtain rfl := harg3.eq_unread hf2
    obtain rfl := harg5.eq_unread hs0
    sl_exec_parts (disch := first
      | ((first
       | unfold k0_chk1 | unfold k0_chk3 | unfold k0_chk5 | unfold k0_chk7 | unfold k0_chk9 | unfold k0_chk11
       | unfold k0_chk13 | unfold k0_chk15 | unfold k0_chk17 | unfold k0_chk19 | unfold k0_chk21 | unfold k0_chk23
       | unfold k0_chk25 | unfold k0_chk27 | unfold k0_chk29 | unfold k0_chk31 | unfold k0_chk33 | unfold k0_chk35
       | unfold k0_chk37 | unfold k0_chk39 | unfold k0_chk41 | unfold k0_chk43 | unfold k0_chk45 | unfold k0_chk47
       | unfold k0_chk49 | unfold k0_chk51 | unfold k0_chk53 | unfold k0_chk55 | unfold k0_chk57 | unfold k0_chk59
       | unfold k0_chk61 | unfold k0_chk63 | unfold k0_chk65 | unfold k0_chk67 | unfold k0_chk69 | unfold k0_chk71
       | unfold k0_chk73 | unfold k0_chk75 | unfold k0_chk77 | unfold k0_chk79 | unfold k0_chk81 | unfold k0_chk83
       | unfold k0_chk85 | unfold k0_chk87 | unfold k0_chk89 | unfold k0_chk91 | unfold k0_chk93 | unfold k0_chk95
       | unfold k0_chk97 | unfold k0_chk99 | unfold k0_chk101 | unfold k0_chk103 | unfold k0_chk105 | unfold k0_chk107
       | unfold k0_chk109 | unfold k0_chk111);
          exact rem_inb _ _ (by decide) (by decide) (by decide))
      | exact quot_inb _ _ (by decide) (by decide) (by decide))
    sl_step
    iapply Hk
    isplitl [H0]
    · iexists _; isplitr
      · ipureintro; exact harg1.read_unread _
      iexact H0
    isplitl [H1]
    · iexists _; isplitr
      · ipureintro; exact harg2.read_unread _
      iexact H1
    isplitl [H2]
    · iexists _; isplitr
      · ipureintro; exact harg3.read_unread _
      iexact H2
    isplitl [H3]
    · iexists _; iexact H3
    iexists _; iexact HS0

end Cert.KernelIdeal.Run

end
-- ==== Proof.Round.lean ====
module
public import Idealize.ShloMosaic.Lib.Pointwise
public import Idealize.ShloMosaic.Lib.Pointwise.IndexVar
public import proofs.«01_k».proof.Proof.Spec
@[expose] public section
noncomputable section
namespace Cert.Step
open Idealize.ShloMosaic Cert.Spec

/-- An item as it is loaded and stored, and as rows of channels. -/
abbrev I4 : Shape := ⟨4, ![1, 1, 128, 256]⟩
abbrev I3 : Shape := ⟨3, ![1, 128, 256]⟩
abbrev I2 : Shape := ⟨2, ![128, 256]⟩
/-- The two items to merge, side by side; those of the eight batch rows on top of each other. -/
abbrev Pair : Shape := ⟨2, ![128, 512]⟩
abbrev Pairs : Shape := ⟨2, ![1024, 512]⟩
/-- The filter as a band matrix, from the pixels of the two items to the pixels of the merged one. -/
abbrev Band : Shape := ⟨2, ![512, 256]⟩
abbrev Flat : Shape := ⟨2, ![1024, 256]⟩
abbrev V3 : Shape := ⟨3, ![8, 128, 256]⟩

/-- The dimension numbers of the plain matrix product. -/
def dims : DotDims Pairs Band Flat where
  lhsContracting := [1]
  rhsContracting := [0]
  lhsNonContracting := [0]
  rhsNonContracting := [1]
  lhsBatch := []
  rhsBatch := []
  wf := by decide

/-- Two loaded items side by side. -/
def pair (l r : FVec Ideal I4 .f32) : FVec Ideal Pair .f32 :=
  concatenate Pair 1 [⟨I2, shapeCast I2 l⟩, ⟨I2, shapeCast I2 r⟩] (by show Shape.Concatenates [I2, I2] Pair 1; decide)

/-- The eight batch rows' merged items. -/
def merged (P : Fin 8 → FVec Ideal Pair .f32) (m : FVec Ideal Band .f32) (bias : EReal) : FVec Ideal V3 .f32 :=
  shapeCast V3 (addf (matmul (F := Ideal) (φ₁ := .f32) (φ₂ := .f32) dims none
    (concatenate Pairs 0 [⟨Pair, P 0⟩, ⟨Pair, P 1⟩, ⟨Pair, P 2⟩, ⟨Pair, P 3⟩, ⟨Pair, P 4⟩, ⟨Pair, P 5⟩, ⟨Pair, P 6⟩, ⟨Pair, P 7⟩]
      (by show Shape.Concatenates [Pair, Pair, Pair, Pair, Pair, Pair, Pair, Pair] Pairs 0; decide))
    m (constant Flat .f32 0x00000000#32)) (broadcast Flat bias))

/-- Two items side by side. -/
theorem pair_apply (l r) (c : Fin 128) (k : Fin 512) :
    pair l r (ix2 c k) = if h : k.val < 256 then l (ix4 0 0 c ⟨k.val, h⟩) else r (ix4 0 0 c ⟨k.val - 256, by omega⟩) := by
  pointwise [pair]

/-- Eight blocks of 128 rows on top of each other, read at row `128 b + c`. -/
theorem blocks_apply (P : Fin 8 → Fin 128 → EReal) (b : Fin 8) (c : Fin 128) :
    (if h : b.val * 128 + c.val < 128 then P 0 ⟨b.val * 128 + c.val, h⟩
      else if h : b.val * 128 + c.val - 128 < 128 then P 1 ⟨b.val * 128 + c.val - 128, h⟩
      else if h : b.val * 128 + c.val - 128 - 128 < 128 then P 2 ⟨b.val * 128 + c.val - 128 - 128, h⟩
      else if h : b.val * 128 + c.val - 128 - 128 - 128 < 128 then P 3 ⟨b.val * 128 + c.val - 128 - 128 - 128, h⟩
      else if h : b.val * 128 + c.val - 128 - 128 - 128 - 128 < 128 then
        P 4 ⟨b.val * 128 + c.val - 128 - 128 - 128 - 128, h⟩
      else if h : b.val * 128 + c.val - 128 - 128 - 128 - 128 - 128 < 128 then
        P 5 ⟨b.val * 128 + c.val - 128 - 128 - 128 - 128 - 128, h⟩
      else if h : b.val * 128 + c.val - 128 - 128 - 128 - 128 - 128 - 128 < 128 then
        P 6 ⟨b.val * 128 + c.val - 128 - 128 - 128 - 128 - 128 - 128, h⟩
      else P 7 ⟨b.val * 128 + c.val - 128 - 128 - 128 - 128 - 128 - 128 - 128, by omega⟩) = P b c := by
  have key : ∀ (n : Fin 8) (r : ℕ) (hr : r < 128), n = b → r = c.val → P n ⟨r, hr⟩ = P b c := by
    rintro n r hr rfl rfl; rfl
  split_ifs
  all_goals exact key _ _ _ (Fin.ext (by omega)) (by omega)

/-- A merged item is the product of the pair with the band, plus the bias. -/
theorem merged_apply (P m bias) (b : Fin 8) (c : Fin 128) (q : Fin 256) :
    merged P m bias (ix3 b c q) = (∑ k : Fin 512, P b (ix2 c k) * m (ix2 k q)) + bias := by
  pointwise [merged]
  exact congrArg (· + bias) (Finset.sum_congr rfl fun k _ => congrArg (· * m (ix2 k q))
    (blocks_apply (fun b c => P b (ix2 c k)) b c))

/-- What is stored for batch row `b`. -/
theorem slot_apply (v : FVec Ideal V3 .f32) (b : Fin 8) (h h' h'') (i j : Fin 1) (c : Fin 128) (q : Fin 256) :
    shapeCast I4 (shapeCast I2 (extractStridedSlice I3 ![b.val, 0, 0] v h) h') h'' (ix4 i j c q) = v (ix3 b c q) := by
  pointwise []

/-- The inner products of the first `n` items with the new one. -/
def gram (n : ℕ) (h1 : V3.ShapeCasts ⟨4, ![8, 1, 128, 256]⟩)
    (h2 : (⟨4, ![8, 1, 128, 256]⟩ : Shape).Broadcasts ⟨4, ![8, n, 128, 256]⟩)
    (h3 : (⟨4, ![8, n, 128, 256]⟩ : Shape).Reduces [2, 3] ⟨2, ![8, n]⟩)
    (T : FVec Ideal ⟨4, ![8, n, 128, 256]⟩ .f32) (v : FVec Ideal V3 .f32) : FVec Ideal ⟨2, ![8, n]⟩ .f32 :=
  multiReduction .add [2, 3] ⟨2, ![8, n]⟩
    (mulf T (broadcastTo ⟨4, ![8, n, 128, 256]⟩ (shapeCast ⟨4, ![8, 1, 128, 256]⟩ v h1) h2)) 0x00000000#32 h3 (.inl rfl) rfl

/-- The inner products of a new item with the items so far. -/
theorem gram_apply (n : ℕ) (h1 h2 h3 T v) (b : Fin 8) (i : Fin n) (t u : Item)
    (ht : ∀ c q, T (ix4 b i c q) = t c q) (hu : ∀ c q, v (ix3 b c q) = u c q) : gram n h1 h2 h3 T v (ix2 b i) = dot t u := by
  pointwise [gram]
  unfold dot
  simp only [ht, hu]

/-- The last column of the inner products: the new item's own. -/
theorem own_apply (n p : ℕ) (hp : p < n) (h1 : (⟨2, ![8, n]⟩ : Shape).Slices ![0, p] ⟨2, ![8, 1]⟩)
    (g : FVec Ideal ⟨2, ![8, n]⟩ .f32) (b : Fin 8) (i : Fin 1) :
    extractStridedSlice ⟨2, ![8, 1]⟩ ![0, p] g h1 (ix2 b i) = g (ix2 b ⟨p, hp⟩) := by
  pointwise []

/-- The inner products with zeros after them. -/
def wide (n m : ℕ) (h1 : Shape.Concatenates [⟨2, ![8, n]⟩, ⟨2, ![8, m]⟩] ⟨2, ![8, 16]⟩ 1)
    (g : FVec Ideal ⟨2, ![8, n]⟩ .f32) : FVec Ideal ⟨2, ![8, 16]⟩ .f32 :=
  concatenate ⟨2, ![8, 16]⟩ 1
    [⟨⟨2, ![8, n]⟩, g⟩, ⟨⟨2, ![8, m]⟩, broadcast ⟨2, ![8, m]⟩ (Scalar.ofBits .f32 0x00000000#32)⟩] h1

/-- They are extended by zeros to all sixteen places. -/
theorem wide_apply (n m : ℕ) (h1 g) (b : Fin 8) (i : Fin 16) (hi : i.val < n) :
    wide n m h1 g (ix2 b i) = g (ix2 b ⟨i.val, hi⟩) := by
  pointwise [wide]
  rw [dif_pos hi]

/-! ### The product with the band matrix is the merge -/

/-- A sum over a product of two index ranges, by the two indices. -/
theorem sum_split (m n : ℕ) (f : ℕ → EReal) :
    ∑ k : Fin (m * n), f k = ∑ i : Fin m, ∑ j : Fin n, f (i.val * n + j.val) := by
  rw [← finProdFinEquiv.sum_comp, Fintype.sum_prod_type]
  refine Finset.sum_congr rfl fun i _ => Finset.sum_congr rfl fun j _ => ?_
  congr 1
  simp [finProdFinEquiv]
  ring

/-- The band matrix of a filter: multiplied by entry `(d, a, e; q)`, pixel `(a, e)` of input `d` gives its contribution
    to output pixel `q`. -/
def Banded (w : Taps) (m : FVec Ideal Band .f32) : Prop :=
  ∀ (x : EReal) (d : Fin 2) (a e : Fin 16) (q : Fin 256),
    x * m (ix2 ⟨d.val * 256 + (a.val * 16 + e.val), by omega⟩ q) = reach (w d) q a e x

/-- One batch row of the eight merges, where the two items side by side are `l` and `r`. -/
theorem merged_eq (w : Taps) (m bias) (hm : Banded w m) (P : Fin 8 → FVec Ideal Pair .f32) (b : Fin 8) (l r : Item)
    (hP : ∀ (c : Fin 128) (k : Fin 512),
      P b (ix2 c k) = if h : k.val < 256 then l c ⟨k.val, h⟩ else r c ⟨k.val - 256, by omega⟩)
    (c : Fin 128) (q : Fin 256) : merged P m bias (ix3 b c q) = merge w bias l r c q := by
  rw [merged_apply]
  unfold merge
  refine congrArg (· + bias) ?_
  have h1 := sum_split 2 256 fun k => if h : k < 512 then P b (ix2 c ⟨k, h⟩) * m (ix2 ⟨k, h⟩ q) else 0
  have h2 : ∀ d : Fin 2, (∑ j : Fin 256, (fun k => if h : k < 512 then P b (ix2 c ⟨k, h⟩) * m (ix2 ⟨k, h⟩ q) else 0)
      (d.val * 256 + j.val)) = ∑ a : Fin 16, ∑ e : Fin 16, reach (w d) q a e (pick d l r c (pix a e)) := by
    intro d
    refine (sum_split 16 16 fun j => (if h : d.val * 256 + j < 512 then
      P b (ix2 c ⟨d.val * 256 + j, h⟩) * m (ix2 ⟨d.val * 256 + j, h⟩ q) else 0)).trans ?_
    refine Finset.sum_congr rfl fun a _ => Finset.sum_congr rfl fun e _ => ?_
    rw [dif_pos (by omega), hm, hP]
    refine congrArg (reach (w d) q a e) ?_
    have hd : d.val = 0 ∨ d.val = 1 := by omega
    unfold pick pix
    rcases hd with hd | hd
    · rw [dif_pos (show d.val * 256 + (a.val * 16 + e.val) < 256 by omega), if_pos (Fin.ext hd)]
      exact congrArg (l c) (Fin.ext (by simp only; omega))
    · rw [dif_neg (show ¬ d.val * 256 + (a.val * 16 + e.val) < 256 by omega), if_neg (fun h => by rw [h] at hd; simp at hd)]
      exact congrArg (r c) (Fin.ext (by simp only; omega))
  rw [← Finset.sum_congr rfl fun d _ => h2 d]
  refine Eq.trans ?_ h1
  refine Finset.sum_congr rfl fun k _ => ?_
  split_ifs with h
  · rfl
  · exact absurd k.isLt h

end Cert.Step
end
-- ==== Proof.Chain.lean ====
module

public import proofs.«01_k».proof.Proof.Round
public import proofs.«01_k».proof.Proof.Step
public import Idealize.ShloMosaic.Lib.WritesUnit
public import Idealize.ShloMosaic.Lib.VecWindow

@[expose] public section

noncomputable section

namespace Cert.Step
open Idealize.ShloMosaic Cert.Spec

/-! ### The two items selected are items already made -/

/-- The selected pair's key is no larger than any other. -/
theorem key_sel_le (f : ℕ → ℕ → EReal) : ∀ q' < 256, f (sel f / 16) (sel f % 16) ≤ f (q' / 16) (q' % 16) := by
  have hne : {q | q < 256 ∧ ∀ q' < 256, f (q / 16) (q % 16) ≤ f (q' / 16) (q' % 16)}.Nonempty := by
    obtain ⟨q, hq, hm⟩ := Finset.exists_min_image (Finset.range 256) (fun q => f (q / 16) (q % 16)) ⟨0, by simp⟩
    exact ⟨q, by simpa using hq, fun q' hq' => hm q' (by simpa using hq')⟩
  exact (Nat.sInf_mem hne).2

/-- Both items of the closest pair have been made; if no distance is finite, both are item 0. -/
theorem picked_lt {s : St} {p : ℕ} (hp : 0 < p) (hact : ∀ i, s.act i → i < p) : later s < p ∧ earlier s < p := by
  unfold later earlier
  by_cases h : s.act (sel (key s) / 16) ∧ s.act (sel (key s) % 16) ∧ sel (key s) % 16 < sel (key s) / 16
  · exact ⟨hact _ h.1, hact _ h.2.1⟩
  · have htop : key s (sel (key s) / 16) (sel (key s) % 16) = ⊤ := by
      unfold key at h ⊢
      exact if_neg h
    have hall : ∀ q' < 256, key s (q' / 16) (q' % 16) = ⊤ := fun q' hq' => by
      have := key_sel_le (key s) q' hq'
      rw [htop] at this
      exact top_le_iff.mp this
    have h0 : sel (key s) = 0 := sel_eq (by decide) (fun q' hq' => by rw [hall q' hq']; exact le_top) fun q' _ _ => Nat.zero_le _
    rw [h0]
    exact ⟨hp, hp⟩

/-! ### The scratch -/

/-- The scratch: sixteen slots for each of the eight batch rows. -/
abbrev Slots : Shape := ⟨4, ![8, 16, 128, 256]⟩

/-- A word below 16 places a whole slot inside the scratch. -/
theorem slot_inb (b : ℕ) (hb : b < 8) (w : BitVec 32) (h : w.toNat < 16) (a : Fin 4) :
    (![b, (Scalar.indexCast w).toNat, 0, 0] : Fin 4 → ℕ) a + I4.size a ≤ Slots.size a := by
  match a with
  | 0 => exact hb
  | 1 => exact h
  | 2 => exact le_refl _
  | 3 => exact le_refl _

/-- One row's word can be cut out. -/
theorem slice_ok (b : Fin 8) : P11.Slices ![b.val, 0, 0] P0 := by revert b; decide

/-- The word of batch row `b`. -/
def wordOf (u : IVec P11 32) (b : Fin 8) : BitVec 32 :=
  extractAt ![0, 0, 0] (extractStridedSlice P0 ![b.val, 0, 0] u (slice_ok b)) (by decide)

/-- It is the word at that row. -/
theorem wordOf_eq (u : IVec P11 32) (b : Fin 8) : wordOf u b = u (ix3 b 0 0) := word_apply u b _ _

/-- The later word of a round is a slot's number. -/
theorem quot_lt (v : FVec Ideal P3 .f32) (b : Fin 8) : (wordOf (quot (fidx v)) b).toNat < 16 := by
  rw [wordOf_eq, (words_lt v b 0 0).1, BitVec.toNat_ofNat]
  exact lt_of_le_of_lt (Nat.mod_le _ _) (by
    have := sel_lt (fun r c => if h : r < 16 ∧ c < 16 then v (ix3 b ⟨r, h.1⟩ ⟨c, h.2⟩) else ⊤); omega)

/-- The earlier word of a round is a slot's number. -/
theorem rem_lt (v : FVec Ideal P3 .f32) (b : Fin 8) : (wordOf (rem (fidx v)) b).toNat < 16 := by
  rw [wordOf_eq, (words_lt v b 0 0).2, BitVec.toNat_ofNat]
  exact lt_of_le_of_lt (Nat.mod_le _ _) (Nat.mod_lt _ (by decide))

/-- The later item's rectangle lies inside the scratch, -/
theorem quot_inb (v : FVec Ideal P3 .f32) (b : Fin 8) (a : Fin 4) :
    (![b.val, (Scalar.indexCast (wordOf (quot (fidx v)) b)).toNat, 0, 0] : Fin 4 → ℕ) a + I4.size a ≤ Slots.size a :=
  slot_inb b b.isLt _ (quot_lt v b) a

/-- so does the earlier item's, -/
theorem rem_inb (v : FVec Ideal P3 .f32) (b : Fin 8) (a : Fin 4) :
    (![b.val, (Scalar.indexCast (wordOf (rem (fidx v)) b)).toNat, 0, 0] : Fin 4 → ℕ) a + I4.size a ≤ Slots.size a :=
  slot_inb b b.isLt _ (rem_lt v b) a

/-- the appended item's, -/
theorem fixed_inb (p : ℕ) (hp : p < 16) (b : Fin 8) (a : Fin 4) :
    (![b.val, p, 0, 0] : Fin 4 → ℕ) a + I4.size a ≤ Slots.size a := by
  match a with
  | 0 => exact b.isLt
  | 1 => exact hp
  | 2 => exact le_refl _
  | 3 => exact le_refl _

/-- and the rectangle of all items made so far. -/
theorem front_inb (p : ℕ) (hp : p < 16) (a : Fin 4) :
    (![0, 0, 0, 0] : Fin 4 → ℕ) a + (⟨4, ![8, p + 1, 128, 256]⟩ : Shape).size a ≤ Slots.size a := by
  match a with
  | 0 => exact le_refl _
  | 1 => show 0 + (p + 1) ≤ 16; omega
  | 2 => exact le_refl _
  | 3 => exact le_refl _

variable {sig : RefSig} {κ : Kind} {sp : Space} (v : View sig κ sp Slots .f32)

/-- After the stores `L`, over any contents, the first `m` slots hold the items `t`. -/
def Holds (L : List (View.Piece (Elt Ideal) Slots .f32)) (m : ℕ) (t : Fin 8 → ℕ → Item) : Prop :=
  ∀ (f : v.ty.Contents (Elt Ideal)) (b : Fin 8) (s : Fin 16), s.val < m → ∀ c q,
    v.read (Elt Ideal) (v.writes (Elt Ideal) f L) (ix4 b s c q) = t b s c q

variable {v}

/-- A load of one slot. -/
theorem Holds.load {L m t} (h : Holds v L m t) (f) (b : Fin 8) (w : BitVec 32) (n : ℕ) (hw : w = BitVec.ofNat 32 n) (hn : n < m)
    (hn' : n < 16) (inb) (i j : Fin 1) (c : Fin 128) (q : Fin 256) :
    v.readAt (Elt Ideal) (Rect.unit (s := Slots) ![b.val, (Scalar.indexCast w).toNat, 0, 0] I4.size inb).toLoadRect
      (v.writes (Elt Ideal) f L) (ix4 i j c q) = t b n c q := by
  subst hw
  refine Eq.trans (congrArg (v.read (Elt Ideal) (v.writes (Elt Ideal) f L)) (?_ : _ = ix4 b ⟨n, hn'⟩ c q)) (h f b ⟨n, hn'⟩ hn c q)
  funext a
  apply Fin.ext
  match a with
  | 0 => show b.val + 1 * i.val = b.val; omega
  | 1 => show (BitVec.ofNat 32 n).toNat + 1 * j.val = n; rw [BitVec.toNat_ofNat]; omega
  | 2 => show 0 + 1 * c.val = c.val; omega
  | 3 => show 0 + 1 * q.val = q.val; omega

/-- A load of the first `p + 1` slots. -/
theorem Holds.front {L p t} (h : Holds v L (p + 1) t) (f) (hp : p < 16) (b : Fin 8) (s : Fin (p + 1)) (c : Fin 128) (q : Fin 256) :
    v.readAt (Elt Ideal) (Rect.unit (s := Slots) ![0, 0, 0, 0] (⟨4, ![8, p + 1, 128, 256]⟩ : Shape).size (front_inb p hp)).toLoadRect
      (v.writes (Elt Ideal) f L) (ix4 b s c q) = t b s c q := by
  refine Eq.trans (congrArg (v.read (Elt Ideal) (v.writes (Elt Ideal) f L)) (?_ : _ = ix4 b ⟨s.val, by omega⟩ c q))
    (h f b ⟨s.val, by omega⟩ s.isLt c q)
  funext a
  apply Fin.ext
  match a with
  | 0 => show 0 + 1 * b.val = b.val; omega
  | 1 => show 0 + 1 * s.val = s.val; omega
  | 2 => show 0 + 1 * c.val = c.val; omega
  | 3 => show 0 + 1 * q.val = q.val; omega

/-- One row's item can be cut out. -/
theorem slice3_ok (b : Fin 8) : V3.Slices ![b.val, 0, 0] I3 := by revert b; decide

/-- What is stored for batch row `b`. -/
def slot (M : FVec Ideal V3 .f32) (b : Fin 8) : FVec Ideal I4 .f32 :=
  shapeCast I4 (shapeCast I2 (extractStridedSlice I3 ![b.val, 0, 0] M (slice3_ok b)) (by decide)) (by decide)

/-- The store of batch row `b`'s merged item into slot `p`. -/
def piece (p : ℕ) (hp : p < 16) (M : FVec Ideal V3 .f32) (b : Fin 8) : View.Piece (Elt Ideal) Slots .f32 :=
  ⟨Rect.unit ![b.val, p, 0, 0] I4.size (fixed_inb p hp b), slot M b⟩

/-- The eight stores of a round, newest first. -/
def stored (p : ℕ) (hp : p < 16) (M : FVec Ideal V3 .f32) (L : List (View.Piece (Elt Ideal) Slots .f32)) :
    List (View.Piece (Elt Ideal) Slots .f32) :=
  piece p hp M 7 :: piece p hp M 6 :: piece p hp M 5 :: piece p hp M 4 :: piece p hp M 3 :: piece p hp M 2 :: piece p hp M 1
    :: piece p hp M 0 :: L

/-- A read after one of the stores. -/
theorem read_piece (f) (p : ℕ) (hp : p < 16) (M : FVec Ideal V3 .f32) (d : Fin 8) (L) (b : Fin 8) (s : Fin 16) (c q) :
    v.read (Elt Ideal) (v.writes (Elt Ideal) f (piece p hp M d :: L)) (ix4 b s c q)
      = if b = d ∧ s.val = p then M (ix3 b c q) else v.read (Elt Ideal) (v.writes (Elt Ideal) f L) (ix4 b s c q) := by
  split_ifs with h
  · obtain ⟨rfl, hs⟩ := h
    refine (View.read_writes_cons_unit_of_mem v f (fixed_inb p hp b) (slot M b) L (ix4 b s c q) (ix4 0 0 c q) rfl fun a => ?_).trans
      (slot_apply M b _ _ _ 0 0 c q)
    match a with
    | 0 => rfl
    | 1 => exact hs
    | 2 => exact (Nat.zero_add _).symm
    | 3 => exact (Nat.zero_add _).symm
  · by_cases hb : b = d
    · refine View.read_writes_cons_unit_of_not_mem v f (fixed_inb p hp d) (slot M d) L (ix4 b s c q) rfl 1 ?_
      show s.val < p ∨ p + 1 ≤ s.val
      have : s.val ≠ p := fun hs => h ⟨hb, hs⟩
      omega
    · refine View.read_writes_cons_unit_of_not_mem v f (fixed_inb p hp d) (slot M d) L (ix4 b s c q) rfl 0 ?_
      show b.val < d.val ∨ d.val + 1 ≤ b.val
      have : b.val ≠ d.val := fun hs => hb (Fin.ext hs)
      omega

/-- The eight stores put one more item into each batch row. -/
theorem Holds.stored {L p t} (h : Holds v L p t) (hp : p < 16) (M : FVec Ideal V3 .f32) (t' : Fin 8 → ℕ → Item)
    (hM : ∀ b c q, M (ix3 b c q) = t' b p c q) (ht : ∀ b i, i < p → t' b i = t b i) :
    Holds v (stored p hp M L) (p + 1) t' := by
  intro f b s hs c q
  unfold Step.stored
  simp only [read_piece]
  by_cases h' : s.val = p
  · simp only [h', and_true]
    have hb : b = 7 ∨ b = 6 ∨ b = 5 ∨ b = 4 ∨ b = 3 ∨ b = 2 ∨ b = 1 ∨ b = 0 := by revert b; decide
    rw [← hM]
    split_ifs <;> first | rfl | (exfalso; tauto)
  · simp only [h', and_false, if_false]
    rw [ht b s (by omega)]
    exact h f b s (by omega) c q

/-! ### A round -/

/-- The pair loaded for batch row `b`, where the masked distances are `V`. -/
def loaded (v : View sig κ sp Slots .f32) (f : v.ty.Contents (Elt Ideal)) (L : List (View.Piece (Elt Ideal) Slots .f32))
    (V : FVec Ideal P3 .f32) (b : Fin 8) : FVec Ideal Pair .f32 :=
  pair (v.readAt (Elt Ideal) (Rect.unit (s := Slots) ![b.val, (Scalar.indexCast (wordOf (rem (fidx V)) b)).toNat, 0, 0] I4.size
      (rem_inb V b)).toLoadRect (v.writes (Elt Ideal) f L))
    (v.readAt (Elt Ideal) (Rect.unit (s := Slots) ![b.val, (Scalar.indexCast (wordOf (quot (fidx V)) b)).toNat, 0, 0] I4.size
      (quot_inb V b)).toLoadRect (v.writes (Elt Ideal) f L))

/-- The inner products of a round. -/
def grams (v : View sig κ sp Slots .f32) (f : v.ty.Contents (Elt Ideal)) (p : ℕ) (hp : p < 16)
    (h1 : V3.ShapeCasts ⟨4, ![8, 1, 128, 256]⟩)
    (h2 : (⟨4, ![8, 1, 128, 256]⟩ : Shape).Broadcasts ⟨4, ![8, p + 1, 128, 256]⟩)
    (h3 : (⟨4, ![8, p + 1, 128, 256]⟩ : Shape).Reduces [2, 3] ⟨2, ![8, p + 1]⟩)
    (L : List (View.Piece (Elt Ideal) Slots .f32)) (M : FVec Ideal V3 .f32) : FVec Ideal ⟨2, ![8, p + 1]⟩ .f32 :=
  gram (p + 1) h1 h2 h3 (v.readAt (Elt Ideal) (Rect.unit (s := Slots) ![0, 0, 0, 0] (⟨4, ![8, p + 1, 128, 256]⟩ : Shape).size
    (front_inb p hp)).toLoadRect (v.writes (Elt Ideal) f (stored p hp M L))) M

/-- The merge of a round. -/
theorem merged_round {L p} {s : Fin 8 → St} {D sq ar ac} (hL : Holds v L p fun b => (s b).t) (hp0 : 0 < p)
    (hR : ∀ b, Rel b p (s b) D sq ar ac) (f) (w m bias) (hm : Banded w m) (b : Fin 8) (c : Fin 128) (q : Fin 256) :
    merged (loaded v f L (deff ar ac D)) m bias (ix3 b c q) = merge w bias ((s b).t (earlier (s b))) ((s b).t (later (s b))) c q := by
  refine merged_eq w m bias hm _ b _ _ (fun c k => ?_) c q
  have hlt := picked_lt hp0 (hR b).act
  have hs := sel_lt (key (s b))
  have hf := fidx_apply (deff ar ac D) b (key (s b)) (fun r c => deff_apply (hR b) r c) 0 0
  have hr : wordOf (rem (fidx (deff ar ac D))) b = BitVec.ofNat 32 (earlier (s b)) :=
    (wordOf_eq _ b).trans (rem_apply _ b 0 0 hs hf)
  have hq : wordOf (quot (fidx (deff ar ac D))) b = BitVec.ofNat 32 (later (s b)) :=
    (wordOf_eq _ b).trans (quot_apply _ b 0 0 hs hf)
  unfold loaded
  rw [pair_apply]
  split_ifs with h
  · exact hL.load f b _ _ hr hlt.2 (by unfold earlier; omega) _ 0 0 c ⟨k.val, h⟩
  · exact hL.load f b _ _ hq hlt.1 (by unfold later; omega) _ 0 0 c ⟨k.val - 256, by omega⟩

/-- After a round the scratch holds the next state's items. -/
theorem holds_round {L p} {s : Fin 8 → St} {D sq ar ac} (hL : Holds v L p fun b => (s b).t) (hp0 : 0 < p) (hp : p < 16)
    (hR : ∀ b, Rel b p (s b) D sq ar ac) (f) (w m bias) (hm : Banded w m) :
    Holds v (stored p hp (merged (loaded v f L (deff ar ac D)) m bias) L) (p + 1) fun b => (step w bias p (s b)).t :=
  hL.stored hp _ _ (fun b c q => by rw [merged_round hL hp0 hR f w m bias hm, step_t_self])
    fun b i hi => step_t_of_ne w bias p (s b) (by omega)

/-- After a round the tables are the next state's. -/
theorem rel_round {L p} {s : Fin 8 → St} {D sq ar ac} (hL : Holds v L p fun b => (s b).t) (hp0 : 0 < p) (hp : p < 16)
    (hR : ∀ b, Rel b p (s b) D sq ar ac) (f f') (w m bias) (hm : Banded w m) (n : ℕ) (h1 h2 h3 h4 h5) (b : Fin 8) :
    Rel b (p + 1) (step w bias p (s b))
      (newD (BitVec.ofNat 32 p) sq
        (extractStridedSlice ⟨2, ![8, 1]⟩ ![0, p] (grams v f' p hp h1 h2 h3 L (merged (loaded v f L (deff ar ac D)) m bias)) h4)
        (wide (p + 1) n h5 (grams v f' p hp h1 h2 h3 L (merged (loaded v f L (deff ar ac D)) m bias))) D)
      (newSq (BitVec.ofNat 32 p)
        (extractStridedSlice ⟨2, ![8, 1]⟩ ![0, p] (grams v f' p hp h1 h2 h3 L (merged (loaded v f L (deff ar ac D)) m bias)) h4) sq)
      (newAct row (BitVec.ofNat 32 p) (rem (fidx (deff ar ac D))) (quot (fidx (deff ar ac D))) ar)
      (newAct col (BitVec.ofNat 32 p) (rem (fidx (deff ar ac D))) (quot (fidx (deff ar ac D))) ac) := by
  have hs := sel_lt (key (s b))
  have hf := fidx_apply (deff ar ac D) b (key (s b)) (fun r c => deff_apply (hR b) r c) 0 0
  have hg : ∀ c : Fin (p + 1), grams v f' p hp h1 h2 h3 L (merged (loaded v f L (deff ar ac D)) m bias) (ix2 b c)
      = dot ((step w bias p (s b)).t c) ((step w bias p (s b)).t p) := fun c =>
    gram_apply (p + 1) h1 h2 h3 _ _ b c _ _ (fun c' q => (holds_round hL hp0 hp hR f w m bias hm).front f' hp b c c' q)
      fun c' q => by rw [merged_round hL hp0 hR f w m bias hm, step_t_self]
  refine (hR b).next hp w bias (rem_apply _ b 0 0 hs hf) (quot_apply _ b 0 0 hs hf) (fun c hc => ?_) ?_
  · rw [wide_apply (p + 1) n h5 _ b c (by omega), hg]
  · rw [own_apply (p + 1) p (by omega), hg]

end Cert.Step

end
-- ==== Proof.Start.lean ====
module

public import proofs.«01_k».proof.Proof.Step
public import Idealize.ShloMosaic.Lib.Pointwise.IndexVar

@[expose] public section

noncomputable section

namespace Cert.Step
open Idealize.ShloMosaic Cert.Spec

/-- The eight given items of each batch row, one of them, and the tables over them. -/
abbrev X4 : Shape := ⟨4, ![8, 8, 128, 256]⟩
abbrev Y4 : Shape := ⟨4, ![8, 1, 128, 256]⟩
abbrev G2 : Shape := ⟨2, ![8, 8]⟩
abbrev G1 : Shape := ⟨3, ![8, 1, 8]⟩
abbrev H1 : Shape := ⟨3, ![8, 8, 1]⟩
abbrev G3 : Shape := ⟨3, ![8, 8, 8]⟩
abbrev W3 : Shape := ⟨3, ![8, 8, 16]⟩

/-- One given item can be cut out. -/
theorem slice4_ok (m : Fin 8) : X4.Slices ![0, m.val, 0, 0] Y4 := by revert m; decide

/-- The inner products of all given items with item `m`. -/
def against (x : FVec Ideal X4 .f32) (m : Fin 8) : FVec Ideal G1 .f32 :=
  shapeCast G1 (multiReduction .add [2, 3] G2
    (mulf x (broadcastTo X4 (extractStridedSlice Y4 ![0, m.val, 0, 0] x (slice4_ok m)) (by decide))) 0x00000000#32 (by decide) (.inl rfl) rfl)
    (by decide)

/-- The inner products of all pairs. -/
def inner (x : FVec Ideal X4 .f32) : FVec Ideal G3 .f32 :=
  concatenate G3 1 [⟨G1, against x 0⟩, ⟨G1, against x 1⟩, ⟨G1, against x 2⟩, ⟨G1, against x 3⟩, ⟨G1, against x 4⟩,
    ⟨G1, against x 5⟩, ⟨G1, against x 6⟩, ⟨G1, against x 7⟩] (by show Shape.Concatenates [G1, G1, G1, G1, G1, G1, G1, G1] G3 1; decide)

/-- Those on the diagonal, zero elsewhere. -/
def diag (x : FVec Ideal X4 .f32) : FVec Ideal G3 .f32 :=
  select (cmpi .eq (iota .tc G3 32 [1]) (iota .tc G3 32 [2])) (inner x) (broadcast G3 (Scalar.ofBits .f32 0x00000000#32))

/-- The squared lengths, as a row -/
def lenRow (x : FVec Ideal X4 .f32) : FVec Ideal G1 .f32 :=
  shapeCast G1 (multiReduction .add [1] G2 (diag x) 0x00000000#32 (by decide) (.inl rfl) rfl) (by decide)

/-- and as a column. -/
def lenCol (x : FVec Ideal X4 .f32) : FVec Ideal H1 .f32 :=
  shapeCast H1 (multiReduction .add [2] G2 (diag x) 0x00000000#32 (by decide) (.inl rfl) rfl) (by decide)

/-- The first distances. -/
def startD (x : FVec Ideal X4 .f32) : FVec Ideal P3 .f32 :=
  concatenate P3 1 [⟨W3, concatenate W3 2 [⟨G3, subf (addf (broadcastTo G3 (lenCol x)) (broadcastTo G3 (lenRow x)))
      (mulf (broadcast G3 (Scalar.ofBits .f32 0x40000000#32)) (inner x))⟩,
      ⟨G3, broadcast G3 (Scalar.ofBits .f32 0x7F800000#32)⟩] (by show Shape.Concatenates [G3, G3] W3 2; decide)⟩,
    ⟨W3, broadcast W3 (Scalar.ofBits .f32 0x7F800000#32)⟩] (by show Shape.Concatenates [W3, W3] P3 1; decide)

/-- The first squared lengths. -/
def startSq (x : FVec Ideal X4 .f32) : FVec Ideal P2 .f32 :=
  concatenate P2 1 [⟨G2, shapeCast G2 (lenRow x) (by decide)⟩, ⟨G2, broadcast G2 (Scalar.ofBits .f32 0x00000000#32)⟩]
    (by show Shape.Concatenates [G2, G2] P2 1; decide)

/-- The first activity: the eight given items. -/
def startAct (num : IVec P3 32) : FVec Ideal P3 .f32 :=
  sitofp .f32 (extui 32 (cmpi .slt num (broadcast P3 8#32)))

/-- An inner product of a given item with item `m`, -/
theorem against_apply (x : FVec Ideal X4 .f32) (m : Fin 8) (b : Fin 8) (u : Fin 1) (c : Fin 8) :
    against x m (ix3 b u c) = dot (fun p q => x (ix4 b c p q)) (fun p q => x (ix4 b m p q)) := by
  pointwise [against]
  rfl

/-- the table of them all, -/
theorem inner_apply (x : FVec Ideal X4 .f32) (b r c : Fin 8) :
    inner x (ix3 b r c) = dot (fun p q => x (ix4 b r p q)) (fun p q => x (ix4 b c p q)) := by
  rw [dot_comm, ← against_apply x r b 0 c]
  pointwise [inner]
  fin_cases r <;> rfl

/-- its diagonal, -/
theorem diag_apply (x : FVec Ideal X4 .f32) (b r c : Fin 8) :
    diag x (ix3 b r c) = if r = c then dot (fun p q => x (ix4 b c p q)) (fun p q => x (ix4 b c p q)) else 0 := by
  pointwise [diag]
  rw [eq_small (by omega) (by omega), select_ofBool, inner_apply]
  by_cases h : r = c
  · subst h; rw [if_pos rfl, if_pos rfl]
  · rw [if_neg h, if_neg fun h' => h (Fin.ext h')]

/-- the squared lengths along rows, -/
theorem lenRow_apply (x : FVec Ideal X4 .f32) (b : Fin 8) (u : Fin 1) (c : Fin 8) :
    lenRow x (ix3 b u c) = dot (fun p q => x (ix4 b c p q)) (fun p q => x (ix4 b c p q)) := by
  pointwise [lenRow]
  simp only [diag_apply, Finset.sum_ite_eq', Finset.mem_univ, if_true]

/-- and along columns. -/
theorem lenCol_apply (x : FVec Ideal X4 .f32) (b : Fin 8) (r : Fin 8) (u : Fin 1) :
    lenCol x (ix3 b r u) = dot (fun p q => x (ix4 b r p q)) (fun p q => x (ix4 b r p q)) := by
  pointwise [lenCol]
  simp only [diag_apply, Finset.sum_ite_eq, Finset.mem_univ, if_true]

/-- The first distances are those of the given items. -/
theorem startD_apply (x : FVec Ideal X4 .f32) (b : Fin 8) (r c : Fin 16) (hr : r.val < 8) (hc : c.val < 8) :
    startD x (ix3 b r c) = Spec.dist (fun p q => x (ix4 b ⟨r.val, hr⟩ p q)) (fun p q => x (ix4 b ⟨c.val, hc⟩ p q)) := by
  pointwise [startD]
  rw [dif_pos hr, dif_pos hc, lenRow_apply, lenCol_apply, inner_apply]
  rfl

/-- The first squared lengths are theirs. -/
theorem startSq_apply (x : FVec Ideal X4 .f32) (b : Fin 8) (c : Fin 16) (hc : c.val < 8) :
    startSq x (ix2 b c) = dot (fun p q => x (ix4 b ⟨c.val, hc⟩ p q)) (fun p q => x (ix4 b ⟨c.val, hc⟩ p q)) := by
  pointwise [startSq]
  rw [dif_pos hc, lenRow_apply]

/-- The signed compare of small numbers. -/
theorem slt_small {m n : ℕ} (hm : m < 2 ^ 31) (hn : n < 2 ^ 31) :
    IntOp.cmpi .slt (BitVec.ofNat 32 m) (BitVec.ofNat 32 n) = BitVec.ofBool (decide (m < n)) := by
  unfold IntOp.cmpi
  simp only [BitVec.slt, toInt_small hm, toInt_small hn, Nat.cast_lt]

/-- The first eight items are active. -/
theorem startAct_apply (num : IVec P3 32) (b : Fin 8) (r c : Fin 16) (n : ℕ) (hn : n < 16) (h : num (ix3 b r c) = BitVec.ofNat 32 n) :
    startAct num (ix3 b r c) = flag (n < 8) := by
  pointwise [startAct]
  rw [h, show (8#32 : BitVec 32) = BitVec.ofNat 32 8 from rfl, slt_small (by omega) (by omega)]
  unfold flag
  by_cases h8 : n < 8
  · simp only [h8, decide_true, if_true]
    show (((1 : ℤ) : ℝ) : EReal) = 1
    norm_num
  · simp only [h8, decide_false, if_false]
    show (((0 : ℤ) : ℝ) : EReal) = 0
    norm_num

/-- The given items of batch row `b`, by number. -/
def given (x : FVec Ideal X4 .f32) (b : Fin 8) (i : ℕ) : Item := fun c q => if h : i < 8 then x (ix4 b ⟨i, h⟩ c q) else 0

/-- The given items are in the first eight places. -/
theorem given_lt (x : FVec Ideal X4 .f32) (b : Fin 8) (i : ℕ) (h : i < 8) :
    given x b i = fun c q => x (ix4 b ⟨i, h⟩ c q) := by
  funext c q
  exact dif_pos h

/-- The first tables are the first state's. -/
theorem rel_start (x : FVec Ideal X4 .f32) (w bias) (b : Fin 8) :
    Rel b 8 (state w bias (given x b) 0) (startD x) (startSq x) (startAct row) (startAct col) where
  D r c hc hr := by
    rw [startD_apply x b r c hr (by omega)]
    show _ = Spec.dist (given x b r) (given x b c)
    rw [given_lt x b r hr, given_lt x b c (by omega)]
  sq c hc := by
    rw [startSq_apply x b c hc]
    show _ = dot (given x b c) (given x b c)
    rw [given_lt x b c hc]
  ar r c := startAct_apply row b r c r r.isLt (row_apply b r c)
  ac r c := startAct_apply col b r c c c.isLt (col_apply b r c)
  act _ h := h

end Cert.Step

end
-- ==== Proof.Value.lean ====
module

public import proofs.«01_k».proof.Proof.Body
public import proofs.«01_k».proof.Proof.Chain
public import proofs.«01_k».proof.Proof.Start

@[expose] public section

set_option maxRecDepth 16384

noncomputable section

namespace Cert.Step
open Idealize.ShloMosaic Cert.Spec

/-- What the kernel keeps between two rounds: the stores made to the scratch, and the four tables. -/
structure Kept where
  L : List (View.Piece (Elt Ideal) Slots .f32)
  D : FVec Ideal P3 .f32
  sq : FVec Ideal P2 .f32
  ar : FVec Ideal P3 .f32
  ac : FVec Ideal P3 .f32

/-- What is kept is the states `s`, one for each batch row, with `p` items made. -/
structure Good {sig : RefSig} {κ : Kind} {sp : Space} (v : View sig κ sp Slots .f32) (p : ℕ) (s : Fin 8 → St) (K : Kept) : Prop where
  holds : Holds v K.L p fun b => (s b).t
  rel : ∀ b, Rel b p (s b) K.D K.sq K.ar K.ac

variable {sig : RefSig} {κ : Kind} {sp : Space} {v : View sig κ sp Slots .f32}

/-- The merged items of the round from `K`. -/
def merge1 (v : View sig κ sp Slots .f32) (f : v.ty.Contents (Elt Ideal)) (m : FVec Ideal Band .f32) (bias : EReal) (K : Kept) :
    FVec Ideal V3 .f32 := merged (loaded v f K.L (deff K.ar K.ac K.D)) m bias

/-- What is kept after the round from `K`. -/
def next1 (v : View sig κ sp Slots .f32) (f f' : v.ty.Contents (Elt Ideal)) (m : FVec Ideal Band .f32) (bias : EReal) (p : ℕ) (hp : p < 16)
    (h1 : V3.ShapeCasts ⟨4, ![8, 1, 128, 256]⟩)
    (h2 : (⟨4, ![8, 1, 128, 256]⟩ : Shape).Broadcasts ⟨4, ![8, p + 1, 128, 256]⟩)
    (h3 : (⟨4, ![8, p + 1, 128, 256]⟩ : Shape).Reduces [2, 3] ⟨2, ![8, p + 1]⟩)
    (h4 : (⟨2, ![8, p + 1]⟩ : Shape).Slices ![0, p] ⟨2, ![8, 1]⟩) (n : ℕ)
    (h5 : Shape.Concatenates [⟨2, ![8, p + 1]⟩, ⟨2, ![8, n]⟩] ⟨2, ![8, 16]⟩ 1) (K : Kept) : Kept where
  L := stored p hp (merge1 v f m bias K) K.L
  D := newD (BitVec.ofNat 32 p) K.sq
    (extractStridedSlice ⟨2, ![8, 1]⟩ ![0, p] (grams v f' p hp h1 h2 h3 K.L (merge1 v f m bias K)) h4)
    (wide (p + 1) n h5 (grams v f' p hp h1 h2 h3 K.L (merge1 v f m bias K))) K.D
  sq := newSq (BitVec.ofNat 32 p)
    (extractStridedSlice ⟨2, ![8, 1]⟩ ![0, p] (grams v f' p hp h1 h2 h3 K.L (merge1 v f m bias K)) h4) K.sq
  ar := newAct row (BitVec.ofNat 32 p) (rem (fidx (deff K.ar K.ac K.D))) (quot (fidx (deff K.ar K.ac K.D))) K.ar
  ac := newAct col (BitVec.ofNat 32 p) (rem (fidx (deff K.ar K.ac K.D))) (quot (fidx (deff K.ar K.ac K.D))) K.ac

/-- A round keeps the correspondence. -/
theorem Good.next {p : ℕ} {s : Fin 8 → St} {K : Kept} (h : Good v p s K) (hp0 : 0 < p) (hp : p < 16) (f f') (w m bias)
    (hm : Banded w m) (h1 h2 h3 h4 n h5) :
    Good v (p + 1) (fun b => step w bias p (s b)) (next1 v f f' m bias p hp h1 h2 h3 h4 n h5 K) where
  holds := holds_round h.holds hp0 hp h.rel f w m bias hm
  rel b := rel_round h.holds hp0 hp h.rel f f' w m bias hm n h1 h2 h3 h4 h5 b

end Cert.Step

namespace Cert.KernelIdeal.Run

open Cert.KernelIdeal Cert.KernelIdeal.Gen Cert.Step Cert.Spec
open Idealize.ShloMosaic

section Rounds
variable (c : Dev nD) (arg1 : Memref sig .tc .vmem S8x8x128x256 .f32) (harg1 : arg1.IsWhole)
    (arg2 : Memref sig .tc .vmem S512x256 .f32) (harg2 : arg2.IsWhole) (arg3 : Memref sig .tc .vmem S1x1 .f32) (harg3 : arg3.IsWhole)
    (arg5 : Memref sig .tc .vmem S8x16x128x256 .f32) (harg5 : arg5.IsWhole)
    (x0 : Vec Ideal S8x8x128x256 .f32) (x1 : Vec Ideal S512x256 .f32) (x2 : Vec Ideal S1x1 .f32) (z : Vec Ideal S8x16x128x256 .f32)

/-- What the run keeps before the first round, -/
def kept0 : Kept :=
  ⟨bodyRun.sl.HS0_1 c arg1 harg1 x0, bodyRun.sl.v76 c arg1 harg1 x0, bodyRun.sl.v79 c arg1 harg1 x0, k0_pay18 bodyRun.sl.v9, bodyRun.sl.v87⟩

/-- after the first, -/
def kept1 : Kept :=
  ⟨bodyRun.sl.HS0_9 c arg1 harg1 arg2 harg2 arg3 harg3 arg5 harg5 x0 x1 x2 z, bodyRun.sl.v283 c arg1 harg1 arg2 harg2 arg3 harg3 arg5 harg5 x0 x1 x2 z,
    bodyRun.sl.v290 c arg1 harg1 arg2 harg2 arg3 harg3 arg5 harg5 x0 x1 x2 z,
    bodyRun.sl.v308 c arg1 harg1 x0, bodyRun.sl.v312 c arg1 harg1 x0⟩

/-- after the second, -/
def kept2 : Kept :=
  ⟨bodyRun.sl.HS0_17 c arg1 harg1 arg2 harg2 arg3 harg3 arg5 harg5 x0 x1 x2 z, bodyRun.sl.v508 c arg1 harg1 arg2 harg2 arg3 harg3 arg5 harg5 x0 x1 x2 z,
    bodyRun.sl.v515 c arg1 harg1 arg2 harg2 arg3 harg3 arg5 harg5 x0 x1 x2 z,
    bodyRun.sl.v533 c arg1 harg1 arg2 harg2 arg3 harg3 arg5 harg5 x0 x1 x2 z, bodyRun.sl.v537 c arg1 harg1 arg2 harg2 arg3 harg3 arg5 harg5 x0 x1 x2 z⟩

/-- after the third, -/
def kept3 : Kept :=
  ⟨bodyRun.sl.HS0_25 c arg1 harg1 arg2 harg2 arg3 harg3 arg5 harg5 x0 x1 x2 z, bodyRun.sl.v733 c arg1 harg1 arg2 harg2 arg3 harg3 arg5 harg5 x0 x1 x2 z,
    bodyRun.sl.v740 c arg1 harg1 arg2 harg2 arg3 harg3 arg5 harg5 x0 x1 x2 z,
    bodyRun.sl.v758 c arg1 harg1 arg2 harg2 arg3 harg3 arg5 harg5 x0 x1 x2 z, bodyRun.sl.v762 c arg1 harg1 arg2 harg2 arg3 harg3 arg5 harg5 x0 x1 x2 z⟩

/-- after the fourth, -/
def kept4 : Kept :=
  ⟨bodyRun.sl.HS0_33 c arg1 harg1 arg2 harg2 arg3 harg3 arg5 harg5 x0 x1 x2 z, bodyRun.sl.v958 c arg1 harg1 arg2 harg2 arg3 harg3 arg5 harg5 x0 x1 x2 z,
    bodyRun.sl.v965 c arg1 harg1 arg2 harg2 arg3 harg3 arg5 harg5 x0 x1 x2 z,
    bodyRun.sl.v983 c arg1 harg1 arg2 harg2 arg3 harg3 arg5 harg5 x0 x1 x2 z, bodyRun.sl.v987 c arg1 harg1 arg2 harg2 arg3 harg3 arg5 harg5 x0 x1 x2 z⟩

/-- after the fifth, -/
def kept5 : Kept :=
  ⟨bodyRun.sl.HS0_41 c arg1 harg1 arg2 harg2 arg3 harg3 arg5 harg5 x0 x1 x2 z, bodyRun.sl.v1183 c arg1 harg1 arg2 harg2 arg3 harg3 arg5 harg5 x0 x1 x2 z,
    bodyRun.sl.v1190 c arg1 harg1 arg2 harg2 arg3 harg3 arg5 harg5 x0 x1 x2 z,
    bodyRun.sl.v1208 c arg1 harg1 arg2 harg2 arg3 harg3 arg5 harg5 x0 x1 x2 z, bodyRun.sl.v1212 c arg1 harg1 arg2 harg2 arg3 harg3 arg5 harg5 x0 x1 x2 z⟩

/-- The first round's merge is the one named in the run, -/
theorem merge_1 : bodyRun.sl.v224 c arg1 harg1 arg2 harg2 arg3 harg3 arg5 harg5 x0 x1 x2 z
    = merge1 arg5.view (harg5.unread z) (bodyRun.sl.v8 c arg2 harg2 x1) (bodyRun.sl.v6 c arg3 harg3 x2) (kept0 c arg1 harg1 x0) := rfl

/-- and what it leaves. -/
theorem next_1 : kept1 c arg1 harg1 arg2 harg2 arg3 harg3 arg5 harg5 x0 x1 x2 z = next1 arg5.view (harg5.unread z) arg5.view.junk (bodyRun.sl.v8 c arg2 harg2 x1) (bodyRun.sl.v6 c arg3 harg3 x2)
    8 (by decide) (by decide) (by decide) (by decide) (by decide) 7 (by show Shape.Concatenates [⟨2, ![8, 9]⟩, ⟨2, ![8, 7]⟩] ⟨2, ![8, 16]⟩ 1; decide)
    (kept0 c arg1 harg1 x0) := rfl

/-- The second round's merge is the one named in the run, -/
theorem merge_2 : bodyRun.sl.v449 c arg1 harg1 arg2 harg2 arg3 harg3 arg5 harg5 x0 x1 x2 z
    = merge1 arg5.view (harg5.unread z) (bodyRun.sl.v8 c arg2 harg2 x1) (bodyRun.sl.v6 c arg3 harg3 x2) (kept1 c arg1 harg1 arg2 harg2 arg3 harg3 arg5 harg5 x0 x1 x2 z) := rfl

/-- and what it leaves. -/
theorem next_2 : kept2 c arg1 harg1 arg2 harg2 arg3 harg3 arg5 harg5 x0 x1 x2 z = next1 arg5.view (harg5.unread z) arg5.view.junk (bodyRun.sl.v8 c arg2 harg2 x1) (bodyRun.sl.v6 c arg3 harg3 x2)
    9 (by decide) (by decide) (by decide) (by decide) (by decide) 6 (by show Shape.Concatenates [⟨2, ![8, 10]⟩, ⟨2, ![8, 6]⟩] ⟨2, ![8, 16]⟩ 1; decide)
    (kept1 c arg1 harg1 arg2 harg2 arg3 harg3 arg5 harg5 x0 x1 x2 z) := rfl

/-- The third round's merge is the one named in the run, -/
theorem merge_3 : bodyRun.sl.v674 c arg1 harg1 arg2 harg2 arg3 harg3 arg5 harg5 x0 x1 x2 z
    = merge1 arg5.view (harg5.unread z) (bodyRun.sl.v8 c arg2 harg2 x1) (bodyRun.sl.v6 c arg3 harg3 x2) (kept2 c arg1 harg1 arg2 harg2 arg3 harg3 arg5 harg5 x0 x1 x2 z) := rfl

/-- and what it leaves. -/
theorem next_3 : kept3 c arg1 harg1 arg2 harg2 arg3 harg3 arg5 harg5 x0 x1 x2 z = next1 arg5.view (harg5.unread z) arg5.view.junk (bodyRun.sl.v8 c arg2 harg2 x1) (bodyRun.sl.v6 c arg3 harg3 x2)
    10 (by decide) (by decide) (by decide) (by decide) (by decide) 5 (by show Shape.Concatenates [⟨2, ![8, 11]⟩, ⟨2, ![8, 5]⟩] ⟨2, ![8, 16]⟩ 1; decide)
    (kept2 c arg1 harg1 arg2 harg2 arg3 harg3 arg5 harg5 x0 x1 x2 z) := rfl

/-- The fourth round's merge is the one named in the run, -/
theorem merge_4 : bodyRun.sl.v899 c arg1 harg1 arg2 harg2 arg3 harg3 arg5 harg5 x0 x1 x2 z
    = merge1 arg5.view (harg5.unread z) (bodyRun.sl.v8 c arg2 harg2 x1) (bodyRun.sl.v6 c arg3 harg3 x2) (kept3 c arg1 harg1 arg2 harg2 arg3 harg3 arg5 harg5 x0 x1 x2 z) := rfl

/-- and what it leaves. -/
theorem next_4 : kept4 c arg1 harg1 arg2 harg2 arg3 harg3 arg5 harg5 x0 x1 x2 z = next1 arg5.view (harg5.unread z) arg5.view.junk (bodyRun.sl.v8 c arg2 harg2 x1) (bodyRun.sl.v6 c arg3 harg3 x2)
    11 (by decide) (by decide) (by decide) (by decide) (by decide) 4 (by show Shape.Concatenates [⟨2, ![8, 12]⟩, ⟨2, ![8, 4]⟩] ⟨2, ![8, 16]⟩ 1; decide)
    (kept3 c arg1 harg1 arg2 harg2 arg3 harg3 arg5 harg5 x0 x1 x2 z) := rfl

/-- The fifth round's merge is the one named in the run, -/
theorem merge_5 : bodyRun.sl.v1124 c arg1 harg1 arg2 harg2 arg3 harg3 arg5 harg5 x0 x1 x2 z
    = merge1 arg5.view (harg5.unread z) (bodyRun.sl.v8 c arg2 harg2 x1) (bodyRun.sl.v6 c arg3 harg3 x2) (kept4 c arg1 harg1 arg2 harg2 arg3 harg3 arg5 harg5 x0 x1 x2 z) := rfl

/-- and what it leaves. -/
theorem next_5 : kept5 c arg1 harg1 arg2 harg2 arg3 harg3 arg5 harg5 x0 x1 x2 z = next1 arg5.view (harg5.unread z) arg5.view.junk (bodyRun.sl.v8 c arg2 harg2 x1) (bodyRun.sl.v6 c arg3 harg3 x2)
    12 (by decide) (by decide) (by decide) (by decide) (by decide) 3 (by show Shape.Concatenates [⟨2, ![8, 13]⟩, ⟨2, ![8, 3]⟩] ⟨2, ![8, 16]⟩ 1; decide)
    (kept4 c arg1 harg1 arg2 harg2 arg3 harg3 arg5 harg5 x0 x1 x2 z) := rfl

/-- After the sixth round, written out: the run names only part of what is kept there. -/
def kept6 : Kept :=
  next1 arg5.view (harg5.unread z) arg5.view.junk (bodyRun.sl.v8 c arg2 harg2 x1) (bodyRun.sl.v6 c arg3 harg3 x2)
    13 (by decide) (by decide) (by decide) (by decide) (by decide) 2
    (by show Shape.Concatenates [⟨2, ![8, 14]⟩, ⟨2, ![8, 2]⟩] ⟨2, ![8, 16]⟩ 1; decide)
    (kept5 c arg1 harg1 arg2 harg2 arg3 harg3 arg5 harg5 x0 x1 x2 z)

/-- The last merge is the one named in the run, and it is what the run stores to the output. -/
theorem merge_6 : bodyRun.sl.v1567 c arg1 harg1 arg2 harg2 arg3 harg3 arg5 harg5 x0 x1 x2 z
    = merge1 arg5.view (harg5.unread z) (bodyRun.sl.v8 c arg2 harg2 x1) (bodyRun.sl.v6 c arg3 harg3 x2) (kept6 c arg1 harg1 arg2 harg2 arg3 harg3 arg5 harg5 x0 x1 x2 z) := rfl

/-- A shape cast from a shape to itself is the identity. -/
theorem cast_own {α : Type} {s : Shape} (v : s.Idx → α) (h : s.ShapeCasts s) : shapeCast s v h = v :=
  funext fun i => congrArg v (Shape.reshapeEquiv_self h i)

/-- The whole block of the items, loaded. -/
theorem all_x : View.readAt (Elt Ideal) arg1.view (Rect.unit ![0, 0, 0, 0] S8x8x128x256.size
    inb_S8x8x128x256_S8x8x128x256_0_0_0_0).toLoadRect (harg1.unread x0) = x0 :=
  (View.readAt_full _ _ _).trans (harg1.read_unread _)

/-- The loads of the whole operands are the operands: the items, -/
theorem load_x : bodyRun.sl.v16 c arg1 harg1 x0 = x0 :=
  (congrArg k0_pay8 (all_x arg1 harg1 x0)).trans (cast_own x0 _)

/-- the band, -/
theorem load_m : bodyRun.sl.v8 c arg2 harg2 x1 = x1 :=
  (congrArg k0_pay6 ((View.readAt_full _ _ _).trans (harg2.read_unread x1))).trans (cast_own x1 _)

/-- and the bias. -/
theorem load_bias : bodyRun.sl.v6 c arg3 harg3 x2 = x2 (ix2 0 0) := by
  refine (congrArg k0_pay5 ((View.readAt_full _ _ _).trans (harg3.read_unread x2))).trans ?_
  unfold k0_pay5
  pointwise

/-- The first store fills the first eight slots. -/
theorem read_first (f : arg5.view.ty.Contents (Elt Ideal)) (b : Fin 8) (s : Fin 16) (hs : s.val < 8) (ch : Fin 128) (q : Fin 256) :
    arg5.view.read (Elt Ideal) (arg5.view.writes (Elt Ideal) f (bodyRun.sl.HS0_1 c arg1 harg1 x0)) (ix4 b s ch q)
      = x0 (ix4 b ⟨s.val, hs⟩ ch q) := by
  refine (View.read_writes_cons_unit_of_mem arg5.view f _ _ [] (ix4 b s ch q) (ix4 b ⟨s.val, hs⟩ ch q) rfl fun a => ?_).trans ?_
  · match a with
    | 0 => exact (Nat.zero_add _).symm
    | 1 => exact (Nat.zero_add _).symm
    | 2 => exact (Nat.zero_add _).symm
    | 3 => exact (Nat.zero_add _).symm
  · have h : k0_pay4 (View.readAt (Elt Ideal) arg1.view (Rect.unit ![0, 0, 0, 0] S8x8x128x256.size
        inb_S8x8x128x256_S8x8x128x256_0_0_0_0).toLoadRect (harg1.unread x0)) = x0 :=
      (congrArg k0_pay4 (all_x arg1 harg1 x0)).trans ((cast_own (shapeCast _ x0 _) _).trans (cast_own x0 _))
    exact congrFun h _

/-- Before the first round the run keeps the given items. -/
theorem good0 (w : Taps) (bias : EReal) :
    Good arg5.view 8 (fun b => state w bias (given x0 b) 0) (kept0 c arg1 harg1 x0) where
  holds := by
    intro f b s hs ch q
    refine Eq.trans ?_ (congrFun (congrFun (given_lt x0 b s.val hs).symm ch) q)
    exact read_first c arg1 harg1 arg5 x0 f b s hs ch q
  rel b := by
    have h := rel_start (bodyRun.sl.v16 c arg1 harg1 x0) w bias b
    rw [load_x] at h
    have e1 : bodyRun.sl.v76 c arg1 harg1 x0 = startD (bodyRun.sl.v16 c arg1 harg1 x0) := rfl
    have e2 : bodyRun.sl.v79 c arg1 harg1 x0 = startSq (bodyRun.sl.v16 c arg1 harg1 x0) := rfl
    show Rel b 8 _ (bodyRun.sl.v76 c arg1 harg1 x0) (bodyRun.sl.v79 c arg1 harg1 x0) _ _
    rw [e1, e2, load_x]
    exact h

/-- After `k` rounds the run keeps the state after `k` rounds. -/
theorem good6 (w : Taps) (hm : Banded w x1) :
    Good arg5.view 14 (fun b => state w (x2 (ix2 0 0)) (given x0 b) 6) (kept6 c arg1 harg1 arg2 harg2 arg3 harg3 arg5 harg5 x0 x1 x2 z) := by
  have hm' : Banded w (bodyRun.sl.v8 c arg2 harg2 x1) := by rw [load_m]; exact hm
  have g0 := good0 c arg1 harg1 arg5 x0 w (x2 (ix2 0 0))
  rw [← load_bias c arg3 harg3 x2] at g0 ⊢
  have g1 : Good arg5.view 9 (fun b => state w (bodyRun.sl.v6 c arg3 harg3 x2) (given x0 b) 1) (kept1 c arg1 harg1 arg2 harg2 arg3 harg3 arg5 harg5 x0 x1 x2 z) := by
    rw [next_1]
    exact g0.next (by decide) _ (harg5.unread z) arg5.view.junk w _ _ hm' _ _ _ _ _ _
  have g2 : Good arg5.view 10 (fun b => state w (bodyRun.sl.v6 c arg3 harg3 x2) (given x0 b) 2) (kept2 c arg1 harg1 arg2 harg2 arg3 harg3 arg5 harg5 x0 x1 x2 z) := by
    rw [next_2]
    exact g1.next (by decide) _ (harg5.unread z) arg5.view.junk w _ _ hm' _ _ _ _ _ _
  have g3 : Good arg5.view 11 (fun b => state w (bodyRun.sl.v6 c arg3 harg3 x2) (given x0 b) 3) (kept3 c arg1 harg1 arg2 harg2 arg3 harg3 arg5 harg5 x0 x1 x2 z) := by
    rw [next_3]
    exact g2.next (by decide) _ (harg5.unread z) arg5.view.junk w _ _ hm' _ _ _ _ _ _
  have g4 : Good arg5.view 12 (fun b => state w (bodyRun.sl.v6 c arg3 harg3 x2) (given x0 b) 4) (kept4 c arg1 harg1 arg2 harg2 arg3 harg3 arg5 harg5 x0 x1 x2 z) := by
    rw [next_4]
    exact g3.next (by decide) _ (harg5.unread z) arg5.view.junk w _ _ hm' _ _ _ _ _ _
  have g5 : Good arg5.view 13 (fun b => state w (bodyRun.sl.v6 c arg3 harg3 x2) (given x0 b) 5) (kept5 c arg1 harg1 arg2 harg2 arg3 harg3 arg5 harg5 x0 x1 x2 z) := by
    rw [next_5]
    exact g4.next (by decide) _ (harg5.unread z) arg5.view.junk w _ _ hm' _ _ _ _ _ _
  exact g5.next (by decide) _ (harg5.unread z) arg5.view.junk w _ _ hm' _ _ _ _ _ _

/-- The run's last merge is the problem's result, for every batch row of the block. -/
theorem value (w : Taps) (hm : Banded w x1) (b : Fin 8) (ch : Fin 128) (q : Fin 256) :
    bodyRun.sl.v1567 c arg1 harg1 arg2 harg2 arg3 harg3 arg5 harg5 x0 x1 x2 z (ix3 b ch q) = result w (x2 (ix2 0 0)) (given x0 b) ch q := by
  have hm' : Banded w (bodyRun.sl.v8 c arg2 harg2 x1) := by rw [load_m]; exact hm
  have h := good6 c arg1 harg1 arg2 harg2 arg3 harg3 arg5 harg5 x0 x1 x2 z w hm
  rw [merge_6 c arg1 harg1 arg2 harg2 arg3 harg3 arg5 harg5 x0 x1 x2 z]
  refine (merged_round h.holds (by decide) h.rel (harg5.unread z) w _ _ hm' b ch q).trans ?_
  rw [load_bias]
  exact congrFun (congrFun (step_t_self w (x2 (ix2 0 0)) 14 (state w (x2 (ix2 0 0)) (given x0 b) 6)).symm ch) q

end Rounds

end Cert.KernelIdeal.Run

end
-- ==== Proof.Band.lean ====
module

public import proofs.«01_k».proof.Proof.Gen.KernelIdeal.Frame
public import proofs.«01_k».proof.Proof.Round
public import Idealize.ShloMosaic.Lib.StableHlo.ReadAt
public import Idealize.ShloMosaic.Lib.Pointwise
public import Idealize.ShloMosaic.Lib.Pointwise.IndexVar

@[expose] public section

set_option maxRecDepth 16384

noncomputable section

namespace Cert.KernelIdeal.Run

open Cert.KernelIdeal Cert.KernelIdeal.Gen Cert.Step Cert.Spec
open Idealize.ShloMosaic Idealize.ShloMosaic.TcCoe

/-- The shifted unit matrix of the host: one where the row plus the shift is the column. -/
def eye (k : BitVec 32) : FVec Ideal S16x16 .f32 :=
  uitofp .f32 (cmpi .eq (addi (iotaInDim S16x16 32 0) (broadcastInDim S16x16 ![] bcast_S_S16x16 (constantI S_ 32 k))) (iotaInDim S16x16 32 1))

/-- The seven shifts. -/
def lifts (k : Fin 7) : FVec Ideal S1x16x16 .f32 :=
  broadcastInDim S1x16x16 ![1, 2] bcast_S16x16_S1x16x16_1_2
    (eye (![3#32, 2#32, 1#32, 0#32, 4294967295#32, 4294967294#32, 4294967293#32] k))

/-- Seven matrices stacked. -/
def stacked (u : Fin 7 → FVec Ideal S1x16x16 .f32) : FVec Ideal S7x16x16 .f32 :=
  concatenate S7x16x16 0 [⟨S1x16x16, u 0⟩, ⟨S1x16x16, u 1⟩, ⟨S1x16x16, u 2⟩, ⟨S1x16x16, u 3⟩, ⟨S1x16x16, u 4⟩, ⟨S1x16x16, u 5⟩, ⟨S1x16x16, u 6⟩]
    concatenates_S1x16x16_S1x16x16_S1x16x16_S1x16x16_S1x16x16_S1x16x16_S1x16x16_S7x16x16_d0

/-- One half of the band matrix, from the taps of one input and the seven shifted unit matrices. -/
def halfOf (w : FVec Ideal S7x7 .f32) (u : Fin 7 → FVec Ideal S1x16x16 .f32) : FVec Ideal S256x256 .f32 :=
  shapeCast S256x256 (transpose S16x16x16x16 [0, 2, 1, 3]
    (Host.dotGeneral dot_S7x16x16_S7x16x16_S16x16x16x16_0_0_12_12_n_n (some .fp32)
      (Host.dotGeneral dot_S7x7_S7x16x16_S7x16x16_0_0_1_12_n_n (some .fp32) w (stacked u)) (stacked u))
    transposes_S16x16x16x16_S16x16x16x16_0_2_1_3) shapeCasts_S16x16x16x16_S256x256

/-- The same at the host's matrices. -/
def half (w : FVec Ideal S7x7 .f32) : FVec Ideal S256x256 .f32 := halfOf w lifts

/-- The band matrix. -/
def band (w : FVec Ideal S1x2x7x7 .f32) : FVec Ideal S512x256 .f32 :=
  concatenate S512x256 0
    [⟨S256x256, half (shapeCast S7x7 (extractStridedSlice S1x1x7x7 ![0, 0, 0, 0] w slices_S1x2x7x7_S1x1x7x7_0_0_0_0) shapeCasts_S1x1x7x7_S7x7)⟩,
      ⟨S256x256, half (shapeCast S7x7 (extractStridedSlice S1x1x7x7 ![0, 1, 0, 0] w slices_S1x2x7x7_S1x1x7x7_0_1_0_0) shapeCasts_S1x1x7x7_S7x7)⟩]
    concatenates_S256x256_S256x256_S512x256_d0

/-- A shifted unit matrix at an index. -/
theorem eye_apply (k : BitVec 32) (a y : Fin 16) :
    eye k (ix2 a y) = if BitVec.ofNat 32 a.val + k = BitVec.ofNat 32 y.val then 1 else 0 := by
  pointwise [eye]
  show ((((BitVec.ofBool (BitVec.ofNat 32 a.val + k == BitVec.ofNat 32 y.val)).toNat : ℝ) : EReal)) = _
  by_cases h : BitVec.ofNat 32 a.val + k = BitVec.ofNat 32 y.val
  · rw [if_pos h, beq_iff_eq.mpr h]; exact congrArg _ Nat.cast_one
  · rw [if_neg h, beq_eq_false_iff_ne.mpr h]; norm_num

/-- A stack at an index. -/
theorem stacked_apply (u : Fin 7 → FVec Ideal S1x16x16 .f32) (k : Fin 7) (a y : Fin 16) : stacked u (ix3 k a y) = u k (ix3 0 a y) := by
  fin_cases k <;> pointwise [stacked]

/-- One at `(k, a, y)` where a filter's row `k` takes input row `a` to output row `y`. -/
theorem stacked_lifts (k : Fin 7) (a y : Fin 16) : stacked lifts (ix3 k a y) = if a.val + 3 = y.val + k.val then 1 else 0 := by
  rw [stacked_apply]
  pointwise [lifts]
  rw [eye_apply]
  refine if_congr ?_ rfl rfl
  revert k a y
  decide +kernel

/-- An element of a half of the band: the tap at the offset from one pixel to the other, by two sums against shifted identities. -/
theorem half_apply (w : FVec Ideal S7x7 .f32) (a e y x : Fin 16) :
    half w (ix2 ⟨a.val * 16 + e.val, by omega⟩ ⟨y.val * 16 + x.val, by omega⟩)
      = ∑ l : Fin 7, (∑ k : Fin 7, w (ix2 k l) * stacked lifts (ix3 k a y)) * stacked lifts (ix3 l e x) := by
  pointwise [half, halfOf]

/-- The band's first half is the first input's, -/
theorem band_apply0 (w : FVec Ideal S1x2x7x7 .f32) (r q : Fin 256) :
    band w (ix2 ⟨r.val, by omega⟩ q) = half (fun i => w (ix4 0 0 (i 0) (i 1))) (ix2 r q) := by
  pointwise [band]
  refine congrFun (congrArg half (funext fun i => ?_)) _
  rw [eq_ix2 i]
  pointwise

/-- and its second the second's. -/
theorem band_apply1 (w : FVec Ideal S1x2x7x7 .f32) (r q : Fin 256) :
    band w (ix2 ⟨256 + r.val, by omega⟩ q) = half (fun i => w (ix4 0 1 (i 0) (i 1))) (ix2 r q) := by
  pointwise [band]
  refine congrFun (congrArg half (funext fun i => ?_)) _
  rw [eq_ix2 i]
  pointwise

/-- A product with a sum of which at most one term counts goes under the sum. -/
theorem mul_single {n : ℕ} (x : EReal) (P : Fin n → Prop) [DecidablePred P] (A : Fin n → EReal) (hP : ∀ k k', P k → P k' → k = k') :
    x * (∑ k, if P k then A k else 0) = ∑ k, if P k then x * A k else 0 := by
  by_cases h : ∃ k, P k
  · obtain ⟨k, hk⟩ := h
    rw [Finset.sum_eq_single k (fun k' _ hne => if_neg fun h' => hne (hP _ _ h' hk)) (fun h => absurd (Finset.mem_univ k) h),
      Finset.sum_eq_single k (fun k' _ hne => if_neg fun h' => hne (hP _ _ h' hk)) (fun h => absurd (Finset.mem_univ k) h), if_pos hk, if_pos hk]
  · rw [Finset.sum_eq_zero fun k _ => if_neg fun hk => h ⟨k, hk⟩, Finset.sum_eq_zero fun k _ => if_neg fun hk => h ⟨k, hk⟩, mul_zero]

/-- A factor that is one or zero. -/
theorem mul_bit (P : Prop) [Decidable P] (x : EReal) : x * (if P then 1 else 0) = if P then x else 0 := by
  split_ifs
  · exact mul_one x
  · exact mul_zero x

/-- One half of the band is the band of its input's filter. -/
theorem mul_half (w : FVec Ideal S7x7 .f32) (x : EReal) (a e : Fin 16) (q : Fin 256) :
    x * half w (ix2 ⟨a.val * 16 + e.val, by omega⟩ q) = reach (fun k n => w (ix2 k n)) q a e x := by
  have hq : q = ⟨(q.val / 16) * 16 + q.val % 16, by omega⟩ := Fin.ext (by show q.val = q.val / 16 * 16 + q.val % 16; omega)
  have h := half_apply w a e ⟨q.val / 16, by omega⟩ ⟨q.val % 16, by omega⟩
  rw [← hq] at h
  rw [h]
  simp only [stacked_lifts, mul_bit]
  rw [mul_single x _ _ fun k k' h h' => Fin.ext (by omega)]
  unfold reach
  rw [Finset.sum_comm]
  refine Finset.sum_congr rfl fun l _ => ?_
  rw [mul_single x _ _ fun k k' h h' => Fin.ext (by omega)]
  split_ifs with hl
  · exact Finset.sum_congr rfl fun k _ => if_congr (by simp only [hl, and_true]) rfl rfl
  · exact (Finset.sum_eq_zero fun k _ => if_neg fun h => hl h.2).symm

/-- The host's band matrix is the band matrix of the filter. -/
theorem banded (w : FVec Ideal S1x2x7x7 .f32) : Banded (fun d k n => w (ix4 0 d k n)) (band w) := by
  intro x d a e q
  match d with
  | 0 =>
    have hr : (⟨(0 : Fin 2).val * 256 + (a.val * 16 + e.val), by simp; omega⟩ : Fin 512) = ⟨a.val * 16 + e.val, by omega⟩ :=
      Fin.ext (by show 0 * 256 + (a.val * 16 + e.val) = a.val * 16 + e.val; omega)
    refine (congrArg (fun r => x * band w (ix2 r q)) hr).trans ?_
    refine (congrArg (x * ·) (band_apply0 w ⟨a.val * 16 + e.val, by omega⟩ q)).trans ?_
    exact mul_half _ x a e q
  | 1 =>
    have hr : (⟨(1 : Fin 2).val * 256 + (a.val * 16 + e.val), by simp; omega⟩ : Fin 512) = ⟨256 + (a.val * 16 + e.val), by omega⟩ :=
      Fin.ext (by show 1 * 256 + (a.val * 16 + e.val) = 256 + (a.val * 16 + e.val); omega)
    refine (congrArg (fun r => x * band w (ix2 r q)) hr).trans ?_
    refine (congrArg (x * ·) (band_apply1 w ⟨a.val * 16 + e.val, by omega⟩ q)).trans ?_
    exact mul_half _ x a e q

variable (m : (ℓ : Loc nD τ sig) → Buf (Elt Ideal) ℓ)

/-- The seven matrices are what the host has stored when it stacks them. -/
theorem lifts_at (c : Dev nD) :
    (StableHlo.upto (List.flatten [hostOps0]) (fun b => m (c, b)) 57 (Proc.devRef .tc main_v43) : FVec Ideal S1x16x16 .f32) = lifts 0
      ∧ (StableHlo.upto (List.flatten [hostOps0]) (fun b => m (c, b)) 57 (Proc.devRef .tc main_v44) : FVec Ideal S1x16x16 .f32) = lifts 1
      ∧ (StableHlo.upto (List.flatten [hostOps0]) (fun b => m (c, b)) 57 (Proc.devRef .tc main_v45) : FVec Ideal S1x16x16 .f32) = lifts 2
      ∧ (StableHlo.upto (List.flatten [hostOps0]) (fun b => m (c, b)) 57 (Proc.devRef .tc main_v46) : FVec Ideal S1x16x16 .f32) = lifts 3
      ∧ (StableHlo.upto (List.flatten [hostOps0]) (fun b => m (c, b)) 57 (Proc.devRef .tc main_v47) : FVec Ideal S1x16x16 .f32) = lifts 4
      ∧ (StableHlo.upto (List.flatten [hostOps0]) (fun b => m (c, b)) 57 (Proc.devRef .tc main_v48) : FVec Ideal S1x16x16 .f32) = lifts 5
      ∧ (StableHlo.upto (List.flatten [hostOps0]) (fun b => m (c, b)) 57 (Proc.devRef .tc main_v49) : FVec Ideal S1x16x16 .f32) = lifts 6 := by
  refine ⟨?_, ?_, ?_, ?_, ?_, ?_, ?_⟩ <;> (after_reads_simp; rfl)

/-- The first half, -/
theorem half_0 (c : Dev nD) : StableHlo.upto (List.flatten [hostOps0]) (fun b => m (c, b)) 70 (Proc.devRef .tc main_v56)
    = half (shapeCast S7x7 (extractStridedSlice S1x1x7x7 ![0, 0, 0, 0] (m ((c : Thread nD τ).loc main_arg1)) slices_S1x2x7x7_S1x1x7x7_0_0_0_0) shapeCasts_S1x1x7x7_S7x7) := by
  obtain ⟨h0, h1, h2, h3, h4, h5, h6⟩ := lifts_at m c
  after_reads_simp
  dsimp only [Matrix.cons_val]
  rw [h0, h1, h2, h3, h4, h5, h6]
  rfl

/-- and the second. -/
theorem half_1 (c : Dev nD) : StableHlo.upto (List.flatten [hostOps0]) (fun b => m (c, b)) 70 (Proc.devRef .tc main_v62)
    = half (shapeCast S7x7 (extractStridedSlice S1x1x7x7 ![0, 1, 0, 0] (m ((c : Thread nD τ).loc main_arg1)) slices_S1x2x7x7_S1x1x7x7_0_1_0_0) shapeCasts_S1x1x7x7_S7x7) := by
  obtain ⟨h0, h1, h2, h3, h4, h5, h6⟩ := lifts_at m c
  after_reads_simp
  dsimp only [Matrix.cons_val]
  rw [h0, h1, h2, h3, h4, h5, h6]
  rfl

/-- The second operand is the band matrix of the second argument, -/
theorem V_band (c : Dev nD) : V m c main_v63 = band (m ((c : Thread nD τ).loc main_arg1)) := by
  unfold V V0
  after_reads_simp
  exact congrArg₂ (fun a b => concatenate S512x256 0 [⟨S256x256, a⟩, ⟨S256x256, b⟩] concatenates_S256x256_S256x256_S512x256_d0)
    (half_0 m c) (half_1 m c)

/-- The region finds the items with their pixels in one row, -/
theorem V_x (c : Dev nD) : V m c main_v0 = shapeCast S16x8x128x256 (m ((c : Thread nD τ).loc main_arg0)) shapeCasts_S16x8x128x16x16_S16x8x128x256 := by
  unfold V V0
  after_reads_simp
  rfl

/-- and the bias as a 1 × 1 matrix. -/
theorem V_bias (c : Dev nD) : V m c main_v64 = shapeCast S1x1 (m ((c : Thread nD τ).loc main_arg2)) shapeCasts_S1_S1x1 := by
  unfold V V0
  after_reads_simp
  rfl

end Cert.KernelIdeal.Run

end
-- ==== Proof.Launch.lean ====
module

public import proofs.«01_k».proof.Proof.Value
public import proofs.«01_k».proof.Proof.Band
public import Idealize.ShloMosaic.Lib.Claim
public import Idealize.ShloMosaic.Lib.Pipeline.Value

@[expose] public section

set_option maxRecDepth 16384

noncomputable section

namespace Cert.KernelIdeal.Run

open Cert.KernelIdeal Cert.KernelIdeal.Gen Cert.Step Cert.Spec
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The filter taps, from the second argument. -/
def taps (w : FVec Ideal S1x2x7x7 .f32) : Taps := fun d k n => w (ix4 0 d k n)

/-- A block of the result: each batch row's items agglomerated. -/
def block (w : Taps) (bias : EReal) (x : Vec Ideal S8x8x128x256 .f32) : Vec Ideal S8x128x256 .f32 :=
  fun i => result w bias (given x (i 0)) (i 1) (i 2)

/-- The band's block is the whole band. -/
theorem iblk_band (c : Dev nD) (t : Fin cfg0.N) : iblk m c 1 t = band (m ((c : Thread nD τ).loc main_arg1)) := by
  rw [← V_band]
  funext j
  show V m c main_v63 _ = V m c main_v63 j
  refine congrArg _ (funext fun a => Fin.ext ?_)
  match a with
  | ⟨0, _⟩ => exact (by omega : ∀ n : ℕ, 0 * 512 + 1 * n = n) (j 0).val
  | ⟨1, _⟩ => exact (by omega : ∀ n : ℕ, 0 * 256 + 1 * n = n) (j 1).val

/-- What the output's staging buffer holds after the body at point `t`. -/
def outsAt0 (c : Dev nD) (t : Fin cfg0.N) : Vec Ideal S8x128x256 .f32 :=
  block (taps (m ((c : Thread nD τ).loc main_arg1))) (iblk m c 2 t (ix2 0 0)) (iblk m c 0 t)

/-- The proof data of the pipeline on core `c`: the arrays as the region finds them; each input's buffer left at its
    block, the output's at the agglomerated block; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outsAt0 m c t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves, window by window. -/
theorem after_0 (c : Dev nD) (t : Fin cfg0.N) : (dats m 0 c).after 0 t = iblk m c 0 t := by dsimp only [dats]
/-- The same for the band, -/
theorem after_1 (c : Dev nD) (t : Fin cfg0.N) : (dats m 0 c).after 1 t = iblk m c 1 t := by dsimp only [dats]
/-- for the bias, -/
theorem after_2 (c : Dev nD) (t : Fin cfg0.N) : (dats m 0 c).after 2 t = iblk m c 2 t := by dsimp only [dats]
/-- and for the output. -/
theorem after_3 (c : Dev nD) (t : Fin cfg0.N) : (dats m 0 c).after 3 t = outsAt0 m c t := by dsimp only [dats]

/-- Each input's staging buffer holds its block at every point. -/
theorem before_0 (c : Dev nD) (t : Fin cfg0.N) (d) : (dats m 0 c).before 0 t d = iblk m c 0 t :=
  before0_0_of m (dats m 0 c) (A_eq m c 0) (after_0 m c) t d
/-- The same for the band, -/
theorem before_1 (c : Dev nD) (t : Fin cfg0.N) (d) : (dats m 0 c).before 1 t d = iblk m c 1 t :=
  before0_1_of m (dats m 0 c) (A_eq m c 1) (after_1 m c) t d
/-- and for the bias. -/
theorem before_2 (c : Dev nD) (t : Fin cfg0.N) (d) : (dats m 0 c).before 2 t d = iblk m c 2 t :=
  before0_2_of m (dats m 0 c) (A_eq m c 2) (after_2 m c) t d

/-- The invariant is the scratch owned at some contents, and the generator register. -/
theorem PhiA_eq (c : Dev nD) : (Pipeline.ΦA spec0 c : sProp 𝕄)
    = iprop((∃ d, owns (c : Thread nD τ) (Memref.whole cc0_scratch0) fullShare d) ∗ (∃ r, prngReg c r)) := by
  unfold Pipeline.ΦA; rw [scopedRest0_eq]; simp only [owns_whole]; try rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The run's pieces for the output leave the agglomerated block, whatever the scratch held. -/
theorem out_block (c : Dev nD) (i : grid0.Coords) (arg1 : Memref sig .tc .vmem S8x8x128x256 .f32) (harg1 : arg1.IsWhole)
    (arg2 : Memref sig .tc .vmem S512x256 .f32) (harg2 : arg2.IsWhole) (arg3 : Memref sig .tc .vmem S1x1 .f32) (harg3 : arg3.IsWhole)
    (arg4 : Memref sig .tc .vmem S8x128x256 .f32) (harg4 : arg4.IsWhole) (arg5 : Memref sig .tc .vmem S8x16x128x256 .f32) (harg5 : arg5.IsWhole)
    (x0 : Vec Ideal S8x8x128x256 .f32) (x1 : Vec Ideal S512x256 .f32) (x2 : Vec Ideal S1x1 .f32) (z : Vec Ideal S8x16x128x256 .f32)
    (w : Taps) (hw : Banded w x1) (f : arg4.view.ty.Contents (Elt Ideal)) :
    arg4.view.read (Elt Ideal) (arg4.view.writes (Elt Ideal) f
      (bodyRun c i arg1 harg1 arg2 harg2 arg3 harg3 arg4 harg4 arg5 harg5 x0 x1 x2 z).1) = block w (x2 (ix2 0 0)) x0 := by
  refine (View.read_writes_full arg4.view f _ _ []).trans (b := bodyRun.sl.v1567 c arg1 harg1 arg2 harg2 arg3 harg3 arg5 harg5 x0 x1 x2 z) ?_
  funext j
  rw [eq_ix3 j]
  exact value c arg1 harg1 arg2 harg2 arg3 harg3 arg5 harg5 x0 x1 x2 z w hw (j 0) (j 1) (j 2)

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, PhiA_eq]
  have hw : Banded (taps (m ((c : Thread nD τ).loc main_arg1))) (iblk m c 1 t) := by
    rw [iblk_band]; exact banded _
  iintro ⟨⟨⟨%z, HS0⟩, Hg⟩, Ho, ⟨%d0, H0⟩, ⟨%d1, H1⟩, ⟨%d2, H2⟩, ⟨%d3, H3⟩⟩
  iapply ((bodyRun c (grid0.coords t) _ _ _ _ _ _ _ _ _ _ (iblk m c 0 t) (iblk m c 1 t) (iblk m c 2 t) z).2.2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, ⟨%fT0, HS0⟩⟩
  isplitl [HS0 Hg]
  · isplitl [HS0]
    · iexists _; unfold owns; iexists _; isplitr
      swap; · iexact HS0
      ipureintro; rfl
    iexact Hg
  isplitl [Ho]; · iexact Ho
  isplitl [H0]; · iexact H0
  isplitl [H1]; · iexact H1
  isplitl [H2]; · iexact H2
  unfold owns; iexists _; isplitr
  swap; · iexact H3
  ipureintro; exact out_block c _ _ _ _ _ _ _ _ _ _ _ _ _ _ z _ hw e3

/-- The body table's row at point `t`'s slots is the body. -/
theorem defs₀_row (t : Fin cfg0.N) : defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends, with the arrays at what the proof data say and every counter at zero. -/
theorem run_main_quiescent : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The same without the counters. -/
theorem run_main : θ_run defs (onTc (τ := τ) (main (F := Ideal))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged and the machine quiescent. -/
theorem frame_kernel : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.Result.lean ====
module

public import proofs.«01_k».proof.Proof.Answer
public import proofs.«01_k».proof.Proof.Launch

@[expose] public section

set_option maxRecDepth 16384

noncomputable section

/-! The kernel's result: the agglomeration of every batch row. -/

namespace Cert.KernelIdeal.Run

open Cert.KernelIdeal Cert.KernelIdeal.Gen Cert.Spec Cert.Step
open Idealize.ShloMosaic Idealize.ShloMosaic.TcCoe Idealize.SL.Sem Idealize.ShloMosaic.StableHlo

variable (m : (ℓ : Loc nD τ sig) → Buf (Elt Ideal) ℓ) (c : Dev nD)

/-- The arguments: the items, -/
abbrev argX : FVec Ideal S16x8x128x16x16 .f32 := m ((c : Thread nD τ).loc main_arg0)
/-- the filter, -/
abbrev argW : FVec Ideal S1x2x7x7 .f32 := m ((c : Thread nD τ).loc main_arg1)
/-- and the bias. -/
abbrev argB : FVec Ideal S1 .f32 := m ((c : Thread nD τ).loc main_arg2)

/-- There are two grid points. -/
theorem point_lt (t : Fin cfg0.N) : t.val < 2 := t.isLt

/-- Row `b` of grid point `t`'s block, in the whole batch. -/
def batchRow (t : Fin cfg0.N) (b : Fin 8) : Fin 16 := ⟨t.val * 8 + b.val, by have := point_lt t; omega⟩

/-- A grid point's blocks of the items and of the result are its own on the batch axis and whole on the others. -/
theorem idx_x : ∀ t : Fin cfg0.N, win0_0.index t (0 : Fin 4) = t.val ∧ win0_0.index t (1 : Fin 4) = 0
    ∧ win0_0.index t (2 : Fin 4) = 0 ∧ win0_0.index t (3 : Fin 4) = 0 :=
  (by decide +kernel : ∀ t : Fin grid0.N, _)

/-- The same for the result. -/
theorem idx_out : ∀ t : Fin cfg0.N, win0_3.index t (0 : Fin 3) = t.val ∧ win0_3.index t (1 : Fin 3) = 0 ∧ win0_3.index t (2 : Fin 3) = 0 :=
  (by decide +kernel : ∀ t : Fin grid0.N, _)

/-- The items' block at a grid point. -/
theorem iblk_x (t : Fin cfg0.N) (b i : Fin 8) (ch : Fin 128) (q : Fin 256) :
    (iblk m c 0 t : Vec Ideal S8x8x128x256 .f32) (ix4 b i ch q)
      = argX m c (ix5 (batchRow t b) i ch ⟨q.val / 16, by omega⟩ ⟨q.val % 16, by omega⟩) := by
  have h : (iblk m c 0 t : Vec Ideal S8x8x128x256 .f32) (ix4 b i ch q) = (V m c main_v0 : FVec Ideal S16x8x128x256 .f32) (ix4 (batchRow t b) i ch q) := by
    show V m c main_v0 _ = V m c main_v0 _
    refine congrArg _ (funext fun a => Fin.ext ?_)
    obtain ⟨e0, e1, e2, e3⟩ := idx_x t
    match a with
    | ⟨0, _⟩ => show win0_0.index t (0 : Fin 4) * 8 + 1 * b.val = t.val * 8 + b.val; omega
    | ⟨1, _⟩ => show win0_0.index t (1 : Fin 4) * 8 + 1 * i.val = i.val; omega
    | ⟨2, _⟩ => show win0_0.index t (2 : Fin 4) * 128 + 1 * ch.val = ch.val; omega
    | ⟨3, _⟩ => show win0_0.index t (3 : Fin 4) * 256 + 1 * q.val = q.val; omega
  rw [h, V_x]
  pointwise

/-- The bias's block is the bias. -/
theorem iblk_bias (t : Fin cfg0.N) : (iblk m c 2 t : Vec Ideal S1x1 .f32) (ix2 0 0) = argB m c (ix1 0) := by
  have h : (iblk m c 2 t : Vec Ideal S1x1 .f32) (ix2 0 0) = (V m c main_v64 : FVec Ideal S1x1 .f32) (ix2 0 0) := by
    show V m c main_v64 _ = V m c main_v64 _
    refine congrArg _ (funext fun a => Fin.ext ?_)
    match a with
    | ⟨0, _⟩ => rfl
    | ⟨1, _⟩ => rfl
  rw [h, V_bias]
  pointwise

/-- The items of a block's row are the items of that row of the batch. -/
theorem given_x (t : Fin cfg0.N) (b : Fin 8) : given (iblk m c 0 t) b = items (argX m c) (batchRow t b) := by
  funext i ch q
  exact dite_congr rfl (fun h => iblk_x m c t b ⟨i, h⟩ ch q) fun _ => rfl

/-- The whole result array. -/
def whole : Vec Ideal S16x128x256 .f32 := fun j => answer (argX m c) (argW m c) (argB m c) (j 0) (j 1) (j 2)

/-- Where row `b` of grid point `t`'s output block lies in the result array. -/
theorem emb_out (t : Fin cfg0.N) (b : Fin 8) (ch : Fin 128) (q : Fin 256) :
    ((cfg0.win 3).blk t).view.emb (ix3 b ch q : S8x128x256.Idx) = (ix3 (batchRow t b) ch q : S16x128x256.Idx) := by
  refine funext fun a => Fin.ext ?_
  obtain ⟨e0, e1, e2⟩ := idx_out t
  match a with
  | ⟨0, _⟩ => show win0_3.index t (0 : Fin 3) * 8 + 1 * b.val = t.val * 8 + b.val; omega
  | ⟨1, _⟩ => show win0_3.index t (1 : Fin 3) * 128 + 1 * ch.val = ch.val; omega
  | ⟨2, _⟩ => show win0_3.index t (2 : Fin 3) * 256 + 1 * q.val = q.val; omega

/-- What a grid point writes back is its block of the whole. -/
theorem flushed_out (t : Fin cfg0.N) :
    (dats m 0 c).flushed 3 t = ((cfg0.win 3).blk t).view.read (Elt Ideal) (whole m c) := by
  funext j
  obtain ⟨b, ch, q, rfl⟩ : ∃ b ch q, j = (ix3 b ch q : S8x128x256.Idx) := ⟨j 0, j 1, j 2, funext fun a => by fin_cases a <;> rfl⟩
  show _ = whole m c (((cfg0.win 3).blk t).view.emb (ix3 b ch q : S8x128x256.Idx))
  rw [emb_out]
  show (dats m 0 c).after 3 t (ix3 b ch q : S8x128x256.Idx) = _
  rw [after_3]
  show result (taps (argW m c)) (iblk m c 2 t (ix2 0 0)) (given (iblk m c 0 t) b) ch q = answer (argX m c) (argW m c) (argB m c) (batchRow t b) ch q
  rw [given_x, iblk_bias]
  rfl

/-- The two blocks make up the array. -/
theorem covered_out (j : S16x128x256.Idx) : ∃ t : Fin cfg0.N, (cfg0.win 3).flush t = true ∧ j ∈ ((cfg0.win 3).blk t).view.set := by
  have h0 : (j 0).val < 16 := (j 0).isLt
  let t : Fin cfg0.N := ⟨(j 0).val / 8, (by omega : (j 0).val / 8 < 2)⟩
  let b : Fin 8 := ⟨(j 0).val % 8, by omega⟩
  have e : (ix3 (batchRow t b) (j 1) (j 2) : S16x128x256.Idx) = j := by
    refine funext fun a => Fin.ext ?_
    match a with
    | ⟨0, _⟩ => exact (by omega : (j 0).val / 8 * 8 + (j 0).val % 8 = (j 0).val)
    | ⟨1, _⟩ => rfl
    | ⟨2, _⟩ => rfl
  exact ⟨t, flush0_3 _, ((emb_out t b (j 1) (j 2)).trans e) ▸ ((cfg0.win 3).blk t).view.emb_mem_set (ix3 b (j 1) (j 2) : S8x128x256.Idx)⟩

/-- The region's output array after the run. -/
theorem final_out : (dats m 0 c).arrAt 3 cfg0.N = whole m c :=
  (dats m 0 c).arrAt_eq_of_cover 3 (whole m c) (fun t _ => flushed_out m c t) covered_out

/-- The result: the output array with its pixels unfolded. -/
theorem tail_out : (Pipeline.afterTail₀ cfgs (dats m) 0 (V0 m) [hostOps1] c main_v66 : FVec Ideal S16x128x16x16 .f32)
    = shapeCast S16x128x16x16 (whole m c) shapeCasts_S16x128x256_S16x128x16x16 := by
  rw [← final_out]
  unfold Pipeline.afterTail₀
  refine Eq.trans ?_ (congrArg (fun a : Vec Ideal S16x128x256 .f32 => shapeCast S16x128x16x16 a shapeCasts_S16x128x256_S16x128x16x16)
    (Pipeline.withArrays_arr spec0 winFacts0.arr_inj c (V0 m c) (fun w => (dats m 0 c).arrAt w cfg0.N) 3))
  after_reads_simp
  rfl

/-- The result, element by element. -/
theorem tail_66 (b : Fin 16) (ch : Fin 128) (y x : Fin 16) :
    (Pipeline.afterTail₀ cfgs (dats m) 0 (V0 m) [hostOps1] c main_v66 : FVec Ideal S16x128x16x16 .f32) (ix4 b ch y x)
      = answer (argX m c) (argW m c) (argB m c) b ch (pix y x) := by
  rw [tail_out]
  pointwise [whole]
  exact congrArg (answer (argX m c) (argW m c) (argB m c) b ch) (Fin.ext (by simp only [pix]))

end Cert.KernelIdeal.Run

end
-- ==== Proof.Ops.lean ====
module

public import proofs.«01_k».proof.Proof.Gen.ReferenceIdeal
public import Idealize.ShloMosaic.Lib.StableHlo.RunLoop
public import Idealize.ShloMosaic.Lib.Quiescent
public import Idealize.ShloMosaic.Lib.ValueIdx
public import Idealize.ShloMosaic.Lib.Pipeline.Regions

@[expose] public section

set_option maxRecDepth 16384

noncomputable section

/-! The reference's operations, as lists: those before its loop, the loop's condition, its body in eight stretches, those
after it; and that the printed program is these lists in order. -/

namespace Cert.ReferenceIdeal.Run

open Cert.ReferenceIdeal Cert.ReferenceIdeal.Gen
open Idealize.ShloMosaic Idealize.ShloMosaic.TcCoe Idealize.SL.Sem

variable {F : FTy → Type} [FloatOps F]

/-- The operations before the loop, the carried values copied in at the end. -/
abbrev preOps : List (HloOp τ sig (Elt F)) :=
  [ StableHlo.nullary main_v0 (iotaInDim S15 32 0),
    StableHlo.unary main_v0 main_v1 (broadcastInDim S15x1 ![0] bcast_S15_S15x1_0 : (⟨S15, .i32⟩ : BufTy).Contents (Elt F) → (⟨S15x1, .i32⟩ : BufTy).Contents (Elt F)),
    StableHlo.unary main_v0 main_v2 (broadcastInDim S1x15 ![1] bcast_S15_S1x15_1 : (⟨S15, .i32⟩ : BufTy).Contents (Elt F) → (⟨S1x15, .i32⟩ : BufTy).Contents (Elt F)),
    StableHlo.unary main_v1 main_v3 (broadcastInDim S15x15 ![0, 1] bcast_S15x1_S15x15_0_1 : (⟨S15x1, .i32⟩ : BufTy).Contents (Elt F) → (⟨S15x15, .i32⟩ : BufTy).Contents (Elt F)),
    StableHlo.unary main_v2 main_v4 (broadcastInDim S15x15 ![0, 1] bcast_S1x15_S15x15_0_1 : (⟨S1x15, .i32⟩ : BufTy).Contents (Elt F) → (⟨S15x15, .i32⟩ : BufTy).Contents (Elt F)),
    StableHlo.binary main_v3 main_v4 main_v5 (cmpi .sgt : (⟨S15x15, .i32⟩ : BufTy).Contents (Elt F) → (⟨S15x15, .i32⟩ : BufTy).Contents (Elt F) → (⟨S15x15, .i1⟩ : BufTy).Contents (Elt F)),
    StableHlo.nullary main_cst (constant S_ .f32 0x00000000#32),
    StableHlo.unary main_cst main_v6 (broadcastInDim S16x7x128x16x16 ![] bcast_S_S16x7x128x16x16 : (⟨S_, .f32⟩ : BufTy).Contents (Elt F) → (⟨S16x7x128x16x16, .f32⟩ : BufTy).Contents (Elt F)),
    StableHlo.binary main_arg0 main_v6 main_v7 ((fun a b => concatenate S16x15x128x16x16 1 [⟨S16x8x128x16x16, a⟩, ⟨S16x7x128x16x16, b⟩] concatenates_S16x8x128x16x16_S16x7x128x16x16_S16x15x128x16x16_d1) : (⟨S16x8x128x16x16, .f32⟩ : BufTy).Contents (Elt F) → (⟨S16x7x128x16x16, .f32⟩ : BufTy).Contents (Elt F) → (⟨S16x15x128x16x16, .f32⟩ : BufTy).Contents (Elt F)),
    StableHlo.nullary main_c (constantI S_ 32 8#32),
    StableHlo.unary main_c main_v8 (broadcastInDim S15 ![] bcast_S_S15 : (⟨S_, .i32⟩ : BufTy).Contents (Elt F) → (⟨S15, .i32⟩ : BufTy).Contents (Elt F)),
    StableHlo.binary main_v0 main_v8 main_v9 (cmpi .slt : (⟨S15, .i32⟩ : BufTy).Contents (Elt F) → (⟨S15, .i32⟩ : BufTy).Contents (Elt F) → (⟨S15, .i1⟩ : BufTy).Contents (Elt F)),
    StableHlo.unary main_v9 main_v10 (broadcastInDim S16x15 ![1] bcast_S15_S16x15_1 : (⟨S15, .i1⟩ : BufTy).Contents (Elt F) → (⟨S16x15, .i1⟩ : BufTy).Contents (Elt F)),
    StableHlo.nullary main_c_0 (constantI S_ 32 0#32),
    StableHlo.nullary main_c_1 (constantI S_ 32 0#32),
    StableHlo.unary main_v5 main_v11_0 id,
    StableHlo.unary main_arg1 main_v11_1 id,
    StableHlo.unary main_arg2 main_v11_2 id,
    StableHlo.unary main_v0 main_v11_3 id,
    StableHlo.unary main_c_1 main_v11_4 id,
    StableHlo.unary main_c_0 main_v11_5 id,
    StableHlo.unary main_v7 main_v11_6 id,
    StableHlo.unary main_v10 main_v11_7 id ]

/-- The loop condition's operations. -/
abbrev condOps : List (HloOp τ sig (Elt F)) :=
  [ StableHlo.nullary main_while0c_c_9 (constantI S_ 32 7#32),
    StableHlo.binary main_v11_4 main_while0c_c_9 main_while0c_v14 (cmpi .slt : (⟨S_, .i32⟩ : BufTy).Contents (Elt F) → (⟨S_, .i32⟩ : BufTy).Contents (Elt F) → (⟨S_, .i1⟩ : BufTy).Contents (Elt F)) ]

/-- The loop body's operations: the squared distances. -/
abbrev distOps : List (HloOp τ sig (Elt F)) :=
  [ StableHlo.nullary main_while0b_c_9 (constantI S_ 32 1#32),
    StableHlo.binary main_v11_5 main_while0b_c_9 main_while0b_v14 (addi : (⟨S_, .i32⟩ : BufTy).Contents (Elt F) → (⟨S_, .i32⟩ : BufTy).Contents (Elt F) → (⟨S_, .i32⟩ : BufTy).Contents (Elt F)),
    StableHlo.reshape main_v11_6 main_while0b_v15 (rfl : (.f32 : EltTy) = .f32) shapeCasts_S16x15x128x16x16_S16x15x32768,
    StableHlo.binary main_while0b_v15 main_while0b_v15 main_while0b_v16 (mulf : (⟨S16x15x32768, .f32⟩ : BufTy).Contents (Elt F) → (⟨S16x15x32768, .f32⟩ : BufTy).Contents (Elt F) → (⟨S16x15x32768, .f32⟩ : BufTy).Contents (Elt F)),
    StableHlo.nullary main_while0b_cst_10 (constant S_ .f32 0x00000000#32),
    StableHlo.binary main_while0b_v16 main_while0b_cst_10 main_while0b_v17 ((fun x v => Host.reduceAdd x v reducesTo_S16x15x32768_S16x15_d2 h_S_) : (⟨S16x15x32768, .f32⟩ : BufTy).Contents (Elt F) → (⟨S_, .f32⟩ : BufTy).Contents (Elt F) → (⟨S16x15, .f32⟩ : BufTy).Contents (Elt F)),
    StableHlo.unary main_while0b_v17 main_while0b_v18 (broadcastInDim S16x15x1 ![0, 1] bcast_S16x15_S16x15x1_0_1 : (⟨S16x15, .f32⟩ : BufTy).Contents (Elt F) → (⟨S16x15x1, .f32⟩ : BufTy).Contents (Elt F)),
    StableHlo.unary main_while0b_v17 main_while0b_v19 (broadcastInDim S16x1x15 ![0, 2] bcast_S16x15_S16x1x15_0_2 : (⟨S16x15, .f32⟩ : BufTy).Contents (Elt F) → (⟨S16x1x15, .f32⟩ : BufTy).Contents (Elt F)),
    StableHlo.unary main_while0b_v18 main_while0b_v20 (broadcastInDim S16x15x15 ![0, 1, 2] bcast_S16x15x1_S16x15x15_0_1_2 : (⟨S16x15x1, .f32⟩ : BufTy).Contents (Elt F) → (⟨S16x15x15, .f32⟩ : BufTy).Contents (Elt F)),
    StableHlo.unary main_while0b_v19 main_while0b_v21 (broadcastInDim S16x15x15 ![0, 1, 2] bcast_S16x1x15_S16x15x15_0_1_2 : (⟨S16x1x15, .f32⟩ : BufTy).Contents (Elt F) → (⟨S16x15x15, .f32⟩ : BufTy).Contents (Elt F)),
    StableHlo.binary main_while0b_v20 main_while0b_v21 main_while0b_v22 (addf : (⟨S16x15x15, .f32⟩ : BufTy).Contents (Elt F) → (⟨S16x15x15, .f32⟩ : BufTy).Contents (Elt F) → (⟨S16x15x15, .f32⟩ : BufTy).Contents (Elt F)),
    StableHlo.binary main_while0b_v15 main_while0b_v15 main_while0b_v23 ((fun l r => Host.dotGeneral dot_S16x15x32768_S16x15x32768_S16x15x15_2_2_1_1_0_0 none l r) : (⟨S16x15x32768, .f32⟩ : BufTy).Contents (Elt F) → (⟨S16x15x32768, .f32⟩ : BufTy).Contents (Elt F) → (⟨S16x15x15, .f32⟩ : BufTy).Contents (Elt F)),
    StableHlo.nullary main_while0b_cst_11 (constant S_ .f32 0x40000000#32),
    StableHlo.unary main_while0b_cst_11 main_while0b_v24 (broadcastInDim S16x15x15 ![] bcast_S_S16x15x15 : (⟨S_, .f32⟩ : BufTy).Contents (Elt F) → (⟨S16x15x15, .f32⟩ : BufTy).Contents (Elt F)),
    StableHlo.binary main_while0b_v24 main_while0b_v23 main_while0b_v25 (mulf : (⟨S16x15x15, .f32⟩ : BufTy).Contents (Elt F) → (⟨S16x15x15, .f32⟩ : BufTy).Contents (Elt F) → (⟨S16x15x15, .f32⟩ : BufTy).Contents (Elt F)),
    StableHlo.binary main_while0b_v22 main_while0b_v25 main_while0b_v26 (subf : (⟨S16x15x15, .f32⟩ : BufTy).Contents (Elt F) → (⟨S16x15x15, .f32⟩ : BufTy).Contents (Elt F) → (⟨S16x15x15, .f32⟩ : BufTy).Contents (Elt F)) ]

/-- The loop body's operations: the closest pair. -/
abbrev argminOps : List (HloOp τ sig (Elt F)) :=
  [ StableHlo.unary main_v11_7 main_while0b_v27 (broadcastInDim S16x15x1 ![0, 1] bcast_S16x15_S16x15x1_0_1 : (⟨S16x15, .i1⟩ : BufTy).Contents (Elt F) → (⟨S16x15x1, .i1⟩ : BufTy).Contents (Elt F)),
    StableHlo.unary main_v11_7 main_while0b_v28 (broadcastInDim S16x1x15 ![0, 2] bcast_S16x15_S16x1x15_0_2 : (⟨S16x15, .i1⟩ : BufTy).Contents (Elt F) → (⟨S16x1x15, .i1⟩ : BufTy).Contents (Elt F)),
    StableHlo.unary main_while0b_v27 main_while0b_v29 (broadcastInDim S16x15x15 ![0, 1, 2] bcast_S16x15x1_S16x15x15_0_1_2 : (⟨S16x15x1, .i1⟩ : BufTy).Contents (Elt F) → (⟨S16x15x15, .i1⟩ : BufTy).Contents (Elt F)),
    StableHlo.unary main_while0b_v28 main_while0b_v30 (broadcastInDim S16x15x15 ![0, 1, 2] bcast_S16x1x15_S16x15x15_0_1_2 : (⟨S16x1x15, .i1⟩ : BufTy).Contents (Elt F) → (⟨S16x15x15, .i1⟩ : BufTy).Contents (Elt F)),
    StableHlo.binary main_while0b_v29 main_while0b_v30 main_while0b_v31 (andi : (⟨S16x15x15, .i1⟩ : BufTy).Contents (Elt F) → (⟨S16x15x15, .i1⟩ : BufTy).Contents (Elt F) → (⟨S16x15x15, .i1⟩ : BufTy).Contents (Elt F)),
    StableHlo.unary main_v11_0 main_while0b_v32 (broadcastInDim S1x15x15 ![1, 2] bcast_S15x15_S1x15x15_1_2 : (⟨S15x15, .i1⟩ : BufTy).Contents (Elt F) → (⟨S1x15x15, .i1⟩ : BufTy).Contents (Elt F)),
    StableHlo.unary main_while0b_v32 main_while0b_v33 (broadcastInDim S16x15x15 ![0, 1, 2] bcast_S1x15x15_S16x15x15_0_1_2 : (⟨S1x15x15, .i1⟩ : BufTy).Contents (Elt F) → (⟨S16x15x15, .i1⟩ : BufTy).Contents (Elt F)),
    StableHlo.binary main_while0b_v31 main_while0b_v33 main_while0b_v34 (andi : (⟨S16x15x15, .i1⟩ : BufTy).Contents (Elt F) → (⟨S16x15x15, .i1⟩ : BufTy).Contents (Elt F) → (⟨S16x15x15, .i1⟩ : BufTy).Contents (Elt F)),
    StableHlo.nullary main_while0b_cst_12 (constant S_ .f32 0x7F800000#32),
    StableHlo.unary main_while0b_cst_12 main_while0b_call0_v0 id,
    StableHlo.unary main_while0b_call0_v0 main_while0b_call0_v1 (broadcastInDim S16x15x15 ![] bcast_S_S16x15x15),
    StableHlo.ternary main_while0b_v34 main_while0b_v26 main_while0b_call0_v1 main_while0b_v35 select,
    StableHlo.reshape main_while0b_v35 main_while0b_v36 (rfl : (.f32 : EltTy) = .f32) shapeCasts_S16x15x15_S16x225,
    StableHlo.nullary main_while0b_call1_v0 (iotaInDim S16x225 32 1),
    StableHlo.nullary main_while0b_call1_cst (constant S_ .f32 0x7F800000#32),
    StableHlo.nullary main_while0b_call1_c (constantI S_ 32 0#32),
    StableHlo.quaternary main_while0b_v36 main_while0b_call1_v0 main_while0b_call1_cst main_while0b_call1_c main_while0b_call1_v1_0 ((fun x y u v j => (Host.argReduce reducer_argmin_f32_i32 x y u v reducesTo_S16x225_S16_d1 h_S_ j).1) : (⟨S16x225, .f32⟩ : BufTy).Contents (Elt F) → (⟨S16x225, .i32⟩ : BufTy).Contents (Elt F) → (⟨S_, .f32⟩ : BufTy).Contents (Elt F) → (⟨S_, .i32⟩ : BufTy).Contents (Elt F) → (⟨S16, .f32⟩ : BufTy).Contents (Elt F)),
    StableHlo.quaternary main_while0b_v36 main_while0b_call1_v0 main_while0b_call1_cst main_while0b_call1_c main_while0b_v37 ((fun x y u v j => (Host.argReduce reducer_argmin_f32_i32 x y u v reducesTo_S16x225_S16_d1 h_S_ j).2) : (⟨S16x225, .f32⟩ : BufTy).Contents (Elt F) → (⟨S16x225, .i32⟩ : BufTy).Contents (Elt F) → (⟨S_, .f32⟩ : BufTy).Contents (Elt F) → (⟨S_, .i32⟩ : BufTy).Contents (Elt F) → (⟨S16, .i32⟩ : BufTy).Contents (Elt F)) ]

/-- The loop body's operations: its two numbers. -/
abbrev pairOps : List (HloOp τ sig (Elt F)) :=
  [ StableHlo.nullary main_while0b_c_13 (constantI S_ 32 15#32),
    StableHlo.unary main_while0b_c_13 main_while0b_call2_v0 id,
    StableHlo.unary main_while0b_call2_v0 main_while0b_call2_v1 (broadcastInDim S16 ![] bcast_S_S16),
    StableHlo.binary main_while0b_v37 main_while0b_call2_v1 main_while0b_call2_v2 Host.divsi,
    StableHlo.unary main_while0b_v37 main_while0b_call2_v3 signi,
    StableHlo.unary main_while0b_call2_v0 main_while0b_call2_v4 signi,
    StableHlo.unary main_while0b_call2_v4 main_while0b_call2_v5 (broadcastInDim S16 ![] bcast_S_S16),
    StableHlo.binary main_while0b_call2_v3 main_while0b_call2_v5 main_while0b_call2_v6 (cmpi .ne),
    StableHlo.unary main_while0b_call2_v0 main_while0b_call2_v7 (broadcastInDim S16 ![] bcast_S_S16),
    StableHlo.binary main_while0b_v37 main_while0b_call2_v7 main_while0b_call2_v8 Host.remsi,
    StableHlo.nullary main_while0b_call2_c (constantI S_ 32 0#32),
    StableHlo.unary main_while0b_call2_c main_while0b_call2_v9 (broadcastInDim S16 ![] bcast_S_S16),
    StableHlo.binary main_while0b_call2_v8 main_while0b_call2_v9 main_while0b_call2_v10 (cmpi .ne),
    StableHlo.binary main_while0b_call2_v6 main_while0b_call2_v10 main_while0b_call2_v11 andi,
    StableHlo.nullary main_while0b_call2_c_0 (constantI S_ 32 1#32),
    StableHlo.unary main_while0b_call2_c_0 main_while0b_call2_v12 (broadcastInDim S16 ![] bcast_S_S16),
    StableHlo.binary main_while0b_call2_v2 main_while0b_call2_v12 main_while0b_call2_v13 subi,
    StableHlo.ternary main_while0b_call2_v11 main_while0b_call2_v13 main_while0b_call2_v2 main_while0b_v38 select,
    StableHlo.nullary main_while0b_c_14 (constantI S_ 32 15#32),
    StableHlo.unary main_while0b_c_14 main_while0b_call3_v0 id,
    StableHlo.nullary main_while0b_call3_c (constantI S_ 32 0#32),
    StableHlo.binary main_while0b_call3_v0 main_while0b_call3_c main_while0b_call3_v1 (cmpi .eq),
    StableHlo.nullary main_while0b_call3_c_0 (constantI S_ 32 1#32),
    StableHlo.ternary main_while0b_call3_v1 main_while0b_call3_c_0 main_while0b_call3_v0 main_while0b_call3_v2 select,
    StableHlo.unary main_while0b_call3_v2 main_while0b_call3_v3 (broadcastInDim S16 ![] bcast_S_S16),
    StableHlo.binary main_while0b_v37 main_while0b_call3_v3 main_while0b_call3_v4 Host.remsi,
    StableHlo.nullary main_while0b_call3_c_1 (constantI S_ 32 0#32),
    StableHlo.unary main_while0b_call3_c_1 main_while0b_call3_v5 (broadcastInDim S16 ![] bcast_S_S16),
    StableHlo.binary main_while0b_call3_v4 main_while0b_call3_v5 main_while0b_call3_v6 (cmpi .ne),
    StableHlo.nullary main_while0b_call3_c_2 (constantI S_ 32 0#32),
    StableHlo.unary main_while0b_call3_c_2 main_while0b_call3_v7 (broadcastInDim S16 ![] bcast_S_S16),
    StableHlo.binary main_while0b_call3_v4 main_while0b_call3_v7 main_while0b_call3_v8 (cmpi .slt),
    StableHlo.nullary main_while0b_call3_c_3 (constantI S_ 32 0#32),
    StableHlo.binary main_while0b_call3_v2 main_while0b_call3_c_3 main_while0b_call3_v9 (cmpi .slt),
    StableHlo.unary main_while0b_call3_v9 main_while0b_call3_v10 (broadcastInDim S16 ![] bcast_S_S16),
    StableHlo.binary main_while0b_call3_v8 main_while0b_call3_v10 main_while0b_call3_v11 (cmpi .ne),
    StableHlo.binary main_while0b_call3_v11 main_while0b_call3_v6 main_while0b_call3_v12 andi,
    StableHlo.unary main_while0b_call3_v2 main_while0b_call3_v13 (broadcastInDim S16 ![] bcast_S_S16),
    StableHlo.binary main_while0b_call3_v4 main_while0b_call3_v13 main_while0b_call3_v14 addi,
    StableHlo.ternary main_while0b_call3_v12 main_while0b_call3_v14 main_while0b_call3_v4 main_while0b_v39 select ]

/-- The loop body's operations: its two items. -/
abbrev takeOps : List (HloOp τ sig (Elt F)) :=
  [ StableHlo.unary main_while0b_v39 main_while0b_v40 (broadcastInDim S16x1x1 ![0] bcast_S16_S16x1x1_0 : (⟨S16, .i32⟩ : BufTy).Contents (Elt F) → (⟨S16x1x1, .i32⟩ : BufTy).Contents (Elt F)),
    StableHlo.nullary main_while0b_call4_c (constantI S_ 32 0#32),
    StableHlo.unary main_while0b_call4_c main_while0b_call4_v0 (broadcastInDim S16x1x1 ![] bcast_S_S16x1x1),
    StableHlo.binary main_while0b_v40 main_while0b_call4_v0 main_while0b_call4_v1 (cmpi .slt),
    StableHlo.nullary main_while0b_call4_c_0 (constantI S_ 32 15#32),
    StableHlo.unary main_while0b_call4_c_0 main_while0b_call4_v2 (broadcastInDim S16x1x1 ![] bcast_S_S16x1x1),
    StableHlo.binary main_while0b_v40 main_while0b_call4_v2 main_while0b_call4_v3 addi,
    StableHlo.ternary main_while0b_call4_v1 main_while0b_call4_v3 main_while0b_v40 main_while0b_call4_v4 select,
    StableHlo.binary main_while0b_v15 main_while0b_call4_v4 main_while0b_v41 (fun x i => Host.gather gather_S16x15x32768_S16x1x1_S16x1x32768_2_1_0_0_1_2_1132768 x i),
    StableHlo.reshape main_while0b_v41 main_while0b_v42 (rfl : (.f32 : EltTy) = .f32) shapeCasts_S16x1x32768_S16x128x16x16,
    StableHlo.unary main_while0b_v38 main_while0b_v43 (broadcastInDim S16x1x1 ![0] bcast_S16_S16x1x1_0 : (⟨S16, .i32⟩ : BufTy).Contents (Elt F) → (⟨S16x1x1, .i32⟩ : BufTy).Contents (Elt F)),
    StableHlo.nullary main_while0b_call5_c (constantI S_ 32 0#32),
    StableHlo.unary main_while0b_call5_c main_while0b_call5_v0 (broadcastInDim S16x1x1 ![] bcast_S_S16x1x1),
    StableHlo.binary main_while0b_v43 main_while0b_call5_v0 main_while0b_call5_v1 (cmpi .slt),
    StableHlo.nullary main_while0b_call5_c_0 (constantI S_ 32 15#32),
    StableHlo.unary main_while0b_call5_c_0 main_while0b_call5_v2 (broadcastInDim S16x1x1 ![] bcast_S_S16x1x1),
    StableHlo.binary main_while0b_v43 main_while0b_call5_v2 main_while0b_call5_v3 addi,
    StableHlo.ternary main_while0b_call5_v1 main_while0b_call5_v3 main_while0b_v43 main_while0b_call5_v4 select,
    StableHlo.binary main_while0b_v15 main_while0b_call5_v4 main_while0b_v44 (fun x i => Host.gather gather_S16x15x32768_S16x1x1_S16x1x32768_2_1_0_0_1_2_1132768 x i),
    StableHlo.reshape main_while0b_v44 main_while0b_v45 (rfl : (.f32 : EltTy) = .f32) shapeCasts_S16x1x32768_S16x128x16x16 ]

/-- The loop body's operations: the two items stacked and padded. -/
abbrev stackOps : List (HloOp τ sig (Elt F)) :=
  [ StableHlo.unary main_while0b_v42 main_while0b_v46 (broadcastInDim S16x128x1x16x16 ![0, 1, 3, 4] bcast_S16x128x16x16_S16x128x1x16x16_0_1_3_4 : (⟨S16x128x16x16, .f32⟩ : BufTy).Contents (Elt F) → (⟨S16x128x1x16x16, .f32⟩ : BufTy).Contents (Elt F)),
    StableHlo.unary main_while0b_v45 main_while0b_v47 (broadcastInDim S16x128x1x16x16 ![0, 1, 3, 4] bcast_S16x128x16x16_S16x128x1x16x16_0_1_3_4 : (⟨S16x128x16x16, .f32⟩ : BufTy).Contents (Elt F) → (⟨S16x128x1x16x16, .f32⟩ : BufTy).Contents (Elt F)),
    StableHlo.binary main_while0b_v46 main_while0b_v47 main_while0b_v48 ((fun a b => concatenate S16x128x2x16x16 2 [⟨S16x128x1x16x16, a⟩, ⟨S16x128x1x16x16, b⟩] concatenates_S16x128x1x16x16_S16x128x1x16x16_S16x128x2x16x16_d2) : (⟨S16x128x1x16x16, .f32⟩ : BufTy).Contents (Elt F) → (⟨S16x128x1x16x16, .f32⟩ : BufTy).Contents (Elt F) → (⟨S16x128x2x16x16, .f32⟩ : BufTy).Contents (Elt F)),
    StableHlo.reshape main_while0b_v48 main_while0b_v49 (rfl : (.f32 : EltTy) = .f32) shapeCasts_S16x128x2x16x16_S2048x2x16x16,
    StableHlo.nullary main_while0b_c_15 (constantI S_ 32 0#32),
    StableHlo.unary main_while0b_c_15 main_while0b_call6_v0 (sitofp .f32),
    StableHlo.binary main_while0b_v49 main_while0b_call6_v0 main_while0b_v50 (fun x v => pad S2048x2x22x22 ![0, 0, 3, 3] ![0, 0, 3, 3] ![0, 0, 0, 0] x v pads_S2048x2x16x16_S2048x2x22x22_000_000_330_330 h_S_) ]

/-- The loop body's operations: the windows' positions. -/
abbrev windowOps : List (HloOp τ sig (Elt F)) :=
  [ StableHlo.nullary main_while0b_v51 (iotaInDim S16 32 0),
    StableHlo.unary main_while0b_v51 main_while0b_v52 (broadcastInDim S16x1x1x1 ![0] bcast_S16_S16x1x1x1_0 : (⟨S16, .i32⟩ : BufTy).Contents (Elt F) → (⟨S16x1x1x1, .i32⟩ : BufTy).Contents (Elt F)),
    StableHlo.nullary main_while0b_v53 (iotaInDim S7 32 0),
    StableHlo.unary main_while0b_v53 main_while0b_v54 (broadcastInDim S1x1x7x1 ![2] bcast_S7_S1x1x7x1_2 : (⟨S7, .i32⟩ : BufTy).Contents (Elt F) → (⟨S1x1x7x1, .i32⟩ : BufTy).Contents (Elt F)),
    StableHlo.unary main_while0b_v52 main_while0b_v55 (broadcastInDim S16x1x7x1 ![0, 1, 2, 3] bcast_S16x1x1x1_S16x1x7x1_0_1_2_3 : (⟨S16x1x1x1, .i32⟩ : BufTy).Contents (Elt F) → (⟨S16x1x7x1, .i32⟩ : BufTy).Contents (Elt F)),
    StableHlo.unary main_while0b_v54 main_while0b_v56 (broadcastInDim S16x1x7x1 ![0, 1, 2, 3] bcast_S1x1x7x1_S16x1x7x1_0_1_2_3 : (⟨S1x1x7x1, .i32⟩ : BufTy).Contents (Elt F) → (⟨S16x1x7x1, .i32⟩ : BufTy).Contents (Elt F)),
    StableHlo.binary main_while0b_v55 main_while0b_v56 main_while0b_v57 (addi : (⟨S16x1x7x1, .i32⟩ : BufTy).Contents (Elt F) → (⟨S16x1x7x1, .i32⟩ : BufTy).Contents (Elt F) → (⟨S16x1x7x1, .i32⟩ : BufTy).Contents (Elt F)),
    StableHlo.nullary main_while0b_v58 (iotaInDim S16 32 0),
    StableHlo.unary main_while0b_v58 main_while0b_v59 (broadcastInDim S1x16x1x1 ![1] bcast_S16_S1x16x1x1_1 : (⟨S16, .i32⟩ : BufTy).Contents (Elt F) → (⟨S1x16x1x1, .i32⟩ : BufTy).Contents (Elt F)),
    StableHlo.nullary main_while0b_v60 (iotaInDim S7 32 0),
    StableHlo.unary main_while0b_v60 main_while0b_v61 (broadcastInDim S1x1x1x7 ![3] bcast_S7_S1x1x1x7_3 : (⟨S7, .i32⟩ : BufTy).Contents (Elt F) → (⟨S1x1x1x7, .i32⟩ : BufTy).Contents (Elt F)),
    StableHlo.unary main_while0b_v59 main_while0b_v62 (broadcastInDim S1x16x1x7 ![0, 1, 2, 3] bcast_S1x16x1x1_S1x16x1x7_0_1_2_3 : (⟨S1x16x1x1, .i32⟩ : BufTy).Contents (Elt F) → (⟨S1x16x1x7, .i32⟩ : BufTy).Contents (Elt F)),
    StableHlo.unary main_while0b_v61 main_while0b_v63 (broadcastInDim S1x16x1x7 ![0, 1, 2, 3] bcast_S1x1x1x7_S1x16x1x7_0_1_2_3 : (⟨S1x1x1x7, .i32⟩ : BufTy).Contents (Elt F) → (⟨S1x16x1x7, .i32⟩ : BufTy).Contents (Elt F)),
    StableHlo.binary main_while0b_v62 main_while0b_v63 main_while0b_v64 (addi : (⟨S1x16x1x7, .i32⟩ : BufTy).Contents (Elt F) → (⟨S1x16x1x7, .i32⟩ : BufTy).Contents (Elt F) → (⟨S1x16x1x7, .i32⟩ : BufTy).Contents (Elt F)),
    StableHlo.nullary main_while0b_c_16 (constantI S_ 32 0#32),
    StableHlo.unary main_while0b_c_16 main_while0b_v65 (broadcastInDim S16x1x7x1 ![] bcast_S_S16x1x7x1 : (⟨S_, .i32⟩ : BufTy).Contents (Elt F) → (⟨S16x1x7x1, .i32⟩ : BufTy).Contents (Elt F)),
    StableHlo.binary main_while0b_v57 main_while0b_v65 main_while0b_v66 (cmpi .slt : (⟨S16x1x7x1, .i32⟩ : BufTy).Contents (Elt F) → (⟨S16x1x7x1, .i32⟩ : BufTy).Contents (Elt F) → (⟨S16x1x7x1, .i1⟩ : BufTy).Contents (Elt F)),
    StableHlo.nullary main_while0b_c_17 (constantI S_ 32 22#32),
    StableHlo.unary main_while0b_c_17 main_while0b_v67 (broadcastInDim S16x1x7x1 ![] bcast_S_S16x1x7x1 : (⟨S_, .i32⟩ : BufTy).Contents (Elt F) → (⟨S16x1x7x1, .i32⟩ : BufTy).Contents (Elt F)),
    StableHlo.binary main_while0b_v57 main_while0b_v67 main_while0b_v68 (addi : (⟨S16x1x7x1, .i32⟩ : BufTy).Contents (Elt F) → (⟨S16x1x7x1, .i32⟩ : BufTy).Contents (Elt F) → (⟨S16x1x7x1, .i32⟩ : BufTy).Contents (Elt F)),
    StableHlo.ternary main_while0b_v66 main_while0b_v68 main_while0b_v57 main_while0b_v69 (select : (⟨S16x1x7x1, .i1⟩ : BufTy).Contents (Elt F) → (⟨S16x1x7x1, .i32⟩ : BufTy).Contents (Elt F) → (⟨S16x1x7x1, .i32⟩ : BufTy).Contents (Elt F) → (⟨S16x1x7x1, .i32⟩ : BufTy).Contents (Elt F)),
    StableHlo.nullary main_while0b_c_18 (constantI S_ 32 0#32),
    StableHlo.unary main_while0b_c_18 main_while0b_v70 (broadcastInDim S1x16x1x7 ![] bcast_S_S1x16x1x7 : (⟨S_, .i32⟩ : BufTy).Contents (Elt F) → (⟨S1x16x1x7, .i32⟩ : BufTy).Contents (Elt F)),
    StableHlo.binary main_while0b_v64 main_while0b_v70 main_while0b_v71 (cmpi .slt : (⟨S1x16x1x7, .i32⟩ : BufTy).Contents (Elt F) → (⟨S1x16x1x7, .i32⟩ : BufTy).Contents (Elt F) → (⟨S1x16x1x7, .i1⟩ : BufTy).Contents (Elt F)),
    StableHlo.nullary main_while0b_c_19 (constantI S_ 32 22#32),
    StableHlo.unary main_while0b_c_19 main_while0b_v72 (broadcastInDim S1x16x1x7 ![] bcast_S_S1x16x1x7 : (⟨S_, .i32⟩ : BufTy).Contents (Elt F) → (⟨S1x16x1x7, .i32⟩ : BufTy).Contents (Elt F)),
    StableHlo.binary main_while0b_v64 main_while0b_v72 main_while0b_v73 (addi : (⟨S1x16x1x7, .i32⟩ : BufTy).Contents (Elt F) → (⟨S1x16x1x7, .i32⟩ : BufTy).Contents (Elt F) → (⟨S1x16x1x7, .i32⟩ : BufTy).Contents (Elt F)),
    StableHlo.ternary main_while0b_v71 main_while0b_v73 main_while0b_v64 main_while0b_v74 (select : (⟨S1x16x1x7, .i1⟩ : BufTy).Contents (Elt F) → (⟨S1x16x1x7, .i32⟩ : BufTy).Contents (Elt F) → (⟨S1x16x1x7, .i32⟩ : BufTy).Contents (Elt F) → (⟨S1x16x1x7, .i32⟩ : BufTy).Contents (Elt F)),
    StableHlo.unary main_while0b_v69 main_while0b_v75 (broadcastInDim S16x16x7x7 ![0, 1, 2, 3] bcast_S16x1x7x1_S16x16x7x7_0_1_2_3 : (⟨S16x1x7x1, .i32⟩ : BufTy).Contents (Elt F) → (⟨S16x16x7x7, .i32⟩ : BufTy).Contents (Elt F)),
    StableHlo.unary main_while0b_v74 main_while0b_v76 (broadcastInDim S16x16x7x7 ![0, 1, 2, 3] bcast_S1x16x1x7_S16x16x7x7_0_1_2_3 : (⟨S1x16x1x7, .i32⟩ : BufTy).Contents (Elt F) → (⟨S16x16x7x7, .i32⟩ : BufTy).Contents (Elt F)),
    StableHlo.unary main_while0b_v75 main_while0b_v77 (broadcastInDim S16x16x7x7x1 ![0, 1, 2, 3] bcast_S16x16x7x7_S16x16x7x7x1_0_1_2_3 : (⟨S16x16x7x7, .i32⟩ : BufTy).Contents (Elt F) → (⟨S16x16x7x7x1, .i32⟩ : BufTy).Contents (Elt F)),
    StableHlo.unary main_while0b_v76 main_while0b_v78 (broadcastInDim S16x16x7x7x1 ![0, 1, 2, 3] bcast_S16x16x7x7_S16x16x7x7x1_0_1_2_3 : (⟨S16x16x7x7, .i32⟩ : BufTy).Contents (Elt F) → (⟨S16x16x7x7x1, .i32⟩ : BufTy).Contents (Elt F)),
    StableHlo.binary main_while0b_v77 main_while0b_v78 main_while0b_v79 ((fun a b => concatenate S16x16x7x7x2 4 [⟨S16x16x7x7x1, a⟩, ⟨S16x16x7x7x1, b⟩] concatenates_S16x16x7x7x1_S16x16x7x7x1_S16x16x7x7x2_d4) : (⟨S16x16x7x7x1, .i32⟩ : BufTy).Contents (Elt F) → (⟨S16x16x7x7x1, .i32⟩ : BufTy).Contents (Elt F) → (⟨S16x16x7x7x2, .i32⟩ : BufTy).Contents (Elt F)) ]

/-- The loop body's operations: the convolution. -/
abbrev convOps : List (HloOp τ sig (Elt F)) :=
  [ StableHlo.binary main_while0b_v50 main_while0b_v79 main_while0b_v80 ((fun x i => Host.gather gather_S2048x2x22x22_S16x16x7x7x2_S2048x2x16x16x7x7_01_23_n_n_23_4_2048211 x i) : (⟨S2048x2x22x22, .f32⟩ : BufTy).Contents (Elt F) → (⟨S16x16x7x7x2, .i32⟩ : BufTy).Contents (Elt F) → (⟨S2048x2x16x16x7x7, .f32⟩ : BufTy).Contents (Elt F)),
    StableHlo.reshape main_v11_1 main_while0b_v81 (rfl : (.f32 : EltTy) = .f32) shapeCasts_S1x2x7x7_S2x7x7,
    StableHlo.binary main_while0b_v80 main_while0b_v81 main_while0b_v82 ((fun l r => Host.dotGeneral dot_S2048x2x16x16x7x7_S2x7x7_S2048x16x16_154_021_023_n_n_n none l r) : (⟨S2048x2x16x16x7x7, .f32⟩ : BufTy).Contents (Elt F) → (⟨S2x7x7, .f32⟩ : BufTy).Contents (Elt F) → (⟨S2048x16x16, .f32⟩ : BufTy).Contents (Elt F)),
    StableHlo.reshape main_v11_2 main_while0b_v83 (rfl : (.f32 : EltTy) = .f32) shapeCasts_S1_S1x1x1,
    StableHlo.unary main_while0b_v83 main_while0b_v84 (broadcastInDim S2048x16x16 ![0, 1, 2] bcast_S1x1x1_S2048x16x16_0_1_2 : (⟨S1x1x1, .f32⟩ : BufTy).Contents (Elt F) → (⟨S2048x16x16, .f32⟩ : BufTy).Contents (Elt F)),
    StableHlo.binary main_while0b_v82 main_while0b_v84 main_while0b_v85 (addf : (⟨S2048x16x16, .f32⟩ : BufTy).Contents (Elt F) → (⟨S2048x16x16, .f32⟩ : BufTy).Contents (Elt F) → (⟨S2048x16x16, .f32⟩ : BufTy).Contents (Elt F)),
    StableHlo.reshape main_while0b_v85 main_while0b_v86 (rfl : (.f32 : EltTy) = .f32) shapeCasts_S2048x16x16_S16x128x16x16 ]

/-- The loop body's operations: the new state. -/
abbrev storeOps : List (HloOp τ sig (Elt F)) :=
  [ StableHlo.nullary main_while0b_c_20 (constantI S_ 32 8#32),
    StableHlo.binary main_while0b_c_20 main_v11_5 main_while0b_v87 (addi : (⟨S_, .i32⟩ : BufTy).Contents (Elt F) → (⟨S_, .i32⟩ : BufTy).Contents (Elt F) → (⟨S_, .i32⟩ : BufTy).Contents (Elt F)),
    StableHlo.unary main_while0b_v87 main_while0b_v88 (id : (⟨S_, .i32⟩ : BufTy).Contents (Elt F) → (⟨S_, .i32⟩ : BufTy).Contents (Elt F)),
    StableHlo.unary main_while0b_v88 main_while0b_v89 (broadcastInDim S15 ![] bcast_S_S15 : (⟨S_, .i32⟩ : BufTy).Contents (Elt F) → (⟨S15, .i32⟩ : BufTy).Contents (Elt F)),
    StableHlo.binary main_v11_3 main_while0b_v89 main_while0b_v90 (cmpi .eq : (⟨S15, .i32⟩ : BufTy).Contents (Elt F) → (⟨S15, .i32⟩ : BufTy).Contents (Elt F) → (⟨S15, .i1⟩ : BufTy).Contents (Elt F)),
    StableHlo.unary main_while0b_v39 main_while0b_v91 (broadcastInDim S16x1 ![0] bcast_S16_S16x1_0 : (⟨S16, .i32⟩ : BufTy).Contents (Elt F) → (⟨S16x1, .i32⟩ : BufTy).Contents (Elt F)),
    StableHlo.unary main_v11_3 main_while0b_v92 (broadcastInDim S1x15 ![1] bcast_S15_S1x15_1 : (⟨S15, .i32⟩ : BufTy).Contents (Elt F) → (⟨S1x15, .i32⟩ : BufTy).Contents (Elt F)),
    StableHlo.unary main_while0b_v92 main_while0b_v93 (broadcastInDim S16x15 ![0, 1] bcast_S1x15_S16x15_0_1 : (⟨S1x15, .i32⟩ : BufTy).Contents (Elt F) → (⟨S16x15, .i32⟩ : BufTy).Contents (Elt F)),
    StableHlo.unary main_while0b_v91 main_while0b_v94 (broadcastInDim S16x15 ![0, 1] bcast_S16x1_S16x15_0_1 : (⟨S16x1, .i32⟩ : BufTy).Contents (Elt F) → (⟨S16x15, .i32⟩ : BufTy).Contents (Elt F)),
    StableHlo.binary main_while0b_v93 main_while0b_v94 main_while0b_v95 (cmpi .eq : (⟨S16x15, .i32⟩ : BufTy).Contents (Elt F) → (⟨S16x15, .i32⟩ : BufTy).Contents (Elt F) → (⟨S16x15, .i1⟩ : BufTy).Contents (Elt F)),
    StableHlo.unary main_while0b_v38 main_while0b_v96 (broadcastInDim S16x1 ![0] bcast_S16_S16x1_0 : (⟨S16, .i32⟩ : BufTy).Contents (Elt F) → (⟨S16x1, .i32⟩ : BufTy).Contents (Elt F)),
    StableHlo.unary main_v11_3 main_while0b_v97 (broadcastInDim S1x15 ![1] bcast_S15_S1x15_1 : (⟨S15, .i32⟩ : BufTy).Contents (Elt F) → (⟨S1x15, .i32⟩ : BufTy).Contents (Elt F)),
    StableHlo.unary main_while0b_v97 main_while0b_v98 (broadcastInDim S16x15 ![0, 1] bcast_S1x15_S16x15_0_1 : (⟨S1x15, .i32⟩ : BufTy).Contents (Elt F) → (⟨S16x15, .i32⟩ : BufTy).Contents (Elt F)),
    StableHlo.unary main_while0b_v96 main_while0b_v99 (broadcastInDim S16x15 ![0, 1] bcast_S16x1_S16x15_0_1 : (⟨S16x1, .i32⟩ : BufTy).Contents (Elt F) → (⟨S16x15, .i32⟩ : BufTy).Contents (Elt F)),
    StableHlo.binary main_while0b_v98 main_while0b_v99 main_while0b_v100 (cmpi .eq : (⟨S16x15, .i32⟩ : BufTy).Contents (Elt F) → (⟨S16x15, .i32⟩ : BufTy).Contents (Elt F) → (⟨S16x15, .i1⟩ : BufTy).Contents (Elt F)),
    StableHlo.binary main_while0b_v95 main_while0b_v100 main_while0b_v101 (ori : (⟨S16x15, .i1⟩ : BufTy).Contents (Elt F) → (⟨S16x15, .i1⟩ : BufTy).Contents (Elt F) → (⟨S16x15, .i1⟩ : BufTy).Contents (Elt F)),
    StableHlo.unary main_while0b_v90 main_while0b_v102 (broadcastInDim S1x15x1x1x1 ![1] bcast_S15_S1x15x1x1x1_1 : (⟨S15, .i1⟩ : BufTy).Contents (Elt F) → (⟨S1x15x1x1x1, .i1⟩ : BufTy).Contents (Elt F)),
    StableHlo.unary main_while0b_v86 main_while0b_v103 (broadcastInDim S16x1x128x16x16 ![0, 2, 3, 4] bcast_S16x128x16x16_S16x1x128x16x16_0_2_3_4 : (⟨S16x128x16x16, .f32⟩ : BufTy).Contents (Elt F) → (⟨S16x1x128x16x16, .f32⟩ : BufTy).Contents (Elt F)),
    StableHlo.unary main_while0b_v102 main_while0b_call7_v0 (broadcastInDim S16x15x128x16x16 ![0, 1, 2, 3, 4] bcast_S1x15x1x1x1_S16x15x128x16x16_0_1_2_3_4),
    StableHlo.unary main_while0b_v103 main_while0b_call7_v1 (broadcastInDim S16x15x128x16x16 ![0, 1, 2, 3, 4] bcast_S16x1x128x16x16_S16x15x128x16x16_0_1_2_3_4),
    StableHlo.ternary main_while0b_call7_v0 main_while0b_call7_v1 main_v11_6 main_while0b_v104 select,
    StableHlo.unary main_while0b_v101 main_while0b_v105 (noti : (⟨S16x15, .i1⟩ : BufTy).Contents (Elt F) → (⟨S16x15, .i1⟩ : BufTy).Contents (Elt F)),
    StableHlo.binary main_v11_7 main_while0b_v105 main_while0b_v106 (andi : (⟨S16x15, .i1⟩ : BufTy).Contents (Elt F) → (⟨S16x15, .i1⟩ : BufTy).Contents (Elt F) → (⟨S16x15, .i1⟩ : BufTy).Contents (Elt F)),
    StableHlo.unary main_while0b_v90 main_while0b_v107 (broadcastInDim S1x15 ![1] bcast_S15_S1x15_1 : (⟨S15, .i1⟩ : BufTy).Contents (Elt F) → (⟨S1x15, .i1⟩ : BufTy).Contents (Elt F)),
    StableHlo.unary main_while0b_v107 main_while0b_v108 (broadcastInDim S16x15 ![0, 1] bcast_S1x15_S16x15_0_1 : (⟨S1x15, .i1⟩ : BufTy).Contents (Elt F) → (⟨S16x15, .i1⟩ : BufTy).Contents (Elt F)),
    StableHlo.binary main_while0b_v106 main_while0b_v108 main_while0b_v109 (ori : (⟨S16x15, .i1⟩ : BufTy).Contents (Elt F) → (⟨S16x15, .i1⟩ : BufTy).Contents (Elt F) → (⟨S16x15, .i1⟩ : BufTy).Contents (Elt F)),
    StableHlo.nullary main_while0b_c_21 (constantI S_ 32 1#32),
    StableHlo.binary main_v11_4 main_while0b_c_21 main_while0b_v110 (addi : (⟨S_, .i32⟩ : BufTy).Contents (Elt F) → (⟨S_, .i32⟩ : BufTy).Contents (Elt F) → (⟨S_, .i32⟩ : BufTy).Contents (Elt F)),
    StableHlo.unary main_while0b_v110 main_v11_4 id,
    StableHlo.unary main_while0b_v14 main_v11_5 id,
    StableHlo.unary main_while0b_v104 main_v11_6 id,
    StableHlo.unary main_while0b_v109 main_v11_7 id ]

/-- The operations after the loop. -/
abbrev postOps : List (HloOp τ sig (Elt F)) :=
  [ StableHlo.unary main_v11_6 main_v12 ((extractStridedSlice S16x1x128x16x16 ![0, 14, 0, 0, 0] · slices_S16x15x128x16x16_S16x1x128x16x16_0_14_0_0_0) : (⟨S16x15x128x16x16, .f32⟩ : BufTy).Contents (Elt F) → (⟨S16x1x128x16x16, .f32⟩ : BufTy).Contents (Elt F)),
    StableHlo.reshape main_v12 main_v13 (rfl : (.f32 : EltTy) = .f32) shapeCasts_S16x1x128x16x16_S16x128x16x16 ]

/-- The loop body's stretches in order. -/
abbrev bodyI : List (List (HloOp τ sig (Elt F))) := [distOps, argminOps, pairOps, takeOps, stackOps, windowOps, convOps, storeOps]

set_option maxHeartbeats 4000000 in
/-- The program is the operations before the loop, the loop, and the operations after it. -/
theorem main_chain (c : Dev nD) : main (F := F) c = Pipeline.chain (([preOps (F := F)].map fun ops => (StableHlo.seq ops : Prog _ PUnit))
    ++ HostLoop.enter 0 :: [postOps (F := F)].map fun ops => (StableHlo.seq ops : Prog _ PUnit)) := by
  chain_rfl

set_option maxHeartbeats 4000000 in
/-- The loop's body is its stretches in order. -/
theorem body_chain : main_while0_body (F := F) = Pipeline.chain ((bodyI (F := F)).map fun ops => (StableHlo.seq ops : Prog _ PUnit)) := by
  chain_rfl

end Cert.ReferenceIdeal.Run

end
-- ==== Proof.RefRun.lean ====
module

public import proofs.«01_k».proof.Proof.Ops
public import Idealize.ShloMosaic.Lib.StableHlo.ReadAt
public import Idealize.ShloMosaic.Lib.Scf.Counter
public import Idealize.ShloMosaic.Lib.Scf.ExitTest

@[expose] public section

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo
open Idealize.ShloMosaic.Pipeline (ucRefs sub_ucRefs)

local notation "𝕄" => MT nD τ sig Unit (Elt Ideal) ℕ (Option PUnit) ℕ

variable (X : Valuation τ sig (Elt Ideal))

/-- Every operation names the device's own buffers only: before the loop, -/
theorem plain_pre : StableHlo.Plain [preOps (F := Ideal)] :=
  .cons (by simp [nullary_bufs_sub, unary_bufs_sub, binary_bufs_sub]) .nil
/-- in its body, -/
theorem plain_body : StableHlo.Plain (bodyI (F := Ideal)) :=
  .cons (by simp [nullary_bufs_sub, unary_bufs_sub, binary_bufs_sub, reshape_bufs_sub])
  <| .cons (by simp [nullary_bufs_sub, unary_bufs_sub, binary_bufs_sub, ternary_bufs_sub, reshape_bufs_sub, quaternary_bufs_sub])
  <| .cons (by simp [nullary_bufs_sub, unary_bufs_sub, binary_bufs_sub, ternary_bufs_sub])
  <| .cons (by simp [nullary_bufs_sub, unary_bufs_sub, binary_bufs_sub, ternary_bufs_sub, reshape_bufs_sub])
  <| .cons (by simp [nullary_bufs_sub, unary_bufs_sub, binary_bufs_sub, reshape_bufs_sub])
  <| .cons (by simp [nullary_bufs_sub, unary_bufs_sub, binary_bufs_sub, ternary_bufs_sub])
  <| .cons (by simp [unary_bufs_sub, binary_bufs_sub, reshape_bufs_sub])
  <| .cons (by simp [nullary_bufs_sub, unary_bufs_sub, binary_bufs_sub, ternary_bufs_sub]) .nil
/-- and after it. -/
theorem plain_post : StableHlo.Plain [postOps (F := Ideal)] :=
  .cons (by simp [unary_bufs_sub, reshape_bufs_sub]) .nil

/-- No stretch of operations writes the buffer. -/
def Kept (opss : List (List (HloOp τ sig (Elt Ideal)))) (b : Ref sig .tc) : Prop :=
  ∀ ops ∈ opss, ∀ op ∈ ops, Proc.devRef .tc b ∉ op.writes

/-- A buffer no stretch writes keeps its contents. -/
theorem afterL_kept {b : Ref sig .tc} : ∀ {opss : List (List (HloOp τ sig (Elt Ideal)))}, Kept opss b →
    ∀ X, afterL opss X (Proc.devRef .tc b) = X (Proc.devRef .tc b)
  | [], _, X => rfl
  | ops :: rest, h, X => by
    rw [afterL_cons, afterL_kept (fun o ho => h o (List.mem_cons_of_mem _ ho))]
    exact after_of_forall_not_mem _ _ (h ops List.mem_cons_self)

/-- The buffers the loop never writes: the arguments, and the loop's carried values that no trip changes. -/
abbrev steady : List (Ref sig .tc) := [main_arg0, main_arg1, main_arg2, main_v11_0, main_v11_1, main_v11_2, main_v11_3]

set_option maxHeartbeats 4000000 in
/-- No trip writes them. -/
theorem kept_steady {b : Ref sig .tc} (hb : b ∈ steady) : Kept (condOps :: bodyI) b := by
  intro ops h op hop
  fin_cases h <;> fin_cases hop <;>
    exact fun h => devRef_ne_of_ne (fun e => absurd (e ▸ hb) (by decide)) (Finset.mem_singleton.mp h)

/-- The operations before and after the loop do not write the arguments. -/
theorem kept_args {b : Ref sig .tc} (hb : b ∈ ([main_arg0, main_arg1, main_arg2] : List (Ref sig .tc))) : Kept [preOps, postOps] b := by
  intro ops h op hop
  fin_cases h <;> fin_cases hop <;>
    exact fun h => devRef_ne_of_ne (fun e => absurd (e ▸ hb) (by decide)) (Finset.mem_singleton.mp h)

set_option maxHeartbeats 4000000 in
/-- Only the trip's last stretch writes the counters, the items and the activity. -/
theorem kept_carried {b : Ref sig .tc} (hb : b ∈ ([main_v11_4, main_v11_5, main_v11_6, main_v11_7] : List (Ref sig .tc))) :
    Kept [condOps, distOps, argminOps, pairOps, takeOps, stackOps, windowOps, convOps] b := by
  intro ops h op hop
  fin_cases h <;> fin_cases hop <;>
    exact fun h => devRef_ne_of_ne (fun e => absurd (e ▸ hb) (by decide)) (Finset.mem_singleton.mp h)

/-- The loop's first counter adds one each trip. -/
theorem store_counter : (after storeOps X (Proc.devRef .tc main_v11_4) : IVec S_ 32) = addi (X (Proc.devRef .tc main_v11_4)) (constantI S_ 32 1#32) := by
  after_reads_simp
  rfl

/-- It starts at zero. -/
theorem pre_counter : (after preOps X (Proc.devRef .tc main_v11_4) : IVec S_ 32) = constantI S_ 32 0#32 := by
  after_reads_simp
  rfl

variable (m : (ℓ : Loc nD τ sig) → Buf (Elt Ideal) ℓ) (c : Dev nD)

/-- The device's buffers before the condition runs for the `k`-th time. -/
abbrev trip (k : ℕ) : Valuation τ sig (Elt Ideal) := atTrip condOps bodyI (entryContents [preOps] m) k c

/-- The first counter counts the trips. -/
theorem trip_counter (k : ℕ) : (trip m c k (Proc.devRef .tc main_v11_4) : IVec S_ 32) = fun _ => Scf.iv 0#32 1#32 k := by
  induction k with
  | zero =>
    rw [trip, atTrip_zero, Scf.iv_zero]
    exact pre_counter _
  | succ k ih =>
    rw [trip, atTrip_succ]
    show (after storeOps (afterL [condOps, distOps, argminOps, pairOps, takeOps, stackOps, windowOps, convOps] (trip m c k)) (Proc.devRef .tc main_v11_4) : IVec S_ 32) = _
    rw [store_counter, afterL_kept (kept_carried (by decide)), ih, Scf.iv_succ]
    rfl

/-- The condition holds in the seven trips. -/
theorem cond_spec : CondSpec pcfgs defs₀ loops main_while0_cond (condOps (F := Ideal)) bodyI (entryContents [preOps] m) 7 := by
  intro k hk c bd
  have hctr := trip_counter m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  delta HostLoop.elt; rw [wp_ret]; imodintro
  isplitr
  · ipureintro
    show Iff (IntOp.cmpi .slt (HloOp.result _ (trip m c k) main_v11_4 HostLoop.idx0)
        (HloOp.result _ (trip m c k) main_while0c_c_9 HostLoop.idx0) = 1#1) (k < 7)
    rw [nullary_result_ne _ _ _ _ (by decide), nullary_result, hctr]
    exact Scf.cmpi_slt_iv_ub_iff (ub := 7#32) main_while0_ok hk
  isplitl [Hb]; · iexact Hb
  rw [after_cons, after_cons, after_nil]
  iexact Hh

/-- Every run ends, with the buffers what the operations leave one after the other. -/
theorem run_main (ρ : Dev nD → PrngReg) :
    θ_run (defs (F := Ideal)) (onTc (τ := τ) (main (F := Ideal))) ⟨m, fun _ => 0, ρ⟩
      (fun r => ∀ (c : Dev nD) (b : Ref sig .tc), (Proc.devRef .tc b : DevRef τ sig).isScoped = false →
        r.2.mem ((c.tc : Thread nD τ).loc b) = finalContents condOps [preOps] bodyI [postOps] 7 m c (Proc.devRef .tc b)) :=
  run_loop pcfgs defs₀ loops main 0 main_while0_cond main_while0_body rfl [preOps] bodyI [postOps] condOps
    plain_pre plain_body plain_post main_chain body_chain 7 m ρ (cond_spec m)

/-- A buffer no trip writes is before each trip what it was before the loop. -/
theorem trip_steady {b : Ref sig .tc} (hb : b ∈ steady) (k : ℕ) :
    trip m c k (Proc.devRef .tc b) = entryContents [preOps] m c (Proc.devRef .tc b) := by
  induction k with
  | zero => rfl
  | succ k ih =>
    rw [trip, atTrip_succ]
    exact (afterL_kept (kept_steady hb) (trip m c k)).trans ih

/-- The arguments end as they were. -/
theorem final_args {b : Ref sig .tc} (hb : b ∈ ([main_arg0, main_arg1, main_arg2] : List (Ref sig .tc))) :
    finalContents condOps [preOps] bodyI [postOps] 7 m c (Proc.devRef .tc b) = m (c.tc.loc b) := by
  have hs : b ∈ steady := List.mem_append_left [main_v11_0, main_v11_1, main_v11_2, main_v11_3] hb
  have hk := kept_args hb
  refine (afterL_kept (opss := [postOps]) (fun o ho => hk o (List.mem_cons_of_mem _ ho)) _).trans ?_
  refine (after_of_forall_not_mem condOps _ (kept_steady hs _ List.mem_cons_self)).trans ?_
  exact (trip_steady m c hs 7).trans (afterL_kept (opss := [preOps]) (fun o ho => hk o (List.mem_cons.mpr (Or.inl (List.mem_singleton.mp ho)))) _)

/-- Every run ends with the arguments as they were and the counters at zero. -/
theorem frame_reference (ρ : Dev nD → PrngReg) :
    θ_run (defs (F := Ideal)) (onTc (τ := τ) (main (F := Ideal))) ⟨m, fun _ => 0, ρ⟩
      (fun r => (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) ∧ r.2.sem = fun _ => 0) := by
  refine (θ_run defs _ _).mono (fun r h => ⟨fun c => ⟨?_, ?_, ?_⟩, sem_eq_zero_of_no_sems (by decide) r.2⟩) (run_main m ρ)
  all_goals exact (h c _ rfl).trans (final_args m c (by decide))

end Cert.ReferenceIdeal.Run

end
-- ==== Proof.RefMath.lean ====
module

public import proofs.«01_k».proof.Proof.Spec

@[expose] public section

noncomputable section

/-! Facts of arithmetic about the reference's sums and selections. -/

namespace Cert.Spec

open Idealize.ShloMosaic

/-- A sum over 32768 numbers, channel by channel. -/
theorem sum_rows (f : Fin 32768 → EReal) : ∑ k : Fin 32768, f k = ∑ c : Fin 128, ∑ q : Fin 256, f ⟨c.val * 256 + q.val, by omega⟩ := by
  rw [← Fintype.sum_prod_type' (f := fun (c : Fin 128) (q : Fin 256) => f ⟨c.val * 256 + q.val, by omega⟩)]
  refine (Fintype.sum_equiv (finProdFinEquiv : Fin 128 × Fin 256 ≃ Fin 32768) _ _ fun p => congrArg f (Fin.ext ?_)).symm
  show p.1.val * 256 + p.2.val = p.2.val + 256 * p.1.val
  omega

/-- Two pairs of sums exchanged. -/
theorem sum_swap {α β γ δ : Type} [Fintype α] [Fintype β] [Fintype γ] [Fintype δ] (f : α → β → γ → δ → EReal) :
    ∑ a, ∑ b, ∑ c, ∑ d, f a b c d = ∑ d, ∑ c, ∑ a, ∑ b, f a b c d := by
  refine (Finset.sum_congr rfl fun a _ => (Finset.sum_congr rfl fun b _ => Finset.sum_comm).trans Finset.sum_comm).trans ?_
  refine Finset.sum_comm.trans (Finset.sum_congr rfl fun d _ => ?_)
  exact (Finset.sum_congr rfl fun a _ => Finset.sum_comm).trans Finset.sum_comm

/-- The one pixel a window's position reads, if it is inside the image. -/
theorem sum_window (U : Fin 16 → Fin 16 → EReal) (v : EReal) (A E : ℕ) :
    (∑ a : Fin 16, ∑ e : Fin 16, if a.val + 3 = A ∧ e.val + 3 = E then U a e * v else 0)
      = (if h : (3 ≤ A ∧ A - 3 < 16) ∧ 3 ≤ E ∧ E - 3 < 16 then U ⟨A - 3, h.1.2⟩ ⟨E - 3, h.2.2⟩ else 0) * v := by
  by_cases h : (3 ≤ A ∧ A - 3 < 16) ∧ 3 ≤ E ∧ E - 3 < 16
  · rw [dif_pos h, Finset.sum_eq_single ⟨A - 3, h.1.2⟩, Finset.sum_eq_single ⟨E - 3, h.2.2⟩, if_pos]
    · exact ⟨by dsimp only; omega, by dsimp only; omega⟩
    · exact fun e _ he => if_neg fun h' => he (Fin.ext (by dsimp only; omega))
    · exact fun h' => absurd (Finset.mem_univ _) h'
    · exact fun a _ ha => Finset.sum_eq_zero fun e _ => if_neg fun h' => ha (Fin.ext (by dsimp only; omega))
    · exact fun h' => absurd (Finset.mem_univ _) h'
  · rw [dif_neg h, zero_mul]
    exact Finset.sum_eq_zero fun a _ => Finset.sum_eq_zero fun e _ => if_neg fun h' => h (by omega)

/-- A merge as a sum over the filter's taps of the bordered images. -/
theorem merge_eq (w : Taps) (bias : EReal) (l r : Item) (c : Fin 128) (y x : Fin 16) :
    merge w bias l r c (pix y x) = (∑ d : Fin 2, ∑ n : Fin 7, ∑ k : Fin 7,
      (if h : (3 ≤ y.val + k.val ∧ y.val + k.val - 3 < 16) ∧ 3 ≤ x.val + n.val ∧ x.val + n.val - 3 < 16
        then pick d l r c (pix ⟨y.val + k.val - 3, h.1.2⟩ ⟨x.val + n.val - 3, h.2.2⟩) else 0) * w d k n) + bias := by
  have hy : (pix y x).val / 16 = y.val := by simp only [pix]; omega
  have hx : (pix y x).val % 16 = x.val := by simp only [pix]; omega
  unfold merge reach
  refine congrArg (· + bias) (Finset.sum_congr rfl fun d _ => ?_)
  rw [sum_swap, hy, hx]
  exact Finset.sum_congr rfl fun n _ => Finset.sum_congr rfl fun k _ =>
    sum_window (fun a e => pick d l r c (pix a e)) (w d k n) (y.val + k.val) (x.val + n.val)

/-- A table over pairs below 15, `⊤` beyond, is smallest where its rows of 15 are. -/
theorem sel_of_flat (f : ℕ → ℕ → EReal) (g : Fin 15 → Fin 15 → EReal) (q : Fin 225)
    (hf : ∀ i j : Fin 15, f i j = g i j) (htop : ∀ r c, 15 ≤ r ∨ 15 ≤ c → f r c = ⊤)
    (hmin : ∀ i j : Fin 15, f (q.val / 15) (q.val % 15) ≤ g i j)
    (hfirst : ∀ i j : Fin 15, g i j = f (q.val / 15) (q.val % 15) → q.val ≤ i.val * 15 + j.val) :
    sel f = q.val / 15 * 16 + q.val % 15 := by
  have hle : ∀ r < 16, ∀ c < 16, f (q.val / 15) (q.val % 15) ≤ f r c := fun r hr c hc => by
    by_cases h : 15 ≤ r ∨ 15 ≤ c
    · rw [htop r c h]; exact le_top
    · push Not at h
      rw [hf ⟨r, h.1⟩ ⟨c, h.2⟩]
      exact hmin _ _
  refine sel_eq_pair (by omega) (by omega) hle fun r hr c hc he => ?_
  by_cases h : 15 ≤ r ∨ 15 ≤ c
  · have h0 : g 0 0 = f (q.val / 15) (q.val % 15) := by
      refine le_antisymm ?_ (hmin 0 0)
      rw [← he, htop r c h]
      exact le_top
    have := hfirst 0 0 h0
    simp at this
    omega
  · push Not at h
    have := hfirst ⟨r, h.1⟩ ⟨c, h.2⟩ ((hf ⟨r, h.1⟩ ⟨c, h.2⟩).symm.trans he)
    dsimp only at this
    omega

end Cert.Spec

end
-- ==== Proof.RefDist.lean ====
module

public import proofs.«01_k».proof.Proof.Ops
public import proofs.«01_k».proof.Proof.Spec
public import Idealize.ShloMosaic.Lib.StableHlo.ReadAt
public import Idealize.ShloMosaic.Lib.Pointwise
public import Idealize.ShloMosaic.Lib.Pointwise.IndexVar

@[expose] public section

set_option maxRecDepth 16384

noncomputable section

namespace Cert.ReferenceIdeal.Run

open Cert.ReferenceIdeal Cert.ReferenceIdeal.Gen Cert.Spec
open Idealize.ShloMosaic Idealize.ShloMosaic.TcCoe Idealize.SL.Sem

variable (X : Valuation τ sig (Elt Ideal))
/-- The items as rows of 32768 numbers. -/
def rows (T : FVec Ideal S16x15x128x16x16 .f32) : FVec Ideal S16x15x32768 .f32 :=
  shapeCast S16x15x32768 T shapeCasts_S16x15x128x16x16_S16x15x32768

/-- The items' squared lengths. -/
def lens (r : FVec Ideal S16x15x32768 .f32) : FVec Ideal S16x15 .f32 :=
  Host.reduceAdd (mulf r r) (constant S_ .f32 0x00000000#32) reducesTo_S16x15x32768_S16x15_d2 h_S_

/-- The squared distances. -/
def dists (r : FVec Ideal S16x15x32768 .f32) : FVec Ideal S16x15x15 .f32 :=
  subf (addf (broadcastInDim S16x15x15 ![0, 1, 2] bcast_S16x15x1_S16x15x15_0_1_2 (broadcastInDim S16x15x1 ![0, 1] bcast_S16x15_S16x15x1_0_1 (lens r)))
      (broadcastInDim S16x15x15 ![0, 1, 2] bcast_S16x1x15_S16x15x15_0_1_2 (broadcastInDim S16x1x15 ![0, 2] bcast_S16x15_S16x1x15_0_2 (lens r))))
    (mulf (broadcastInDim S16x15x15 ![] bcast_S_S16x15x15 (constant S_ .f32 0x40000000#32))
      (Host.dotGeneral dot_S16x15x32768_S16x15x32768_S16x15x15_2_2_1_1_0_0 none r r))

/-- The squared distances, -/
theorem dist_v26 : StableHlo.after distOps X (Proc.devRef .tc main_while0b_v26) = dists (rows (X (Proc.devRef .tc main_v11_6))) := by
  after_reads_simp
  rfl

/-- and the items in rows. -/
theorem dist_v15 : StableHlo.after distOps X (Proc.devRef .tc main_while0b_v15) = rows (X (Proc.devRef .tc main_v11_6)) := by
  after_reads_simp
  rfl

/-- A squared length is a sum of squares. -/
theorem lens_apply (r : FVec Ideal S16x15x32768 .f32) (b : Fin 16) (i : Fin 15) :
    lens r (ix2 b i) = ∑ k : Fin 32768, r (ix3 b i k) * r (ix3 b i k) := by
  pointwise [lens]

/-- A squared distance by lengths and inner product. -/
theorem dists_apply (r : FVec Ideal S16x15x32768 .f32) (b : Fin 16) (i j : Fin 15) :
    dists r (ix3 b i j) = lens r (ix2 b i) + lens r (ix2 b j) - two * ∑ k : Fin 32768, r (ix3 b i k) * r (ix3 b j k) := by
  pointwise [dists]
  rfl

/-- A row holds channels of pixels. -/
theorem rows_apply (T : FVec Ideal S16x15x128x16x16 .f32) (b : Fin 16) (i : Fin 15) (c : Fin 128) (q : Fin 256) :
    rows T (ix3 b i ⟨c.val * 256 + q.val, by omega⟩) = T (ix5 b i c ⟨q.val / 16, by omega⟩ ⟨q.val % 16, by omega⟩) := by
  pointwise [rows]
  exact congrArg T (congrArg₂ (ix5 b i c) (Fin.ext (by dsimp only; omega)) (Fin.ext (by dsimp only; omega)))

/-- Gathering by number takes that item, the number kept in range. -/
theorem gatherItem_apply (r : FVec Ideal S16x15x32768 .f32) (idx : IVec S16x1x1 32) (b : Fin 16) (k : Fin 32768) :
    Host.gather gather_S16x15x32768_S16x1x1_S16x1x32768_2_1_0_0_1_2_1132768 r idx (ix3 b 0 k)
      = r (ix3 b ⟨min (idx (ix3 b 0 0)).toInt.toNat 14, by omega⟩ k) := by
  unfold Host.gather
  refine congrArg r (funext fun a => Fin.ext ?_)
  show GatherDims.start _ (ix3 b 0 k) idx a + GatherDims.batchCoord _ (ix3 b 0 k) a + GatherDims.offCoord _ (ix3 b 0 k) a = _
  fin_cases a
  · rw [GatherDims.start_batching _ _ _ _ (by decide), GatherDims.offCoord_eq_zero _ _ _ (by decide), Nat.zero_add, Nat.add_zero]
    unfold GatherDims.batchCoord
    rw [dif_pos (by decide)]
    rfl
  · rw [GatherDims.batchCoord_eq_zero _ _ _ (by decide), GatherDims.offCoord_eq_zero _ _ _ (by decide), Nat.add_zero]
    unfold GatherDims.start
    rw [dif_pos (by decide)]
    refine congrArg (fun i => min (idx i).toInt.toNat 14) (funext fun a => Fin.ext ?_)
    fin_cases a <;> rfl
  · rw [GatherDims.batchCoord_eq_zero _ _ _ (by decide)]
    unfold GatherDims.start GatherDims.offCoord
    rw [dif_neg (by decide), dif_pos (by decide), Nat.add_zero, Nat.zero_add]
    rfl

/-- Gathering by position takes the pixel there, the position kept in range. -/
theorem gatherWindow_apply (x : FVec Ideal S2048x2x22x22 .f32) (idx : IVec S16x16x7x7x2 32) (p : Fin 2048) (d : Fin 2) (y z : Fin 16) (k n : Fin 7) :
    Host.gather gather_S2048x2x22x22_S16x16x7x7x2_S2048x2x16x16x7x7_01_23_n_n_23_4_2048211 x idx (ix6 p d y z k n)
      = x (ix4 p d ⟨min (idx (ix5 y z k n 0)).toInt.toNat 21, by omega⟩ ⟨min (idx (ix5 y z k n 1)).toInt.toNat 21, by omega⟩) := by
  unfold Host.gather
  refine congrArg x (funext fun a => Fin.ext ?_)
  show GatherDims.start _ (ix6 p d y z k n) idx a + GatherDims.batchCoord _ (ix6 p d y z k n) a + GatherDims.offCoord _ (ix6 p d y z k n) a = _
  rw [GatherDims.batchCoord_eq_zero _ _ _ (by revert a; decide), Nat.add_zero]
  fin_cases a
  · unfold GatherDims.start GatherDims.offCoord
    rw [dif_neg (by decide), dif_pos (by decide), Nat.zero_add]
    rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine congrArg (fun i => min (idx i).toInt.toNat 21) (funext fun a => Fin.ext ?_)
    fin_cases a <;> rfl
  · rw [GatherDims.offCoord_eq_zero _ _ _ (by decide), Nat.add_zero]
    unfold GatherDims.start
    rw [dif_pos (by decide)]
    refine congrArg (fun i => min (idx i).toInt.toNat 21) (funext fun a => Fin.ext ?_)
    fin_cases a <;> rfl

end Cert.ReferenceIdeal.Run

end
-- ==== Proof.RefArg.lean ====
module

public import proofs.«01_k».proof.Proof.RefDist
public import proofs.«01_k».proof.Proof.Spec
public import Idealize.ShloMosaic.Lib.StableHlo.ReadAt
public import Idealize.ShloMosaic.Lib.Pointwise
public import Idealize.ShloMosaic.Lib.Pointwise.IndexVar

@[expose] public section

set_option maxRecDepth 16384

noncomputable section

namespace Cert.ReferenceIdeal.Run

open Cert.ReferenceIdeal Cert.ReferenceIdeal.Gen Cert.Spec
open Idealize.ShloMosaic Idealize.ShloMosaic.TcCoe Idealize.SL.Sem

variable (X : Valuation τ sig (Elt Ideal))
omit X in
/-- The masked value is `⊤`. -/
theorem ofBits_top : Ideal.ofBits .f32 0x7F800000#32 = ⊤ := by simp [Ideal.ofBits, Ideal.ieee]

omit X in
/-- One step of the host's argmin keeps the earlier pair where it is smaller, by value and then by number. -/
theorem reducer_le (a b : Ideal .f32 × BitVec 32) :
    (reducer_argmin_f32_i32 a b = a ∧ (a.1 < b.1 ∨ a.1 = b.1 ∧ a.2.toInt ≤ b.2.toInt))
      ∨ (reducer_argmin_f32_i32 a b = b ∧ (b.1 < a.1 ∨ b.1 = a.1 ∧ b.2.toInt ≤ a.2.toInt)) := by
  obtain ⟨v, i⟩ := a
  obtain ⟨w, j⟩ := b
  rcases lt_trichotomy (v : EReal) w with h | h | h
  · refine Or.inl ⟨?_, Or.inl h⟩
    simp [reducer_argmin_f32_i32, FloatOps.cmpf, Ideal.cmp, Scalar.select, IntOp.ori, IntOp.andi, h, h.ne]
  · subst h
    by_cases hij : i.toInt < j.toInt
    · refine Or.inl ⟨?_, Or.inr ⟨rfl, hij.le⟩⟩
      simp [reducer_argmin_f32_i32, FloatOps.cmpf, Ideal.cmp, Scalar.select, IntOp.ori, IntOp.andi, IntOp.cmpi, BitVec.slt, hij]
    · refine Or.inr ⟨?_, Or.inr ⟨rfl, not_lt.mp hij⟩⟩
      simp [reducer_argmin_f32_i32, FloatOps.cmpf, Ideal.cmp, Scalar.select, IntOp.ori, IntOp.andi, IntOp.cmpi, BitVec.slt, hij]
  · refine Or.inr ⟨?_, Or.inl h⟩
    have h1 : ¬ (v : EReal) < w := not_lt.mpr h.le
    have h2 : ¬ (v : EReal) = w := ne_of_gt h
    simp [reducer_argmin_f32_i32, FloatOps.cmpf, Ideal.cmp, Scalar.select, IntOp.ori, IntOp.andi, h1, h2]

/-- Pairs in the order of value and then number. -/
def Before (a b : Ideal .f32 × BitVec 32) : Prop := (a.1 : EReal) < b.1 ∨ (a.1 : EReal) = b.1 ∧ a.2.toInt ≤ b.2.toInt

omit X in
/-- Coming before is transitive. -/
theorem Before.trans {a b c : Ideal .f32 × BitVec 32} (h : Before a b) (h' : Before b c) : Before a c := by
  rcases h with h | ⟨h, h2⟩ <;> rcases h' with h' | ⟨h', h2'⟩
  · exact Or.inl (lt_trans h h')
  · exact Or.inl (h' ▸ h)
  · exact Or.inl (h ▸ h')
  · exact Or.inr ⟨h.trans h', h2.trans h2'⟩

omit X in
/-- The fold ends at one of the pairs, and at a first one. -/
theorem fold_before (l : List (Ideal .f32 × BitVec 32)) (a : Ideal .f32 × BitVec 32) :
    (l.foldl reducer_argmin_f32_i32 a = a ∨ l.foldl reducer_argmin_f32_i32 a ∈ l)
      ∧ Before (l.foldl reducer_argmin_f32_i32 a) a ∧ ∀ p ∈ l, Before (l.foldl reducer_argmin_f32_i32 a) p := by
  induction l generalizing a with
  | nil => exact ⟨Or.inl rfl, Or.inr ⟨rfl, le_rfl⟩, fun p hp => absurd hp List.not_mem_nil⟩
  | cons b l ih =>
    rw [List.foldl_cons]
    obtain ⟨h1, h2, h3⟩ := ih (reducer_argmin_f32_i32 a b)
    rcases reducer_le a b with ⟨h, hb⟩ | ⟨h, hb⟩ <;> rw [h] at h1 h2 h3 ⊢
    · refine ⟨h1.imp_right (List.mem_cons_of_mem _), h2, fun p hp => ?_⟩
      rcases List.mem_cons.mp hp with rfl | hp
      · exact h2.trans hb
      · exact h3 p hp
    · refine ⟨Or.inr ?_, h2.trans hb, fun p hp => ?_⟩
      · rcases h1 with h1 | h1
        · rw [h1]; exact List.mem_cons_self
        · exact List.mem_cons_of_mem _ h1
      · rcases List.mem_cons.mp hp with rfl | hp
        · exact h2
        · exact h3 p hp

omit X in
/-- The pairs the argmin of a row runs over. -/
theorem mem_fiber (x : FVec Ideal S16x225 .f32) (b : Fin 16) (p : Ideal .f32 × BitVec 32) :
    p ∈ Host.argReduceFiber x (iotaInDim S16x225 32 1) reducesTo_S16x225_S16_d1 (ix1 b)
      ↔ ∃ q : Fin 225, p = (x (ix2 b q), BitVec.ofNat 32 q.val) := by
  unfold Host.argReduceFiber
  simp only [List.mem_map, List.mem_filter, List.mem_finRange, true_and, decide_eq_true_eq]
  constructor
  · rintro ⟨n, hn, rfl⟩
    generalize S16x225.rowMajor.symm n = i at hn ⊢
    have hi : i = ix2 b (i 1) := by
      funext a
      fin_cases a
      · exact congrFun hn 0
      · rfl
    refine ⟨i 1, ?_⟩
    rw [hi]
    rfl
  · rintro ⟨q, rfl⟩
    refine ⟨S16x225.rowMajor (ix2 b q), ?_, ?_⟩
    · rw [Equiv.symm_apply_apply]
      funext a
      fin_cases a
      rfl
    · rw [Equiv.symm_apply_apply]
      rfl

/-- The index of a row's smallest element, by the host's argmin. -/
def least (x : FVec Ideal S16x225 .f32) : IVec S16 32 := fun j =>
  (Host.argReduce reducer_argmin_f32_i32 x (iotaInDim S16x225 32 1) (constant S_ .f32 0x7F800000#32) (constantI S_ 32 0#32) reducesTo_S16x225_S16_d1 h_S_ j).2

omit X in
/-- It is the least index of a smallest element. -/
theorem least_spec (x : FVec Ideal S16x225 .f32) (b : Fin 16) :
    ∃ q : Fin 225, least x (ix1 b) = BitVec.ofNat 32 q.val ∧ (∀ q' : Fin 225, (x (ix2 b q) : EReal) ≤ x (ix2 b q'))
      ∧ ∀ q' : Fin 225, (x (ix2 b q') : EReal) = x (ix2 b q) → q ≤ q' := by
  unfold least
  rw [Ideal.argReduce_eq_reduce2, Host.reduce2_eq_foldl_fiber]
  obtain ⟨h1, -, h3⟩ := fold_before (Host.argReduceFiber x (iotaInDim S16x225 32 1) reducesTo_S16x225_S16_d1 (ix1 b))
    ((constant S_ .f32 0x7F800000#32 : FVec Ideal S_ .f32) (Shape.Idx.first h_S_), (constantI S_ 32 0#32 : IVec S_ 32) (Shape.Idx.first h_S_))
  generalize List.foldl _ _ _ = r at h1 h3 ⊢
  have hint : ∀ q : Fin 225, (BitVec.ofNat 32 q.val).toInt = q.val := by decide +kernel
  have h4 : ∀ q' : Fin 225, Before r (x (ix2 b q'), BitVec.ofNat 32 q'.val) := fun q' => h3 _ ((mem_fiber x b _).mpr ⟨q', rfl⟩)
  rcases h1 with h1 | h1
  · have htop : (r.1 : EReal) = ⊤ := by rw [h1]; exact ofBits_top
    have hall : ∀ q' : Fin 225, (x (ix2 b q') : EReal) = ⊤ := fun q' => by
      rcases h4 q' with h | ⟨h, -⟩
      · exact absurd h (by rw [htop]; exact not_top_lt)
      · exact h.symm.trans htop
    refine ⟨0, by rw [h1]; rfl, fun q' => by rw [hall, hall], fun q' _ => Fin.zero_le _⟩
  · obtain ⟨q, rfl⟩ := (mem_fiber x b _).mp h1
    refine ⟨q, rfl, fun q' => ?_, fun q' hq => ?_⟩
    · rcases h4 q' with h | ⟨h, -⟩
      · exact le_of_lt h
      · exact le_of_eq h
    · rcases h4 q' with h | ⟨-, h⟩
      · exact absurd hq.symm (ne_of_lt h)
      · have := hint q
        have := hint q'
        simp only at h
        exact Fin.le_def.mpr (by omega)

/-- The masked distances as rows of 225. -/
def flat (late : IVec S15x15 1) (act : IVec S16x15 1) (d : FVec Ideal S16x15x15 .f32) : FVec Ideal S16x225 .f32 :=
  shapeCast S16x225 (select (andi (andi (broadcastInDim S16x15x15 ![0, 1, 2] bcast_S16x15x1_S16x15x15_0_1_2 (broadcastInDim S16x15x1 ![0, 1] bcast_S16x15_S16x15x1_0_1 act))
        (broadcastInDim S16x15x15 ![0, 1, 2] bcast_S16x1x15_S16x15x15_0_1_2 (broadcastInDim S16x1x15 ![0, 2] bcast_S16x15_S16x1x15_0_2 act)))
      (broadcastInDim S16x15x15 ![0, 1, 2] bcast_S1x15x15_S16x15x15_0_1_2 (broadcastInDim S1x15x15 ![1, 2] bcast_S15x15_S1x15x15_1_2 late)))
    d (broadcastInDim S16x15x15 ![] bcast_S_S16x15x15 (constant S_ .f32 0x7F800000#32))) shapeCasts_S16x15x15_S16x225

omit X in
/-- The flat row of masked distances, at the number of a pair. -/
theorem flat_apply (late : IVec S15x15 1) (act : IVec S16x15 1) (d : FVec Ideal S16x15x15 .f32) (b : Fin 16) (i j : Fin 15) :
    flat late act d (ix2 b ⟨i.val * 15 + j.val, by omega⟩)
      = Scalar.select (IntOp.andi (IntOp.andi (act (ix2 b i)) (act (ix2 b j))) (late (ix2 i j))) (d (ix3 b i j)) (Ideal.ofBits .f32 0x7F800000#32) := by
  pointwise [flat]

/-- The argument of the minimum is the least of the flat row. -/
theorem argmin_v37 : (StableHlo.after argminOps X (Proc.devRef .tc main_while0b_v37) : IVec S16 32)
    = least (flat (X (Proc.devRef .tc main_v11_0)) (X (Proc.devRef .tc main_v11_7)) (X (Proc.devRef .tc main_while0b_v26))) := by
  after_reads_simp
  rfl

end Cert.ReferenceIdeal.Run

end
-- ==== Proof.RefPair.lean ====
module

public import proofs.«01_k».proof.Proof.Ops
public import proofs.«01_k».proof.Proof.Spec
public import Idealize.ShloMosaic.Lib.StableHlo.ReadAt
public import Idealize.ShloMosaic.Lib.Pointwise
public import Idealize.ShloMosaic.Lib.Pointwise.IndexVar

@[expose] public section

set_option maxRecDepth 16384

noncomputable section

namespace Cert.ReferenceIdeal.Run

open Cert.ReferenceIdeal Cert.ReferenceIdeal.Gen Cert.Spec
open Idealize.ShloMosaic Idealize.ShloMosaic.TcCoe Idealize.SL.Sem

variable (X : Valuation τ sig (Elt Ideal))
/-- The later item's number is the flat number divided by 15, -/
theorem pair_38 (b : Fin 16) (q : ℕ) (hq : q < 225) (h : (X (Proc.devRef .tc main_while0b_v37) : IVec S16 32) (ix1 b) = BitVec.ofNat 32 q) :
    (StableHlo.after pairOps X (Proc.devRef .tc main_while0b_v38) : IVec S16 32) (ix1 b) = BitVec.ofNat 32 (q / 15) := by
  after_reads_at
  rw [h]
  clear h
  revert q
  decide +kernel

/-- the earlier's the remainder. -/
theorem pair_39 (b : Fin 16) (q : ℕ) (hq : q < 225) (h : (X (Proc.devRef .tc main_while0b_v37) : IVec S16 32) (ix1 b) = BitVec.ofNat 32 q) :
    (StableHlo.after pairOps X (Proc.devRef .tc main_while0b_v39) : IVec S16 32) (ix1 b) = BitVec.ofNat 32 (q % 15) := by
  after_reads_at
  rw [h]
  clear h
  revert q
  decide +kernel

/-- Adding two small numbers and wrapping the negative ones round adds them. -/
theorem wrap_22 : ∀ (y : Fin 16) (k : Fin 7),
    Scalar.select (IntOp.cmpi .slt (IntOp.addi (BitVec.ofNat 32 y.val) (BitVec.ofNat 32 k.val)) 0#32)
      (IntOp.addi (IntOp.addi (BitVec.ofNat 32 y.val) (BitVec.ofNat 32 k.val)) 22#32)
      (IntOp.addi (BitVec.ofNat 32 y.val) (BitVec.ofNat 32 k.val)) = BitVec.ofNat 32 (y.val + k.val) := by decide +kernel

/-- A window's position: its row, -/
theorem window_0 (y z : Fin 16) (k n : Fin 7) :
    (StableHlo.after windowOps X (Proc.devRef .tc main_while0b_v79) : IVec S16x16x7x7x2 32) (ix5 y z k n 0) = BitVec.ofNat 32 (y.val + k.val) := by
  after_reads_at
  exact wrap_22 y k

/-- and its column. -/
theorem window_1 (y z : Fin 16) (k n : Fin 7) :
    (StableHlo.after windowOps X (Proc.devRef .tc main_while0b_v79) : IVec S16x16x7x7x2 32) (ix5 y z k n 1) = BitVec.ofNat 32 (z.val + n.val) := by
  after_reads_at
  exact wrap_22 z n

end Cert.ReferenceIdeal.Run

end
-- ==== Proof.RefConv.lean ====
module

public import proofs.«01_k».proof.Proof.RefDist
public import proofs.«01_k».proof.Proof.Spec
public import Idealize.ShloMosaic.Lib.StableHlo.ReadAt
public import Idealize.ShloMosaic.Lib.Pointwise
public import Idealize.ShloMosaic.Lib.Pointwise.IndexVar

@[expose] public section

set_option maxRecDepth 16384

noncomputable section

namespace Cert.ReferenceIdeal.Run

open Cert.ReferenceIdeal Cert.ReferenceIdeal.Gen Cert.Spec
open Idealize.ShloMosaic Idealize.ShloMosaic.TcCoe Idealize.SL.Sem

variable (X : Valuation τ sig (Elt Ideal))
/-- An index taken round where negative, one per row. -/
def wrapped (n : IVec S16 32) : IVec S16x1x1 32 :=
  select (cmpi .slt (broadcastInDim S16x1x1 ![0] bcast_S16_S16x1x1_0 n) (broadcastInDim S16x1x1 ![] bcast_S_S16x1x1 (constantI S_ 32 0#32)))
    (addi (broadcastInDim S16x1x1 ![0] bcast_S16_S16x1x1_0 n) (broadcastInDim S16x1x1 ![] bcast_S_S16x1x1 (constantI S_ 32 15#32)))
    (broadcastInDim S16x1x1 ![0] bcast_S16_S16x1x1_0 n)

/-- The item at a number, one per row. -/
def taken (r : FVec Ideal S16x15x32768 .f32) (n : IVec S16 32) : FVec Ideal S16x128x16x16 .f32 :=
  shapeCast S16x128x16x16 (Host.gather gather_S16x15x32768_S16x1x1_S16x1x32768_2_1_0_0_1_2_1132768 r (wrapped n)) shapeCasts_S16x1x32768_S16x128x16x16

omit X in
/-- The wrapped numbers, one for each row. -/
theorem spread_apply (g : FVec Ideal S16x1x32768 .f32) (b : Fin 16) (c : Fin 128) (y x : Fin 16) :
    shapeCast S16x128x16x16 g shapeCasts_S16x1x32768_S16x128x16x16 (ix4 b c y x) = g (ix3 b 0 ⟨c.val * 256 + (pix y x).val, by omega⟩) := by
  pointwise
  exact congrArg (fun k => g (ix3 b 0 k)) (Fin.ext (by simp only [pix]; omega))

omit X in
/-- A number below fifteen is not wrapped. -/
theorem wrapped_apply (n : IVec S16 32) (b : Fin 16) (i : Fin 15) (h : n (ix1 b) = BitVec.ofNat 32 i.val) :
    wrapped n (ix3 b 0 0) = BitVec.ofNat 32 i.val := by
  pointwise [wrapped]
  rw [h]
  clear h
  revert i
  decide +kernel

omit X in
/-- The item taken is the one with the number given. -/
theorem taken_apply (r : FVec Ideal S16x15x32768 .f32) (n : IVec S16 32) (b : Fin 16) (i : Fin 15) (h : n (ix1 b) = BitVec.ofNat 32 i.val)
    (c : Fin 128) (y x : Fin 16) : taken r n (ix4 b c y x) = r (ix3 b i ⟨c.val * 256 + (pix y x).val, by omega⟩) := by
  have hi : ∀ i : Fin 15, min (BitVec.ofNat 32 i.val).toInt.toNat 14 = i.val := by decide +kernel
  unfold taken
  rw [spread_apply, gatherItem_apply]
  exact congrArg (fun i => r (ix3 b i _)) (Fin.ext (by dsimp only; rw [wrapped_apply n b i h]; exact hi i))

/-- The first item taken is the earlier of the pair, -/
theorem take_42 : (StableHlo.after takeOps X (Proc.devRef .tc main_while0b_v42) : FVec Ideal S16x128x16x16 .f32)
    = taken (X (Proc.devRef .tc main_while0b_v15)) (X (Proc.devRef .tc main_while0b_v39)) := by
  after_reads_simp
  rfl

/-- the second the later. -/
theorem take_45 : (StableHlo.after takeOps X (Proc.devRef .tc main_while0b_v45) : FVec Ideal S16x128x16x16 .f32)
    = taken (X (Proc.devRef .tc main_while0b_v15)) (X (Proc.devRef .tc main_while0b_v38)) := by
  after_reads_simp
  rfl

/-- Two items stacked, with a border of three zeros. -/
def padded (l r : FVec Ideal S16x128x16x16 .f32) : FVec Ideal S2048x2x22x22 .f32 :=
  pad S2048x2x22x22 ![0, 0, 3, 3] ![0, 0, 3, 3] ![0, 0, 0, 0]
    (shapeCast S2048x2x16x16 (concatenate S16x128x2x16x16 2
      [⟨S16x128x1x16x16, broadcastInDim S16x128x1x16x16 ![0, 1, 3, 4] bcast_S16x128x16x16_S16x128x1x16x16_0_1_3_4 l⟩,
        ⟨S16x128x1x16x16, broadcastInDim S16x128x1x16x16 ![0, 1, 3, 4] bcast_S16x128x16x16_S16x128x1x16x16_0_1_3_4 r⟩]
      concatenates_S16x128x1x16x16_S16x128x1x16x16_S16x128x2x16x16_d2) shapeCasts_S16x128x2x16x16_S2048x2x16x16)
    (sitofp .f32 (constantI S_ 32 0#32)) pads_S2048x2x16x16_S2048x2x22x22_000_000_330_330 h_S_

omit X in
/-- The bordered stack holds the images, three pixels in, and zero on the border. -/
theorem padded_apply (l r : FVec Ideal S16x128x16x16 .f32) (b : Fin 16) (c : Fin 128) (d : Fin 2) (a e : Fin 22) :
    padded l r (ix4 ⟨b.val * 128 + c.val, by omega⟩ d a e)
      = if h : (3 ≤ a.val ∧ a.val - 3 < 16) ∧ 3 ≤ e.val ∧ e.val - 3 < 16
        then (if d = 0 then l else r) (ix4 b c ⟨a.val - 3, h.1.2⟩ ⟨e.val - 3, h.2.2⟩) else (0 : EReal) := by
  have h1 : ∀ (b : Fin 16) (c : Fin 128), (⟨(b.val * 128 + c.val) / 128, by omega⟩ : Fin 16) = b := fun b c => Fin.ext (by dsimp only; omega)
  have h2 : ∀ (b : Fin 16) (c : Fin 128), (⟨(b.val * 128 + c.val) % 128, by omega⟩ : Fin 128) = c := fun b c => Fin.ext (by dsimp only; omega)
  have h3 : b.val * 128 + c.val < 2048 := by omega
  have h0 : (FloatOps.sitofp .f32 (0#32 : BitVec 32) : Ideal .f32) = (0 : EReal) := by simp [FloatOps.sitofp]
  pointwise [padded]
  by_cases h : (3 ≤ a.val ∧ a.val - 3 < 16) ∧ 3 ≤ e.val ∧ e.val - 3 < 16
  · rw [dif_pos ⟨h3, h⟩, dif_pos h]
    fin_cases d <;> rfl
  · rw [dif_neg fun h' => h h'.2, dif_neg h]
    exact h0

/-- The first image as one of a stack, -/
theorem stack_46 : (StableHlo.upto stackOps X 2 (Proc.devRef .tc main_while0b_v46) : FVec Ideal S16x128x1x16x16 .f32)
    = broadcastInDim S16x128x1x16x16 ![0, 1, 3, 4] bcast_S16x128x16x16_S16x128x1x16x16_0_1_3_4 (X (Proc.devRef .tc main_while0b_v42)) := by
  after_reads_simp

/-- and the second. -/
theorem stack_47 : (StableHlo.upto stackOps X 2 (Proc.devRef .tc main_while0b_v47) : FVec Ideal S16x128x1x16x16 .f32)
    = broadcastInDim S16x128x1x16x16 ![0, 1, 3, 4] bcast_S16x128x16x16_S16x128x1x16x16_0_1_3_4 (X (Proc.devRef .tc main_while0b_v45)) := by
  after_reads_simp

/-- The stack of both with its border. -/
theorem stack_50 : (StableHlo.after stackOps X (Proc.devRef .tc main_while0b_v50) : FVec Ideal S2048x2x22x22 .f32)
    = padded (X (Proc.devRef .tc main_while0b_v42)) (X (Proc.devRef .tc main_while0b_v45)) := by
  have h1 := stack_46 X
  have h2 := stack_47 X
  after_reads_simp
  rw [h1, h2]
  rfl

/-- The contraction's indices are the input channel, the column tap and the row tap. -/
def tapEquiv : Fin 2 × Fin 7 × Fin 7 ≃ dot_S2048x2x16x16x7x7_S2x7x7_S2048x16x16_154_021_023_n_n_n.contr.Idx where
  toFun t := fun p => match p with
    | ⟨0, _⟩ => t.1
    | ⟨1, _⟩ => t.2.1
    | ⟨2, _⟩ => t.2.2
  invFun i := (i ⟨0, by decide⟩, i ⟨1, by decide⟩, i ⟨2, by decide⟩)
  left_inv _ := rfl
  right_inv i := by
    funext p
    match p with
    | ⟨0, _⟩ => rfl
    | ⟨1, _⟩ => rfl
    | ⟨2, _⟩ => rfl

omit X in
/-- The contraction over images and taps, at an element. -/
theorem dot_apply (l : FVec Ideal S2048x2x16x16x7x7 .f32) (r : FVec Ideal S2x7x7 .f32) (p : Fin 2048) (y x : Fin 16) :
    Host.dotGeneral dot_S2048x2x16x16x7x7_S2x7x7_S2048x16x16_154_021_023_n_n_n none l r (ix3 p y x)
      = ∑ d : Fin 2, ∑ n : Fin 7, ∑ k : Fin 7, (l (ix6 p d y x k n) * r (ix3 d k n) : EReal) := by
  pointwise
  unfold Ideal.matmul
  rw [zero_add, ← Fintype.sum_equiv tapEquiv (fun t => (l (ix6 p t.1 y x t.2.2 t.2.1) * r (ix3 t.1 t.2.2 t.2.1) : EReal)) _ fun t => ?_]
  · simp only [Fintype.sum_prod_type]
  · refine congrArg₂ (fun i j => (l i * r j : EReal)) (funext fun a => Fin.ext ?_) (funext fun a => Fin.ext ?_)
    · fin_cases a <;> rfl
    · fin_cases a <;> rfl

/-- The convolution of a bordered stack by a filter, through gathered windows, plus the bias. -/
def filtered (pd : FVec Ideal S2048x2x22x22 .f32) (pos : IVec S16x16x7x7x2 32) (w : FVec Ideal S1x2x7x7 .f32) (bias : FVec Ideal S1 .f32) :
    FVec Ideal S16x128x16x16 .f32 :=
  shapeCast S16x128x16x16
    (addf (Host.dotGeneral dot_S2048x2x16x16x7x7_S2x7x7_S2048x16x16_154_021_023_n_n_n none
        (Host.gather gather_S2048x2x22x22_S16x16x7x7x2_S2048x2x16x16x7x7_01_23_n_n_23_4_2048211 pd pos)
        (shapeCast S2x7x7 w shapeCasts_S1x2x7x7_S2x7x7))
      (broadcastInDim S2048x16x16 ![0, 1, 2] bcast_S1x1x1_S2048x16x16_0_1_2 (shapeCast S1x1x1 bias shapeCasts_S1_S1x1x1)))
    shapeCasts_S2048x16x16_S16x128x16x16

/-- The merged items are the stack filtered. -/
theorem conv_86 : (StableHlo.after convOps X (Proc.devRef .tc main_while0b_v86) : FVec Ideal S16x128x16x16 .f32)
    = filtered (X (Proc.devRef .tc main_while0b_v50)) (X (Proc.devRef .tc main_while0b_v79)) (X (Proc.devRef .tc main_v11_1)) (X (Proc.devRef .tc main_v11_2)) := by
  after_reads_simp
  rfl

omit X in
/-- The filter without its first axis. -/
theorem filter_apply (w : FVec Ideal S1x2x7x7 .f32) (d : Fin 2) (k n : Fin 7) :
    shapeCast S2x7x7 w shapeCasts_S1x2x7x7_S2x7x7 (ix3 d k n) = w (ix4 0 d k n) := by
  pointwise

omit X in
/-- The bias is added at every pixel. -/
theorem outer_apply (u : FVec Ideal S2048x16x16 .f32) (bias : FVec Ideal S1 .f32) (b : Fin 16) (c : Fin 128) (y x : Fin 16) :
    shapeCast S16x128x16x16 (addf u (broadcastInDim S2048x16x16 ![0, 1, 2] bcast_S1x1x1_S2048x16x16_0_1_2 (shapeCast S1x1x1 bias shapeCasts_S1_S1x1x1)))
      shapeCasts_S2048x16x16_S16x128x16x16 (ix4 b c y x) = (u (ix3 ⟨b.val * 128 + c.val, by omega⟩ y x) + bias (ix1 0) : EReal) := by
  pointwise

omit X in
/-- Read at an index, where the positions are those of the windows. -/
theorem filtered_apply (pd : FVec Ideal S2048x2x22x22 .f32) (pos : IVec S16x16x7x7x2 32) (w : FVec Ideal S1x2x7x7 .f32) (bias : FVec Ideal S1 .f32)
    (h0 : ∀ (y z : Fin 16) (k n : Fin 7), pos (ix5 y z k n 0) = BitVec.ofNat 32 (y.val + k.val))
    (h1 : ∀ (y z : Fin 16) (k n : Fin 7), pos (ix5 y z k n 1) = BitVec.ofNat 32 (z.val + n.val))
    (b : Fin 16) (c : Fin 128) (y x : Fin 16) :
    filtered pd pos w bias (ix4 b c y x)
      = (∑ d : Fin 2, ∑ n : Fin 7, ∑ k : Fin 7, (pd (ix4 ⟨b.val * 128 + c.val, by omega⟩ d ⟨y.val + k.val, by omega⟩ ⟨x.val + n.val, by omega⟩)
          * w (ix4 0 d k n) : EReal)) + bias (ix1 0) := by
  have hm : ∀ (y : Fin 16) (k : Fin 7), min (BitVec.ofNat 32 (y.val + k.val)).toInt.toNat 21 = y.val + k.val := by decide +kernel
  unfold filtered
  rw [outer_apply, dot_apply]
  refine congrArg (· + (bias (ix1 0) : EReal)) (Finset.sum_congr rfl fun d _ => Finset.sum_congr rfl fun n _ => Finset.sum_congr rfl fun k _ => ?_)
  rw [filter_apply, gatherWindow_apply]
  refine congrArg (fun v => (pd v * w (ix4 0 d k n) : EReal)) (congrArg₂ (ix4 _ d) (Fin.ext ?_) (Fin.ext ?_))
  · dsimp only; rw [h0]; exact hm y k
  · dsimp only; rw [h1]; exact hm x n

/-- What a trip stores: the items, -/
theorem store_6 (b : Fin 16) (i : Fin 15) (c : Fin 128) (y x : Fin 16) :
    (StableHlo.after storeOps X (Proc.devRef .tc main_v11_6) : FVec Ideal S16x15x128x16x16 .f32) (ix5 b i c y x)
      = Scalar.select (IntOp.cmpi .eq ((X (Proc.devRef .tc main_v11_3) : IVec S15 32) (ix1 i)) (IntOp.addi 8#32 ((X (Proc.devRef .tc main_v11_5) : IVec S_ 32) ix0)))
          ((X (Proc.devRef .tc main_while0b_v86) : FVec Ideal S16x128x16x16 .f32) (ix4 b c y x))
          ((X (Proc.devRef .tc main_v11_6) : FVec Ideal S16x15x128x16x16 .f32) (ix5 b i c y x)) := by
  after_reads_simp
  simp only [id_eq]
  pointwise

/-- the activity, -/
theorem store_7 (b : Fin 16) (i : Fin 15) :
    (StableHlo.after storeOps X (Proc.devRef .tc main_v11_7) : IVec S16x15 1) (ix2 b i)
      = IntOp.ori (IntOp.andi ((X (Proc.devRef .tc main_v11_7) : IVec S16x15 1) (ix2 b i))
          (~~~ IntOp.ori (IntOp.cmpi .eq ((X (Proc.devRef .tc main_v11_3) : IVec S15 32) (ix1 i)) ((X (Proc.devRef .tc main_while0b_v39) : IVec S16 32) (ix1 b)))
            (IntOp.cmpi .eq ((X (Proc.devRef .tc main_v11_3) : IVec S15 32) (ix1 i)) ((X (Proc.devRef .tc main_while0b_v38) : IVec S16 32) (ix1 b)))))
          (IntOp.cmpi .eq ((X (Proc.devRef .tc main_v11_3) : IVec S15 32) (ix1 i)) (IntOp.addi 8#32 ((X (Proc.devRef .tc main_v11_5) : IVec S_ 32) ix0))) := by
  after_reads_simp
  simp only [id_eq]
  pointwise

/-- and the second counter. -/
theorem store_5 : (StableHlo.after storeOps X (Proc.devRef .tc main_v11_5) : IVec S_ 32) = X (Proc.devRef .tc main_while0b_v14) := by
  after_reads_simp
  rfl

/-- The second counter counts one on. -/
theorem dist_14 : (StableHlo.after distOps X (Proc.devRef .tc main_while0b_v14) : IVec S_ 32) ix0
    = IntOp.addi ((X (Proc.devRef .tc main_v11_5) : IVec S_ 32) ix0) 1#32 := by
  after_reads_at

/-- Before the items are extended they are the argument, -/
theorem pre_arg0 : (StableHlo.upto preOps X 8 (Proc.devRef .tc main_arg0) : FVec Ideal S16x8x128x16x16 .f32) = X (Proc.devRef .tc main_arg0) := by
  after_reads_simp

/-- and the extension is zero. -/
theorem pre_v6 : (StableHlo.upto preOps X 8 (Proc.devRef .tc main_v6) : FVec Ideal S16x7x128x16x16 .f32)
    = (broadcastInDim S16x7x128x16x16 ![] bcast_S_S16x7x128x16x16 (constant S_ .f32 0x00000000#32 : FVec Ideal S_ .f32) : FVec Ideal S16x7x128x16x16 .f32) := by
  after_reads_simp

/-- The loop begins with the eight given items and seven zero ones, -/
theorem pre_6 (b : Fin 16) (i : Fin 15) (c : Fin 128) (y x : Fin 16)  :
    (StableHlo.after preOps X (Proc.devRef .tc main_v11_6) : FVec Ideal S16x15x128x16x16 .f32) (ix5 b i c y x)
      = if h : i.val < 8 then (X (Proc.devRef .tc main_arg0) : FVec Ideal S16x8x128x16x16 .f32) (ix5 b ⟨i.val, h⟩ c y x) else (0 : EReal) := by
  have h1 := pre_arg0 X
  have h2 := pre_v6 X
  after_reads_simp
  simp only [id_eq]
  rw [h1, h2]
  pointwise

/-- with the given ones active, -/
theorem pre_7 (b : Fin 16) (i : Fin 15) :
    (StableHlo.after preOps X (Proc.devRef .tc main_v11_7) : IVec S16x15 1) (ix2 b i) = if i.val < 8 then 1#1 else 0#1 := by
  have h : ∀ i : Fin 15, IntOp.cmpi .slt (BitVec.ofNat 32 i.val) 8#32 = if i.val < 8 then 1#1 else 0#1 := by decide
  after_reads_simp
  simp only [id_eq]
  pointwise
  exact h i

/-- with the mask of the later items, -/
theorem pre_0 (i j : Fin 15) :
    (StableHlo.after preOps X (Proc.devRef .tc main_v11_0) : IVec S15x15 1) (ix2 i j) = if j < i then 1#1 else 0#1 := by
  have h : ∀ i j : Fin 15, IntOp.cmpi .sgt (BitVec.ofNat 32 i.val) (BitVec.ofNat 32 j.val) = if j < i then 1#1 else 0#1 := by decide +kernel
  after_reads_simp
  simp only [id_eq]
  pointwise
  exact h i j

/-- with the items' numbers, -/
theorem pre_3 (i : Fin 15) :
    (StableHlo.after preOps X (Proc.devRef .tc main_v11_3) : IVec S15 32) (ix1 i) = BitVec.ofNat 32 i.val := by
  after_reads_simp
  simp only [id_eq]
  pointwise

/-- with no trip counted, -/
theorem pre_5 : (StableHlo.after preOps X (Proc.devRef .tc main_v11_5) : IVec S_ 32) ix0 = 0#32 := by
  after_reads_simp
  simp only [id_eq]
  pointwise

/-- with the filter, -/
theorem pre_1 : (StableHlo.after preOps X (Proc.devRef .tc main_v11_1) : FVec Ideal S1x2x7x7 .f32) = X (Proc.devRef .tc main_arg1) := by
  after_reads_simp
  rfl

/-- and with the bias. -/
theorem pre_2 : (StableHlo.after preOps X (Proc.devRef .tc main_v11_2) : FVec Ideal S1 .f32) = X (Proc.devRef .tc main_arg2) := by
  after_reads_simp
  rfl

/-- The result is the last item. -/
theorem post_13 (b : Fin 16) (c : Fin 128) (y x : Fin 16)  :
    (StableHlo.after postOps X (Proc.devRef .tc main_v13) : FVec Ideal S16x128x16x16 .f32) (ix4 b c y x)
      = (X (Proc.devRef .tc main_v11_6) : FVec Ideal S16x15x128x16x16 .f32) (ix5 b 14 c y x) := by
  after_reads_at

end Cert.ReferenceIdeal.Run

end
-- ==== Proof.RefStep.lean ====
module

public import proofs.«01_k».proof.Proof.RefRun
public import proofs.«01_k».proof.Proof.RefMath
public import proofs.«01_k».proof.Proof.RefArg
public import proofs.«01_k».proof.Proof.RefPair
public import proofs.«01_k».proof.Proof.RefConv

@[expose] public section

set_option maxRecDepth 16384

noncomputable section

/-! One trip of the reference's loop, in one batch row. -/

namespace Cert.ReferenceIdeal.Run

open Cert.ReferenceIdeal Cert.ReferenceIdeal.Gen Cert.Spec
open Idealize.ShloMosaic Idealize.ShloMosaic.TcCoe Idealize.SL.Sem Idealize.ShloMosaic.StableHlo

variable (X : Valuation τ sig (Elt Ideal))

/-- The item numbered `i` of a batch row. -/
def item (T : FVec Ideal S16x15x128x16x16 .f32) (b : Fin 16) (i : Fin 15) : Item := fun c q =>
  T (ix5 b i c ⟨q.val / 16, by omega⟩ ⟨q.val % 16, by omega⟩)

/-- An item at a pixel given by its two coordinates. -/
theorem item_pix (T : FVec Ideal S16x15x128x16x16 .f32) (b : Fin 16) (i : Fin 15) (c : Fin 128) (y x : Fin 16) :
    item T b i c (pix y x) = T (ix5 b i c y x) :=
  congrArg₂ (fun y x => T (ix5 b i c y x)) (Fin.ext (by simp only [pix]; omega)) (Fin.ext (by simp only [pix]; omega))

/-- A row of the flat items is an item. -/
theorem rows_item (T : FVec Ideal S16x15x128x16x16 .f32) (b : Fin 16) (i : Fin 15) (c : Fin 128) (q : Fin 256) :
    rows T (ix3 b i ⟨c.val * 256 + q.val, by omega⟩) = item T b i c q := rows_apply T b i c q

/-- The reference's squared distances are the distances of the items. -/
theorem dists_item (T : FVec Ideal S16x15x128x16x16 .f32) (b : Fin 16) (i j : Fin 15) :
    dists (rows T) (ix3 b i j) = dist (item T b i) (item T b j) := by
  rw [dists_apply, lens_apply, lens_apply, sum_rows, sum_rows, sum_rows]
  simp only [rows_item]
  rfl

/-- A trip's merge is the merge of the two items it takes. -/
theorem filtered_merge (l r : FVec Ideal S16x128x16x16 .f32) (pos : IVec S16x16x7x7x2 32) (w : FVec Ideal S1x2x7x7 .f32) (bias : FVec Ideal S1 .f32)
    (h0 : ∀ (y z : Fin 16) (k n : Fin 7), pos (ix5 y z k n 0) = BitVec.ofNat 32 (y.val + k.val))
    (h1 : ∀ (y z : Fin 16) (k n : Fin 7), pos (ix5 y z k n 1) = BitVec.ofNat 32 (z.val + n.val))
    (b : Fin 16) (u v : Item) (hu : ∀ c y x, l (ix4 b c y x) = u c (pix y x)) (hv : ∀ c y x, r (ix4 b c y x) = v c (pix y x))
    (c : Fin 128) (y x : Fin 16) :
    filtered (padded l r) pos w bias (ix4 b c y x) = merge (fun d k n => w (ix4 0 d k n)) (bias (ix1 0)) u v c (pix y x) := by
  rw [filtered_apply _ _ _ _ h0 h1, merge_eq]
  refine congrArg (· + (bias (ix1 0) : EReal)) (Finset.sum_congr rfl fun d _ => Finset.sum_congr rfl fun n _ => Finset.sum_congr rfl fun k _ => ?_)
  rw [padded_apply]
  refine congrArg (fun z : EReal => z * (w (ix4 0 d k n) : EReal)) (dite_congr rfl (fun h => ?_) fun _ => rfl)
  match d with
  | ⟨0, _⟩ => exact hu _ _ _
  | ⟨1, _⟩ => exact hv _ _ _

/-- What every trip finds: the mask of the later items, the items' numbers, and how many trips went before. -/
structure Found (k : ℕ) (w : FVec Ideal S1x2x7x7 .f32) (bias : FVec Ideal S1 .f32) : Prop where
  late : ∀ i j : Fin 15, (X (Proc.devRef .tc main_v11_0) : IVec S15x15 1) (ix2 i j) = if j < i then 1#1 else 0#1
  filter : X (Proc.devRef .tc main_v11_1) = w
  shift : X (Proc.devRef .tc main_v11_2) = bias
  number : ∀ i : Fin 15, (X (Proc.devRef .tc main_v11_3) : IVec S15 32) (ix1 i) = BitVec.ofNat 32 i.val
  count : (X (Proc.devRef .tc main_v11_5) : IVec S_ 32) ix0 = BitVec.ofNat 32 k

/-- A batch row holds the items and the activity of a state. -/
structure Holds (b : Fin 16) (s : St) : Prop where
  item : ∀ i : Fin 15, s.t i.val = item (X (Proc.devRef .tc main_v11_6)) b i
  act : ∀ i : Fin 15, (X (Proc.devRef .tc main_v11_7) : IVec S16x15 1) (ix2 b i) = 1#1 ↔ s.act i.val
  bound : ∀ i, s.act i → i < 15

/-- The bits of the mask. -/
theorem mask_bits (p q r : BitVec 1) (x y : EReal) (P Q R : Prop) [Decidable P] [Decidable Q] [Decidable R] (hp : p = 1#1 ↔ P) (hq : q = 1#1 ↔ Q) (hr : r = 1#1 ↔ R) :
    Scalar.select (IntOp.andi (IntOp.andi p q) r) x y = if P ∧ Q ∧ R then x else y := by
  have h : IntOp.andi (IntOp.andi p q) r = 1#1 ↔ p = 1#1 ∧ q = 1#1 ∧ r = 1#1 := by
    clear hp hq hr
    revert p q r; decide
  unfold Scalar.select
  rw [hp, hq, hr] at h
  by_cases hh : P ∧ Q ∧ R
  · rw [if_pos hh, h.mpr hh]; rfl
  · rw [if_neg hh]
    exact if_neg fun h' => hh (h.mp h')

variable {X} {k : ℕ} {w : FVec Ideal S1x2x7x7 .f32} {bias : FVec Ideal S1 .f32} {b : Fin 16} {s : St}

open Classical in
/-- The masked distances are the state's. -/
theorem flat_key (hX : Found X k w bias) (hs : Holds X b s) (i j : Fin 15) :
    flat (X (Proc.devRef .tc main_v11_0)) (X (Proc.devRef .tc main_v11_7)) (dists (rows (X (Proc.devRef .tc main_v11_6)))) (ix2 b ⟨i.val * 15 + j.val, by omega⟩)
      = key s i.val j.val := by
  rw [flat_apply, dists_item, ofBits_top, mask_bits _ _ _ _ _ (s.act i.val) (s.act j.val) (j < i) (hs.act i) (hs.act j) (by rw [hX.late]; split_ifs with h <;> simp [h])]
  unfold key
  rw [hs.item i, hs.item j]
  rfl

/-- The trip's flat number is the one the specification selects. -/
theorem argmin_sel (hX : Found X k w bias) (hs : Holds X b s) :
    ∃ q : Fin 225, (after argminOps (after distOps X) (Proc.devRef .tc main_while0b_v37) : IVec S16 32) (ix1 b) = BitVec.ofNat 32 q.val
      ∧ later s = q.val / 15 ∧ earlier s = q.val % 15 := by
  have hkeep : ∀ {b : Ref sig .tc}, Kept [distOps] b → after distOps X (Proc.devRef .tc b) = X (Proc.devRef .tc b) := fun h => afterL_kept h X
  rw [argmin_v37, dist_v26,
    hkeep (fun o ho => kept_steady (b := main_v11_0) (by decide) o (List.mem_cons_of_mem _ (List.mem_cons.mpr (Or.inl (List.mem_singleton.mp ho))))),
    hkeep (fun o ho => kept_carried (b := main_v11_7) (by decide) o (List.mem_cons_of_mem _ (List.mem_cons.mpr (Or.inl (List.mem_singleton.mp ho)))))]
  obtain ⟨q, hq, hmin, hfirst⟩ := least_spec (flat (X (Proc.devRef .tc main_v11_0)) (X (Proc.devRef .tc main_v11_7)) (dists (rows (X (Proc.devRef .tc main_v11_6))))) b
  have hdm : q = ⟨q.val / 15 * 15 + q.val % 15, by omega⟩ := Fin.ext (by dsimp only; omega)
  have hself : flat (X (Proc.devRef .tc main_v11_0)) (X (Proc.devRef .tc main_v11_7)) (dists (rows (X (Proc.devRef .tc main_v11_6)))) (ix2 b q)
      = key s (q.val / 15) (q.val % 15) := by
    conv_lhs => rw [hdm]
    exact flat_key hX hs ⟨q.val / 15, by omega⟩ ⟨q.val % 15, by omega⟩
  have hsel := sel_of_flat (key s) (fun i j => key s i.val j.val) q (fun _ _ => rfl)
    (fun r c h => if_neg fun h' => by have := hs.bound r h'.1; have := hs.bound c h'.2.1; omega)
    (fun i j => by rw [← hself, ← flat_key hX hs i j]; exact hmin _)
    (fun i j h => by rw [← hself, ← flat_key hX hs i j] at h; exact hfirst _ h)
  refine ⟨q, hq, ?_, ?_⟩
  · unfold later; rw [hsel]; omega
  · unfold earlier; rw [hsel]; omega

/-- What the middle stretches leave alone: the flat items, -/
theorem kept_15 : Kept [argminOps, pairOps] main_while0b_v15 := by
  intro ops h op hop
  fin_cases h <;> fin_cases hop <;> exact fun h => devRef_ne_of_ne (by decide) (Finset.mem_singleton.mp h)
/-- the pair's numbers, -/
theorem kept_pair {b : Ref sig .tc} (hb : b ∈ ([main_while0b_v38, main_while0b_v39] : List (Ref sig .tc))) : Kept [takeOps, stackOps, windowOps, convOps] b := by
  intro ops h op hop
  fin_cases h <;> fin_cases hop <;>
    exact fun h => devRef_ne_of_ne (fun e => absurd (e ▸ hb) (by decide)) (Finset.mem_singleton.mp h)
/-- the bordered stack, -/
theorem kept_50 : Kept [windowOps] main_while0b_v50 := by
  intro ops h op hop
  fin_cases h
  fin_cases hop <;> exact fun h => devRef_ne_of_ne (by decide) (Finset.mem_singleton.mp h)
/-- and the second counter's next value. -/
theorem kept_14 : Kept [argminOps, pairOps, takeOps, stackOps, windowOps, convOps] main_while0b_v14 := by
  intro ops h op hop
  fin_cases h <;> fin_cases hop <;> exact fun h => devRef_ne_of_ne (by decide) (Finset.mem_singleton.mp h)

/-- Up to its last stretch a trip changes neither the carried values nor the steady ones. -/
theorem before_store {r : Ref sig .tc} (hr : r ∈ steady ++ [main_v11_4, main_v11_5, main_v11_6, main_v11_7]) :
    afterL [distOps, argminOps, pairOps, takeOps, stackOps, windowOps, convOps] X (Proc.devRef .tc r) = X (Proc.devRef .tc r) := by
  rcases List.mem_append.mp hr with h | h
  · exact afterL_kept (fun o ho => kept_steady h o (List.mem_cons_of_mem _ (List.mem_append_left [storeOps] ho))) X
  · exact afterL_kept (fun o ho => kept_carried h o (List.mem_cons_of_mem _ ho)) X

/-- The condition changes none of them. -/
theorem past_cond {r : Ref sig .tc} (hr : r ∈ steady ++ [main_v11_4, main_v11_5, main_v11_6, main_v11_7]) :
    after condOps X (Proc.devRef .tc r) = X (Proc.devRef .tc r) := by
  rcases List.mem_append.mp hr with h | h
  · exact after_of_forall_not_mem _ _ (kept_steady h _ List.mem_cons_self)
  · exact after_of_forall_not_mem _ _ (kept_carried h _ List.mem_cons_self)

/-- A whole trip changes none of the steady ones. -/
theorem past_trip {r : Ref sig .tc} (hr : r ∈ steady) : afterL bodyI X (Proc.devRef .tc r) = X (Proc.devRef .tc r) :=
  afterL_kept (fun o ho => kept_steady hr o (List.mem_cons_of_mem _ ho)) X

/-- The condition changes nothing a trip finds, -/
theorem Found.cond (hX : Found X k w bias) : Found (after condOps X) k w bias where
  late := by rw [past_cond (by decide)]; exact hX.late
  filter := by rw [past_cond (by decide)]; exact hX.filter
  shift := by rw [past_cond (by decide)]; exact hX.shift
  number := by rw [past_cond (by decide)]; exact hX.number
  count := by rw [past_cond (by decide)]; exact hX.count

/-- nor what a batch row holds. -/
theorem Holds.cond (hs : Holds X b s) : Holds (after condOps X) b s where
  item := by rw [past_cond (by decide)]; exact hs.item
  act := by rw [past_cond (by decide)]; exact hs.act
  bound := hs.bound

/-- The next trip finds one trip more before it. -/
theorem Found.trip (hX : Found X k w bias) : Found (afterL bodyI X) (k + 1) w bias where
  late := by rw [past_trip (by decide)]; exact hX.late
  filter := by rw [past_trip (by decide)]; exact hX.filter
  shift := by rw [past_trip (by decide)]; exact hX.shift
  number := by rw [past_trip (by decide)]; exact hX.number
  count := by
    show (after storeOps (afterL [argminOps, pairOps, takeOps, stackOps, windowOps, convOps] (after distOps X)) (Proc.devRef .tc main_v11_5) : IVec S_ 32) ix0 = _
    rw [store_5, afterL_kept kept_14, dist_14, hX.count]
    exact (BitVec.ofNat_add k 1).symm

/-- The bits a trip stores for an item: it is the new one, or was active and is neither of the pair. -/
theorem stored_bits (a : BitVec 1) (P Q R : Prop) [Decidable P] [Decidable Q] [Decidable R] (p q r : BitVec 1)
    (hp : p = if P then 1#1 else 0#1) (hq : q = if Q then 1#1 else 0#1) (hr : r = if R then 1#1 else 0#1) :
    IntOp.ori (IntOp.andi a (~~~ IntOp.ori p q)) r = 1#1 ↔ R ∨ (a = 1#1 ∧ ¬Q ∧ ¬P) := by
  subst hp hq hr
  have h : a = 0#1 ∨ a = 1#1 := by revert a; decide
  rcases h with rfl | rfl <;> split_ifs <;> simp_all <;> decide

/-- Equality of small numbers by the compare. -/
theorem eq_bits : ∀ i j : Fin 15, IntOp.cmpi .eq (BitVec.ofNat 32 i.val) (BitVec.ofNat 32 j.val) = if i.val = j.val then 1#1 else 0#1 := by
  decide +kernel

/-- Equality with the number of the item a trip appends, by the compare. -/
theorem new_bits : ∀ (i : Fin 15) (k : Fin 7), IntOp.cmpi .eq (BitVec.ofNat 32 i.val) (IntOp.addi 8#32 (BitVec.ofNat 32 k.val)) = if i.val = 8 + k.val then 1#1 else 0#1 := by
  decide +kernel

/-- A trip takes the rounds' state one round on. -/
theorem Holds.trip (hX : Found X k w bias) (hk : k < 7) (hs : Holds X b s) :
    Holds (afterL bodyI X) b (step (fun d k n => w (ix4 0 d k n)) (bias (ix1 0)) (8 + k) s) := by
  obtain ⟨q, hq, hl, he⟩ := argmin_sel hX hs
  have h38 := pair_38 (after argminOps (after distOps X)) b q.val q.isLt hq
  have h39 := pair_39 (after argminOps (after distOps X)) b q.val q.isLt hq
  have h15 : after pairOps (after argminOps (after distOps X)) (Proc.devRef .tc main_while0b_v15) = rows (X (Proc.devRef .tc main_v11_6)) :=
    (afterL_kept kept_15 (after distOps X)).trans (dist_v15 X)
  generalize hZ3 : after pairOps (after argminOps (after distOps X)) = Z3 at h38 h39 h15
  have hi : q.val / 15 < 15 := by omega
  have hj : q.val % 15 < 15 := by omega
  have h42 : ∀ c y x, (after takeOps Z3 (Proc.devRef .tc main_while0b_v42) : FVec Ideal S16x128x16x16 .f32) (ix4 b c y x) = s.t (earlier s) c (pix y x) := fun c y x => by
    rw [take_42, h15, taken_apply _ _ b ⟨q.val % 15, hj⟩ h39, rows_item, he]
    exact (congrFun (congrFun (hs.item ⟨q.val % 15, hj⟩) c) (pix y x)).symm
  have h45 : ∀ c y x, (after takeOps Z3 (Proc.devRef .tc main_while0b_v45) : FVec Ideal S16x128x16x16 .f32) (ix4 b c y x) = s.t (later s) c (pix y x) := fun c y x => by
    rw [take_45, h15, taken_apply _ _ b ⟨q.val / 15, hi⟩ h38, rows_item, hl]
    exact (congrFun (congrFun (hs.item ⟨q.val / 15, hi⟩) c) (pix y x)).symm
  have hZ7 : afterL [distOps, argminOps, pairOps, takeOps, stackOps, windowOps, convOps] X = after convOps (after windowOps (after stackOps (after takeOps Z3))) := by
    rw [← hZ3]; rfl
  have hZ7' : afterL bodyI X = after storeOps (afterL [distOps, argminOps, pairOps, takeOps, stackOps, windowOps, convOps] X) := rfl
  have h86 : ∀ c y x, (afterL [distOps, argminOps, pairOps, takeOps, stackOps, windowOps, convOps] X (Proc.devRef .tc main_while0b_v86) : FVec Ideal S16x128x16x16 .f32) (ix4 b c y x)
      = merge (fun d k n => w (ix4 0 d k n)) (bias (ix1 0)) (s.t (earlier s)) (s.t (later s)) c (pix y x) := fun c y x => by
    have hw : after windowOps (after stackOps (after takeOps Z3)) (Proc.devRef .tc main_v11_1) = w := by
      rw [← hZ3]
      exact (afterL_kept (fun o ho => kept_steady (b := main_v11_1) (by decide) o (List.mem_cons_of_mem _ (List.mem_append_left [convOps, storeOps] ho))) X
        (opss := [distOps, argminOps, pairOps, takeOps, stackOps, windowOps])).trans hX.filter
    have hb : after windowOps (after stackOps (after takeOps Z3)) (Proc.devRef .tc main_v11_2) = bias := by
      rw [← hZ3]
      exact (afterL_kept (fun o ho => kept_steady (b := main_v11_2) (by decide) o (List.mem_cons_of_mem _ (List.mem_append_left [convOps, storeOps] ho))) X
        (opss := [distOps, argminOps, pairOps, takeOps, stackOps, windowOps])).trans hX.shift
    have h50 : after windowOps (after stackOps (after takeOps Z3)) (Proc.devRef .tc main_while0b_v50)
        = padded (after takeOps Z3 (Proc.devRef .tc main_while0b_v42)) (after takeOps Z3 (Proc.devRef .tc main_while0b_v45)) :=
      (afterL_kept kept_50 (after stackOps (after takeOps Z3))).trans (stack_50 _)
    rw [hZ7, conv_86, h50, hw, hb]
    exact filtered_merge _ _ _ _ _ (window_0 _) (window_1 _) b _ _ h42 h45 c y x
  have hn38 : (afterL [distOps, argminOps, pairOps, takeOps, stackOps, windowOps, convOps] X (Proc.devRef .tc main_while0b_v38) : IVec S16 32) (ix1 b) = BitVec.ofNat 32 (q.val / 15) := by
    rw [← h38, hZ7]
    exact congrFun (afterL_kept (kept_pair (b := main_while0b_v38) (by decide)) Z3) (ix1 b)
  have hn39 : (afterL [distOps, argminOps, pairOps, takeOps, stackOps, windowOps, convOps] X (Proc.devRef .tc main_while0b_v39) : IVec S16 32) (ix1 b) = BitVec.ofNat 32 (q.val % 15) := by
    rw [← h39, hZ7]
    exact congrFun (afterL_kept (kept_pair (b := main_while0b_v39) (by decide)) Z3) (ix1 b)
  constructor
  · intro i
    funext c p
    have hp : p = pix ⟨p.val / 16, by omega⟩ ⟨p.val % 16, by omega⟩ := Fin.ext (by simp only [pix]; omega)
    rw [hp, item_pix, hZ7', store_6, h86, before_store (by decide), before_store (by decide), before_store (by decide), hX.number, hX.count, new_bits i ⟨k, hk⟩]
    by_cases h : i.val = 8 + k
    · rw [if_pos h, h, step_t_self]
      rfl
    · rw [if_neg h, step_t_of_ne _ _ _ _ h, hs.item i, item_pix]
      rfl
  · intro i
    rw [hZ7', store_7, hn38, hn39, before_store (by decide), before_store (by decide), before_store (by decide), hX.number, hX.count,
      stored_bits _ _ _ _ _ _ _ (eq_bits i ⟨q.val % 15, hj⟩) (eq_bits i ⟨q.val / 15, hi⟩) (new_bits i ⟨k, hk⟩), hs.act i]
    show _ ↔ i.val = 8 + k ∨ (s.act i.val ∧ i.val ≠ later s ∧ i.val ≠ earlier s)
    rw [hl, he]
  · rintro i (h | ⟨h, -⟩)
    · omega
    · exact hs.bound i h

end Cert.ReferenceIdeal.Run

end
-- ==== Proof.RefValue.lean ====
module

public import proofs.«01_k».proof.Proof.Answer
public import proofs.«01_k».proof.Proof.RefStep

@[expose] public section

set_option maxRecDepth 16384

noncomputable section

/-! The reference's result: the agglomeration of every batch row. -/

namespace Cert.ReferenceIdeal.Run

open Cert.ReferenceIdeal Cert.ReferenceIdeal.Gen Cert.Spec
open Idealize.ShloMosaic Idealize.ShloMosaic.TcCoe Idealize.SL.Sem Idealize.ShloMosaic.StableHlo

variable (m : (ℓ : Loc nD τ sig) → Buf (Elt Ideal) ℓ) (c : Dev nD)

/-- The arguments: the items, -/
abbrev argX : FVec Ideal S16x8x128x16x16 .f32 := m (c.tc.loc main_arg0)
/-- the filter, -/
abbrev argW : FVec Ideal S1x2x7x7 .f32 := m (c.tc.loc main_arg1)
/-- and the bias. -/
abbrev argB : FVec Ideal S1 .f32 := m (c.tc.loc main_arg2)

/-- What each trip finds. -/
theorem trip_found (k : ℕ) : Found (trip m c k) k (argW m c) (argB m c) := by
  induction k with
  | zero =>
    exact ⟨pre_0 (launchContents m c), pre_1 (launchContents m c), pre_2 (launchContents m c), pre_3 (launchContents m c), pre_5 (launchContents m c)⟩
  | succ k ih =>
    rw [trip, atTrip_succ]
    exact ih.cond.trip

/-- Before trip `k` every batch row holds the state before round `k`. -/
theorem trip_holds (b : Fin 16) (k : ℕ) (hk : k ≤ 7) :
    Holds (trip m c k) b (state (fun d k n => argW m c (ix4 0 d k n)) (argB m c (ix1 0)) (items (argX m c) b) k) := by
  induction k with
  | zero =>
    constructor
    · intro i
      funext ch q
      exact (pre_6 (launchContents m c) b i ch ⟨q.val / 16, by omega⟩ ⟨q.val % 16, by omega⟩).symm
    · intro i
      show (after preOps (launchContents m c) (Proc.devRef .tc main_v11_7) : IVec S16x15 1) (ix2 b i) = 1#1 ↔ i.val < 8
      rw [pre_7]
      split_ifs with h
      · exact ⟨fun _ => h, fun _ => rfl⟩
      · exact ⟨fun e => absurd e (by decide : (0#1 : BitVec 1) ≠ 1#1), fun e => absurd e h⟩
    · intro i h
      exact lt_of_lt_of_le (show i < 8 from h) (by decide)
  | succ k ih =>
    rw [trip, atTrip_succ]
    exact (ih (by omega)).cond.trip (trip_found m c k).cond (by omega)

/-- The result, element by element. -/
theorem final_13 (b : Fin 16) (ch : Fin 128) (y x : Fin 16) :
    (finalContents condOps [preOps] bodyI [postOps] 7 m c (Proc.devRef .tc main_v13) : FVec Ideal S16x128x16x16 .f32) (ix4 b ch y x)
      = answer (argX m c) (argW m c) (argB m c) b ch (pix y x) := by
  refine (post_13 _ b ch y x).trans ?_
  refine (item_pix _ b 14 ch y x).symm.trans ?_
  exact (congrFun (congrFun ((trip_holds m c b 7 le_rfl).cond.item 14) ch) (pix y x)).symm

end Cert.ReferenceIdeal.Run

end
-- ==== Proof.lean ====
module

public import proofs.«01_k».proof.Defs
public import proofs.«01_k».proof.Proof.Result
public import proofs.«01_k».proof.Proof.RefValue

@[expose] public section

/-! The claims: both programs run with their arguments unchanged and end quiescent, and their results agree. -/

namespace Cert.Proof

open Idealize.ShloMosaic Idealize.SL.Sem

/-- Both results are the agglomeration of the same items with the same filter and bias, so they agree. -/
theorem agree : algebraic_KernelIdeal_ReferenceIdeal := by
  intro m g m' g' _ hm
  refine ⟨fun c j => Cert.Spec.answer (Cert.KernelIdeal.Run.argX m c) (Cert.KernelIdeal.Run.argW m c) (Cert.KernelIdeal.Run.argB m c)
    (j 0) (j 1) (Cert.Spec.pix (j 2) (j 3)), ?_, ?_⟩
  · refine (θ_run _ _ _).mono (fun r h c => ⟨?_, h.2.1 c⟩) (θ_run_and (Cert.KernelIdeal.Run.run_main m g) (Cert.KernelIdeal.Run.frame_kernel m g))
    rw [(h.1 c).2 Cert.KernelIdeal.main_v66 (Pipeline.mem_restRefs_of Cert.KernelIdeal.main_v66 (by decide) (by decide))]
    funext j
    have e : j = ix4 (j 0) (j 1) (j 2) (j 3) := funext fun a => by fin_cases a <;> rfl
    rw [e]
    exact Cert.KernelIdeal.Run.tail_66 m c _ _ _ _
  · refine (θ_run _ _ _).mono (fun r h c => ⟨?_, h.2.1 c⟩) (θ_run_and (Cert.ReferenceIdeal.Run.run_main m' g') (Cert.ReferenceIdeal.Run.frame_reference m' g'))
    rw [h.1 c Cert.ReferenceIdeal.main_v13 rfl]
    funext j
    have e : j = ix4 (j 0) (j 1) (j 2) (j 3) := funext fun a => by fin_cases a <;> rfl
    rw [e]
    refine (Cert.ReferenceIdeal.Run.final_13 m' c _ _ _ _).trans ?_
    obtain ⟨h0, h1, h2⟩ := hm c
    unfold Cert.ReferenceIdeal.Run.argX Cert.ReferenceIdeal.Run.argW Cert.ReferenceIdeal.Run.argB
    rw [h0, h1, h2]
    rfl

/-- What is claimed. -/
theorem claim : Cert.Claim := ⟨Cert.KernelIdeal.Gen.facts, Cert.ReferenceIdeal.Gen.facts,
  fun m g _ => Cert.KernelIdeal.Run.frame_kernel m g, fun m g _ => Cert.ReferenceIdeal.Run.frame_reference m g, agree⟩

end Cert.Proof

end
